-- ==== Defs.lean ====
def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Reference0Ideal (m : (ℓ : Loc Cert.Reference0Ideal.nD Cert.Reference0Ideal.τ Cert.Reference0Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel0_Kernel0Ideal : Prop :=
  True

def algebraic_Kernel0Ideal_Reference0Ideal [hKernel0Ideal : Cert.Kernel0Ideal.Facts] [hReference0Ideal : Cert.Reference0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)) →
    ∃ (v0 : (c : Dev Cert.Kernel0Ideal.nD) → Buf (Elt Ideal) ((c.tc : Thread Cert.Kernel0Ideal.nD Cert.Kernel0Ideal.τ).loc Cert.Kernel0Ideal.main_v3_0)) (v1 : (c : Dev Cert.Kernel0Ideal.nD) → Buf (Elt Ideal) ((c.tc : Thread Cert.Kernel0Ideal.nD Cert.Kernel0Ideal.τ).loc Cert.Kernel0Ideal.main_v3_1)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v3_0) = v0 c
          ∧ r.2.mem ((c.tc : Thread Cert.Kernel0Ideal.nD Cert.Kernel0Ideal.τ).loc Cert.Kernel0Ideal.main_v3_1) = v1 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v27) = v0 c
          ∧ r.2.mem ((c.tc : Thread Cert.Reference0Ideal.nD Cert.Reference0Ideal.τ).loc Cert.Reference0Ideal.main_v29) = v1 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2))

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel0 : Cert.Kernel0.Facts) (hKernel0Ideal : Cert.Kernel0Ideal.Facts) (hReference0Ideal : Cert.Reference0Ideal.Facts) (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel0 (hKernel0 := hKernel0)
    ∧ quiescent_Kernel0Ideal (hKernel0Ideal := hKernel0Ideal)
    ∧ quiescent_Reference0Ideal (hReference0Ideal := hReference0Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel0_Kernel0Ideal
    ∧ algebraic_Kernel0Ideal_Reference0Ideal (hKernel0Ideal := hKernel0Ideal) (hReference0Ideal := hReference0Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x4096x2304 : Shape := ⟨3, ![8, 4096, 2304]⟩
abbrev S1x8 : Shape := ⟨2, ![1, 8]⟩
abbrev S1x8x257 : Shape := ⟨3, ![1, 8, 257]⟩
abbrev S1x512 : Shape := ⟨2, ![1, 512]⟩
abbrev S_ : Shape := ⟨0, ![]⟩

class Facts : Prop where
  bcast_S_S8x4096x2304 : S_.BroadcastsInDim S8x4096x2304 (![] : Fin 0 → Fin S8x4096x2304.rank)
  bcast_S_S1x8 : S_.BroadcastsInDim S1x8 (![] : Fin 0 → Fin S1x8.rank)
  bcast_S_S1x8x257 : S_.BroadcastsInDim S1x8x257 (![] : Fin 0 → Fin S1x8x257.rank)

variable [Facts]

def fn {F : FTy → Type} [FloatOps F] (main_arg0 : FVec F S8x4096x2304 .f32) (main_arg1 : FVec F S1x8 .f32) (main_arg2 : FVec F S1x8x257 .f32) (main_arg3 : FVec F S1x512 .f32) (main_arg4 : FVec F S1x512 .f32) : IVec S8x4096x2304 1 × IVec S1x8 1 × IVec S1x8x257 1 :=
  let main_v0 : FVec F S8x4096x2304 .f32 := Host.absf main_arg0
  let main_cst : FVec F S_ .f32 := constant S_ .f32 0x7F800000#32
  let main_v1 : FVec F S8x4096x2304 .f32 := broadcastInDim S8x4096x2304 ![] bcast_S_S8x4096x2304 main_cst
  let main_v2 : IVec S8x4096x2304 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  let main_v6 : FVec F S1x8x257 .f32 := Host.absf main_arg2
  let main_cst_1 : FVec F S_ .f32 := constant S_ .f32 0x7F800000#32
  let main_v7 : FVec F S1x8x257 .f32 := broadcastInDim S1x8x257 ![] bcast_S_S1x8x257 main_cst_1
  let main_v8 : IVec S1x8x257 1 := cmpf .olt main_v6 main_v7
  (main_v2, main_v5, main_v8)
-- ==== Kernel0.lean ====
abbrev S8x4096x1024 : Shape := ⟨3, ![8, 4096, 1024]⟩
abbrev S1x1024 : Shape := ⟨2, ![1, 1024]⟩
abbrev S1x1024x2304 : Shape := ⟨3, ![1, 1024, 2304]⟩
abbrev S1024 : Shape := ⟨1, ![1024]⟩
abbrev S1024x2304 : Shape := ⟨2, ![1024, 2304]⟩
abbrev S8x4096x512 : Shape := ⟨3, ![8, 4096, 512]⟩
abbrev S8x1792x4096 : Shape := ⟨3, ![8, 1792, 4096]⟩
abbrev S1x1024x1024 : Shape := ⟨3, ![1, 1024, 1024]⟩
abbrev S1x1024x512 : Shape := ⟨3, ![1, 1024, 512]⟩
abbrev S1x1792x1024 : Shape := ⟨3, ![1, 1792, 1024]⟩
abbrev S1024x512 : Shape := ⟨2, ![1024, 512]⟩
abbrev S1792x1024 : Shape := ⟨2, ![1792, 1024]⟩
abbrev S512x1024 : Shape := ⟨2, ![512, 1024]⟩
abbrev S1024x256 : Shape := ⟨2, ![1024, 256]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S1792x512 : Shape := ⟨2, ![1792, 512]⟩
abbrev S1x1792x512 : Shape := ⟨3, ![1, 1792, 512]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2304, .f32⟩
  | .hbm, ⟨3, _⟩ => ⟨S1024, .f32⟩
  | .hbm, ⟨4, _⟩ => ⟨S1x1024, .f32⟩
  | .hbm, ⟨5, _⟩ => ⟨S1024x2304, .f32⟩
  | .hbm, ⟨6, _⟩ => ⟨S8x4096x512, .bf16⟩
  | .hbm, ⟨7, _⟩ => ⟨S8x1792x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2304, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S1024x512, .bf16⟩
  | .local _ .vmem, ⟨9, _⟩ => ⟨S1792x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference0Ideal.lean ====
abbrev S8x4096x1024 : Shape := ⟨3, ![8, 4096, 1024]⟩
abbrev S1x1024 : Shape := ⟨2, ![1, 1024]⟩
abbrev S1x1024x2304 : Shape := ⟨3, ![1, 1024, 2304]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2304 : Shape := ⟨2, ![1024, 2304]⟩
abbrev S8x4096x2304 : Shape := ⟨3, ![8, 4096, 2304]⟩
abbrev S8x4096x512 : Shape := ⟨3, ![8, 4096, 512]⟩
abbrev S8x4096x128 : Shape := ⟨3, ![8, 4096, 128]⟩
abbrev S8x4096x1792 : Shape := ⟨3, ![8, 4096, 1792]⟩
abbrev S8x1792x4096 : Shape := ⟨3, ![8, 1792, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2304, .f32⟩
  | .hbm, ⟨3, _⟩ => ⟨S1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x2304, .f32⟩
  | .hbm, ⟨21, _⟩ => ⟨S8x4096x2304, .f32⟩
  | .hbm, ⟨22, _⟩ => ⟨S8x4096x512, .f32⟩
  | .hbm, ⟨23, _⟩ => ⟨S8x4096x128, .f32⟩
  | .hbm, ⟨24, _⟩ => ⟨S8x4096x128, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S_, .f32⟩
  | .hbm, ⟨29, _⟩ => ⟨S8x4096x512, .f32⟩
  | .hbm, ⟨30, _⟩ => ⟨S8x4096x512, .f32⟩
  | .hbm, ⟨31, _⟩ => ⟨S_, .f32⟩
  | .hbm, ⟨32, _⟩ => ⟨S8x4096x512, .f32⟩
  | .hbm, ⟨33, _⟩ => ⟨S8x4096x512, .f32⟩
  | .hbm, ⟨34, _⟩ => ⟨S8x4096x1792, .f32⟩
  | .hbm, ⟨35, _⟩ => ⟨S8x4096x512, .bf16⟩
  | .hbm, ⟨36, _⟩ => ⟨S8x1792x4096, .f32⟩
  | .hbm, ⟨37, _⟩ => ⟨S8x1792x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel.lean ====
abbrev S8x4096x2304 : Shape := ⟨3, ![8, 4096, 2304]⟩
abbrev S1x8 : Shape := ⟨2, ![1, 8]⟩
abbrev S1x8x257 : Shape := ⟨3, ![1, 8, 257]⟩
abbrev S1x512 : Shape := ⟨2, ![1, 512]⟩
abbrev S8x4096x512 : Shape := ⟨3, ![8, 4096, 512]⟩
abbrev S_ : Shape := ⟨0, ![]⟩
abbrev S8x4096x256 : Shape := ⟨3, ![8, 4096, 256]⟩
abbrev S8x4096x1792 : Shape := ⟨3, ![8, 4096, 1792]⟩
abbrev S8x1792x4096 : Shape := ⟨3, ![8, 1792, 4096]⟩
abbrev S8 : Shape := ⟨1, ![8]⟩
abbrev S256 : Shape := ⟨1, ![256]⟩
abbrev S256x1 : Shape := ⟨2, ![256, 1]⟩
abbrev S128 : Shape := ⟨1, ![128]⟩
abbrev S1x128 : Shape := ⟨2, ![1, 128]⟩
abbrev S256x128 : Shape := ⟨2, ![256, 128]⟩
abbrev S8x1x1 : Shape := ⟨3, ![8, 1, 1]⟩
abbrev S1x256x128 : Shape := ⟨3, ![1, 256, 128]⟩
abbrev S8x256x128 : Shape := ⟨3, ![8, 256, 128]⟩
abbrev S2x4x256x128 : Shape := ⟨4, ![2, 4, 256, 128]⟩
abbrev S2x256x4x128 : Shape := ⟨4, ![2, 256, 4, 128]⟩
abbrev S2x256x512 : Shape := ⟨3, ![2, 256, 512]⟩
abbrev S2x1x4x1 : Shape := ⟨4, ![2, 1, 4, 1]⟩
abbrev S2x1x4x128 : Shape := ⟨4, ![2, 1, 4, 128]⟩
abbrev S2x1x512 : Shape := ⟨3, ![2, 1, 512]⟩
abbrev S8x257 : Shape := ⟨2, ![8, 257]⟩
abbrev S8x256 : Shape := ⟨2, ![8, 256]⟩
abbrev S1x8x1x256 : Shape := ⟨4, ![1, 8, 1, 256]⟩
abbrev S1x8x128x256 : Shape := ⟨4, ![1, 8, 128, 256]⟩
abbrev S8x32768 : Shape := ⟨2, ![8, 32768]⟩
abbrev S8x32640 : Shape := ⟨2, ![8, 32640]⟩
abbrev S8x128x255 : Shape := ⟨3, ![8, 128, 255]⟩
abbrev S8x128x128 : Shape := ⟨3, ![8, 128, 128]⟩
abbrev S8x1 : Shape := ⟨2, ![8, 1]⟩
abbrev S8x128x256 : Shape := ⟨3, ![8, 128, 256]⟩
abbrev S8x768x256 : Shape := ⟨3, ![8, 768, 256]⟩
abbrev S768 : Shape := ⟨1, ![768]⟩
abbrev S768x1 : Shape := ⟨2, ![768, 1]⟩
abbrev S1x256 : Shape := ⟨2, ![1, 256]⟩
abbrev S768x256 : Shape := ⟨2, ![768, 256]⟩
abbrev S1x768x256 : Shape := ⟨3, ![1, 768, 256]⟩
abbrev S512 : Shape := ⟨1, ![512]⟩
abbrev S512x1 : Shape := ⟨2, ![512, 1]⟩
abbrev S512x128 : Shape := ⟨2, ![512, 128]⟩
abbrev S512x256 : Shape := ⟨2, ![512, 256]⟩
abbrev S8x1024x4096 : Shape := ⟨3, ![8, 1024, 4096]⟩
abbrev S1x1792x512 : Shape := ⟨3, ![1, 1792, 512]⟩
abbrev S1x512x512 : Shape := ⟨3, ![1, 512, 512]⟩
abbrev S1x1024x512 : Shape := ⟨3, ![1, 1024, 512]⟩
abbrev S512x512 : Shape := ⟨2, ![512, 512]⟩
abbrev S64x256 : Shape := ⟨2, ![64, 256]⟩
abbrev S16x256 : Shape := ⟨2, ![16, 256]⟩
abbrev S64x128 : Shape := ⟨2, ![64, 128]⟩
abbrev S8x128 : Shape := ⟨2, ![8, 128]⟩
abbrev S1x64x256 : Shape := ⟨3, ![1, 64, 256]⟩
abbrev S128x256 : Shape := ⟨2, ![128, 256]⟩
abbrev S256x256 : Shape := ⟨2, ![256, 256]⟩
abbrev S128x128 : Shape := ⟨2, ![128, 128]⟩
abbrev S1x128x128 : Shape := ⟨3, ![1, 128, 128]⟩
abbrev S80x256 : Shape := ⟨2, ![80, 256]⟩
abbrev S72x256 : Shape := ⟨2, ![72, 256]⟩
abbrev S8x8x256 : Shape := ⟨3, ![8, 8, 256]⟩
abbrev S1x64x128 : Shape := ⟨3, ![1, 64, 128]⟩
abbrev S128x512 : Shape := ⟨2, ![128, 512]⟩
abbrev S256x512 : Shape := ⟨2, ![256, 512]⟩
abbrev S1x256x512 : Shape := ⟨3, ![1, 256, 512]⟩
abbrev S1x1x512 : Shape := ⟨3, ![1, 1, 512]⟩
abbrev S1x256x256 : Shape := ⟨3, ![1, 256, 256]⟩
abbrev S1x512x256 : Shape := ⟨3, ![1, 512, 256]⟩
abbrev S80x512 : Shape := ⟨2, ![80, 512]⟩
abbrev S64x512 : Shape := ⟨2, ![64, 512]⟩
abbrev S8x8x128 : Shape := ⟨3, ![8, 8, 128]⟩
abbrev S1x512x128 : Shape := ⟨3, ![1, 512, 128]⟩

abbrev nBuf : Space → Nat
  | .hbm => 255
  | .vmem => 19
  | .smem => 0
  | _ => 0

abbrev hbmTy0_0 (i : Nat) : BufTy := match i % 128 with
  | 0 => ⟨S8x4096x2304, .f32⟩
  | 1 => ⟨S1x8, .f32⟩
  | 2 => ⟨S1x8x257, .f32⟩
  | 3 => ⟨S1x512, .f32⟩
  | 4 => ⟨S1x512, .f32⟩
  | 5 => ⟨S8x4096x512, .f32⟩
  | 6 => ⟨S8x4096x512, .bf16⟩
  | 7 => ⟨S8x4096x512, .f32⟩
  | 8 => ⟨S_, .f32⟩
  | 9 => ⟨S8x4096x512, .f32⟩
  | 10 => ⟨S8x4096x512, .f32⟩
  | 11 => ⟨S8x4096x512, .f32⟩
  | 12 => ⟨S_, .f32⟩
  | 13 => ⟨S8x4096x512, .f32⟩
  | 14 => ⟨S8x4096x512, .f32⟩
  | 15 => ⟨S8x4096x512, .f32⟩
  | 16 => ⟨S8x4096x256, .f32⟩
  | 17 => ⟨S8x4096x1792, .f32⟩
  | 18 => ⟨S8x1792x4096, .f32⟩
  | 19 => ⟨S8x1792x4096, .bf16⟩
  | 20 => ⟨S8, .f32⟩
  | 21 => ⟨S256, .i32⟩
  | 22 => ⟨S256x1, .i32⟩
  | 23 => ⟨S128, .i32⟩
  | 24 => ⟨S1x128, .i32⟩
  | 25 => ⟨S_, .i32⟩
  | 26 => ⟨S1x128, .i32⟩
  | 27 => ⟨S1x128, .i32⟩
  | 28 => ⟨S256x128, .i32⟩
  | 29 => ⟨S256x128, .i32⟩
  | 30 => ⟨S256x128, .i32⟩
  | 31 => ⟨S256x128, .i32⟩
  | 32 => ⟨S256x128, .f32⟩
  | 33 => ⟨S_, .i32⟩
  | 34 => ⟨S1x128, .i32⟩
  | 35 => ⟨S1x128, .i32⟩
  | 36 => ⟨S_, .i32⟩
  | 37 => ⟨S256x1, .i32⟩
  | 38 => ⟨S256x1, .i32⟩
  | 39 => ⟨S256x128, .i32⟩
  | 40 => ⟨S256x128, .i32⟩
  | 41 => ⟨S256x128, .i1⟩
  | 42 => ⟨S_, .i32⟩
  | 43 => ⟨S1x128, .i32⟩
  | 44 => ⟨S1x128, .i32⟩
  | 45 => ⟨S_, .i32⟩
  | 46 => ⟨S1x128, .i32⟩
  | 47 => ⟨S1x128, .i32⟩
  | 48 => ⟨S256x128, .i32⟩
  | 49 => ⟨S256x128, .i32⟩
  | 50 => ⟨S256x128, .i1⟩
  | 51 => ⟨S256x128, .i1⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S8x1x1, .f32⟩
  | 67 => ⟨S8x1x1, .f32⟩
  | 68 => ⟨S1x256x128, .f32⟩
  | 69 => ⟨S8x256x128, .f32⟩
  | 70 => ⟨S8x256x128, .f32⟩
  | 71 => ⟨S8x256x128, .f32⟩
  | 72 => ⟨S1x256x128, .i1⟩
  | 73 => ⟨S_, .f32⟩
  | 74 => ⟨S_, .f32⟩
  | 75 => ⟨S8x256x128, .i1⟩
  | 76 => ⟨S8x256x128, .f32⟩
  | 77 => ⟨S8x256x128, .f32⟩
  | 78 => ⟨S2x4x256x128, .f32⟩
  | 79 => ⟨S2x256x4x128, .f32⟩
  | 80 => ⟨S2x256x512, .f32⟩
  | 81 => ⟨S2x1x4x1, .f32⟩
  | 82 => ⟨S2x1x4x128, .f32⟩
  | 83 => ⟨S2x1x512, .f32⟩
  | 84 => ⟨S8x257, .f32⟩
  | 85 => ⟨S256, .i32⟩
  | 86 => ⟨S_, .i32⟩
  | 87 => ⟨S256, .i32⟩
  | 88 => ⟨S256, .i1⟩
  | 89 => ⟨S_, .i32⟩
  | 90 => ⟨S256, .i32⟩
  | 91 => ⟨S256, .i32⟩
  | 92 => ⟨S256, .i32⟩
  | 93 => ⟨S_, .i32⟩
  | 94 => ⟨S256, .i32⟩
  | 95 => ⟨S256, .i32⟩
  | 96 => ⟨S_, .i32⟩
  | 97 => ⟨S_, .i32⟩
  | 98 => ⟨S_, .i32⟩
  | 99 => ⟨S256, .i32⟩
  | 100 => ⟨S256, .i32⟩
  | 101 => ⟨S_, .i32⟩
  | 102 => ⟨S256, .i32⟩
  | 103 => ⟨S256, .i32⟩
  | 104 => ⟨S_, .i32⟩
  | 105 => ⟨S256, .i32⟩
  | 106 => ⟨S256, .i32⟩
  | 107 => ⟨S_, .i32⟩
  | 108 => ⟨S256, .i32⟩
  | 109 => ⟨S256, .i1⟩
  | 110 => ⟨S_, .i32⟩
  | 111 => ⟨S256, .i32⟩
  | 112 => ⟨S256, .i32⟩
  | 113 => ⟨S256, .i32⟩
  | 114 => ⟨S256x1, .i32⟩
  | 115 => ⟨S8x256, .f32⟩
  | 116 => ⟨S1x8x1x256, .f32⟩
  | 117 => ⟨S1x8x128x256, .f32⟩
  | 118 => ⟨S8x32768, .f32⟩
  | 119 => ⟨S8x32640, .f32⟩
  | 120 => ⟨S8x128x255, .f32⟩
  | 121 => ⟨S8x128x128, .f32⟩
  | 122 => ⟨S256, .i32⟩
  | 123 => ⟨S_, .i32⟩
  | 124 => ⟨S256, .i32⟩
  | 125 => ⟨S256, .i1⟩
  | 126 => ⟨S_, .i32⟩
  | 127 => ⟨S256, .i32⟩
  | _ => ⟨S8x4096x2304, .f32⟩

abbrev hbmTy0_1 (i : Nat) : BufTy := match i % 128 with
  | 0 => ⟨S256, .i32⟩
  | 1 => ⟨S256, .i32⟩
  | 2 => ⟨S_, .i32⟩
  | 3 => ⟨S256, .i32⟩
  | 4 => ⟨S256, .i32⟩
  | 5 => ⟨S_, .i32⟩
  | 6 => ⟨S_, .i32⟩
  | 7 => ⟨S_, .i32⟩
  | 8 => ⟨S256, .i32⟩
  | 9 => ⟨S256, .i32⟩
  | 10 => ⟨S_, .i32⟩
  | 11 => ⟨S256, .i32⟩
  | 12 => ⟨S256, .i32⟩
  | 13 => ⟨S_, .i32⟩
  | 14 => ⟨S256, .i32⟩
  | 15 => ⟨S256, .i32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S8x256, .f32⟩
  | 25 => ⟨S1x8x1x256, .f32⟩
  | 26 => ⟨S1x8x128x256, .f32⟩
  | 27 => ⟨S8x32768, .f32⟩
  | 28 => ⟨S8x32640, .f32⟩
  | 29 => ⟨S8x128x255, .f32⟩
  | 30 => ⟨S8x128x128, .f32⟩
  | 31 => ⟨S256, .i32⟩
  | 32 => ⟨S_, .i32⟩
  | 33 => ⟨S256, .i32⟩
  | 34 => ⟨S256, .i1⟩
  | 35 => ⟨S_, .i32⟩
  | 36 => ⟨S256, .i32⟩
  | 37 => ⟨S256, .i32⟩
  | 38 => ⟨S256, .i32⟩
  | 39 => ⟨S_, .i32⟩
  | 40 => ⟨S256, .i32⟩
  | 41 => ⟨S256, .i32⟩
  | 42 => ⟨S_, .i32⟩
  | 43 => ⟨S_, .i32⟩
  | 44 => ⟨S_, .i32⟩
  | 45 => ⟨S256, .i32⟩
  | 46 => ⟨S256, .i32⟩
  | 47 => ⟨S_, .i32⟩
  | 48 => ⟨S256, .i32⟩
  | 49 => ⟨S256, .i32⟩
  | 50 => ⟨S_, .i32⟩
  | 51 => ⟨S256, .i32⟩
  | 52 => ⟨S256, .i32⟩
  | 53 => ⟨S_, .i32⟩
  | 54 => ⟨S256, .i32⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S8x256, .f32⟩
  | 62 => ⟨S1x8x1x256, .f32⟩
  | 63 => ⟨S1x8x128x256, .f32⟩
  | 64 => ⟨S8x32768, .f32⟩
  | 65 => ⟨S8x32640, .f32⟩
  | 66 => ⟨S8x128x255, .f32⟩
  | 67 => ⟨S8x128x128, .f32⟩
  | 68 => ⟨S8x1, .f32⟩
  | 69 => ⟨S8, .f32⟩
  | 70 => ⟨S8x1x1, .f32⟩
  | 71 => ⟨S8x128x128, .f32⟩
  | 72 => ⟨S8x1, .f32⟩
  | 73 => ⟨S8, .f32⟩
  | 74 => ⟨S8x1x1, .f32⟩
  | 75 => ⟨S8x128x128, .f32⟩
  | 76 => ⟨S8x1, .f32⟩
  | 77 => ⟨S8, .f32⟩
  | 78 => ⟨S8x1x1, .f32⟩
  | 79 => ⟨S8x128x128, .f32⟩
  | 80 => ⟨S8x1, .f32⟩
  | 81 => ⟨S8, .f32⟩
  | 82 => ⟨S8x1x1, .f32⟩
  | 83 => ⟨S8x128x128, .f32⟩
  | 84 => ⟨S8x128x256, .f32⟩
  | 85 => ⟨S8x128x256, .f32⟩
  | 86 => ⟨S8x128x256, .f32⟩
  | 87 => ⟨S8x128x256, .f32⟩
  | 88 => ⟨S8x128x256, .f32⟩
  | 89 => ⟨S8x128x256, .f32⟩
  | 90 => ⟨S8x768x256, .f32⟩
  | 91 => ⟨S768, .i32⟩
  | 92 => ⟨S768x1, .i32⟩
  | 93 => ⟨S256, .i32⟩
  | 94 => ⟨S1x256, .i32⟩
  | 95 => ⟨S_, .i32⟩
  | 96 => ⟨S1x256, .i32⟩
  | 97 => ⟨S1x256, .i32⟩
  | 98 => ⟨S_, .i32⟩
  | 99 => ⟨S768x1, .i32⟩
  | 100 => ⟨S768x1, .i32⟩
  | 101 => ⟨S768x256, .i32⟩
  | 102 => ⟨S768x256, .i32⟩
  | 103 => ⟨S768x256, .i1⟩
  | 104 => ⟨S_, .i32⟩
  | 105 => ⟨S1x256, .i32⟩
  | 106 => ⟨S1x256, .i32⟩
  | 107 => ⟨S_, .i32⟩
  | 108 => ⟨S1x256, .i32⟩
  | 109 => ⟨S1x256, .i32⟩
  | 110 => ⟨S768x256, .i32⟩
  | 111 => ⟨S768x256, .i32⟩
  | 112 => ⟨S768x256, .i1⟩
  | 113 => ⟨S768x256, .i1⟩
  | 114 => ⟨S1x768x256, .i1⟩
  | 115 => ⟨S_, .f32⟩
  | 116 => ⟨S_, .f32⟩
  | 117 => ⟨S8x768x256, .i1⟩
  | 118 => ⟨S8x768x256, .f32⟩
  | 119 => ⟨S8x768x256, .f32⟩
  | 120 => ⟨S512, .f32⟩
  | 121 => ⟨S512x1, .f32⟩
  | 122 => ⟨S512x128, .f32⟩
  | 123 => ⟨S512, .f32⟩
  | 124 => ⟨S512x1, .f32⟩
  | 125 => ⟨S512x256, .f32⟩
  | 126 => ⟨S8x1024x4096, .bf16⟩
  | _ => ⟨S8x4096x2304, .f32⟩

abbrev hbmTy (i : Nat) : BufTy := match i / 128 with
  | 0 => hbmTy0_0 i
  | 1 => hbmTy0_1 i
  | _ => ⟨S8x4096x2304, .f32⟩

abbrev bufTy : (tb : Table) → Fin (tcTables nBuf tb) → BufTy
  | .hbm, ⟨i, _⟩ => hbmTy i
  | .local _ .vmem, ⟨0, _⟩ => ⟨S1x1792x512, .bf16⟩
  | .local _ .vmem, ⟨1, _⟩ => ⟨S1x1792x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x256x128, .bf16⟩
  | .local _ .vmem, ⟨9, _⟩ => ⟨S1x256x128, .bf16⟩
  | .local _ .vmem, ⟨10, _⟩ => ⟨S2x256x512, .f32⟩
  | .local _ .vmem, ⟨11, _⟩ => ⟨S2x1x512, .f32⟩
  | .local _ .vmem, ⟨12, _⟩ => ⟨S8x768x256, .f32⟩
  | .local _ .vmem, ⟨13, _⟩ => ⟨S512x128, .f32⟩
  | .local _ .vmem, ⟨14, _⟩ => ⟨S512x256, .f32⟩
  | .local _ .vmem, ⟨15, _⟩ => ⟨S1x1024x512, .bf16⟩
  | .local _ .vmem, ⟨16, _⟩ => ⟨S1x1024x512, .bf16⟩
  | .local _ .vmem, ⟨17, _⟩ => ⟨S512x512, .f32⟩
  | .local _ .vmem, ⟨18, _⟩ => ⟨S512x512, .f32⟩
  | _, _ => ⟨S8x4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_12 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_c_14 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_18 : Ref sig .tc := ⟨.hbm, 123, rfl⟩
abbrev main_v90 : Ref sig .tc := ⟨.hbm, 124, rfl⟩
abbrev main_v91 : Ref sig .tc := ⟨.hbm, 125, rfl⟩
abbrev main_c_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_c_22 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_v97 : Ref sig .tc := ⟨.hbm, 140, rfl⟩
abbrev main_c_23 : Ref sig .tc := ⟨.hbm, 141, rfl⟩
abbrev main_v98 : Ref sig .tc := ⟨.hbm, 142, rfl⟩
abbrev main_v99 : Ref sig .tc := ⟨.hbm, 143, rfl⟩
abbrev main_c_24 : Ref sig .tc := ⟨.hbm, 144, rfl⟩
abbrev main_v100 : Ref sig .tc := ⟨.hbm, 145, rfl⟩
abbrev main_v101 : Ref sig .tc := ⟨.hbm, 146, rfl⟩
abbrev main_c_25 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_26 : Ref sig .tc := ⟨.hbm, 160, rfl⟩
abbrev main_v114 : Ref sig .tc := ⟨.hbm, 161, rfl⟩
abbrev main_v115 : Ref sig .tc := ⟨.hbm, 162, rfl⟩
abbrev main_c_27 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_c_30 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_v121 : Ref sig .tc := ⟨.hbm, 177, rfl⟩
abbrev main_c_31 : Ref sig .tc := ⟨.hbm, 178, rfl⟩
abbrev main_v122 : Ref sig .tc := ⟨.hbm, 179, rfl⟩
abbrev main_v123 : Ref sig .tc := ⟨.hbm, 180, rfl⟩
abbrev main_c_32 : Ref sig .tc := ⟨.hbm, 181, rfl⟩
abbrev main_v124 : Ref sig .tc := ⟨.hbm, 182, rfl⟩
abbrev main_v125 : Ref sig .tc := ⟨.hbm, 183, rfl⟩
abbrev main_c_33 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_c_34 : Ref sig .tc := ⟨.hbm, 223, rfl⟩
abbrev main_v164 : Ref sig .tc := ⟨.hbm, 224, rfl⟩
abbrev main_v165 : Ref sig .tc := ⟨.hbm, 225, rfl⟩
abbrev main_c_35 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_c_36 : Ref sig .tc := ⟨.hbm, 232, rfl⟩
abbrev main_v171 : Ref sig .tc := ⟨.hbm, 233, rfl⟩
abbrev main_v172 : Ref sig .tc := ⟨.hbm, 234, rfl⟩
abbrev main_c_37 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_38 : Ref sig .tc := ⟨.hbm, 243, rfl⟩
abbrev main_call7_v0 : Ref sig .tc := ⟨.hbm, 244, rfl⟩
abbrev main_call7_v1 : Ref sig .tc := ⟨.hbm, 245, rfl⟩
abbrev main_call7_v2 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c2_i32 : BitVec 32 := 2#32
  let c0_i32_1 : BitVec 32 := 0#32
  ![arg0.toNat, c2_i32.toNat, v2.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![arg0.toNat, c6_i32.toNat, v2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1792x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x768x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x4096x2304 : Shape := ⟨3, ![8, 4096, 2304]⟩
abbrev S1x8 : Shape := ⟨2, ![1, 8]⟩
abbrev S1x8x257 : Shape := ⟨3, ![1, 8, 257]⟩
abbrev S1x512 : Shape := ⟨2, ![1, 512]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x2x64 : Shape := ⟨4, ![8, 4096, 2, 64]⟩
abbrev S8 : Shape := ⟨1, ![8]⟩
abbrev S8x4096x2x4x64 : Shape := ⟨5, ![8, 4096, 2, 4, 64]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S2x4 : Shape := ⟨2, ![2, 4]⟩
abbrev S2x4x1x1 : Shape := ⟨4, ![2, 4, 1, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x4x4096x4096 : Shape := ⟨4, ![2, 4, 4096, 4096]⟩
abbrev S1x2x4x4096x4096 : Shape := ⟨5, ![1, 2, 4, 4096, 4096]⟩
abbrev S1x2x4x1x1 : Shape := ⟨5, ![1, 2, 4, 1, 1]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x257 : Shape := ⟨2, ![8, 257]⟩
abbrev S8x8x4096x4096 : Shape := ⟨4, ![8, 8, 4096, 4096]⟩
abbrev S4096x4096x1 : Shape := ⟨3, ![4096, 4096, 1]⟩
abbrev S8x4096x4096 : Shape := ⟨3, ![8, 4096, 4096]⟩
abbrev S1x8x4096x4096 : Shape := ⟨4, ![1, 8, 4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S512 : Shape := ⟨1, ![512]⟩
abbrev S8x4096 : Shape := ⟨2, ![8, 4096]⟩
abbrev S8x4096x1 : Shape := ⟨3, ![8, 4096, 1]⟩
abbrev S1x1x512 : Shape := ⟨3, ![1, 1, 512]⟩
abbrev S8x4096x1024 : Shape := ⟨3, ![8, 4096, 1024]⟩
abbrev S8x1024x4096 : Shape := ⟨3, ![8, 1024, 4096]⟩

abbrev nBuf : Space → Nat
  | .hbm => 217
  | .vmem => 0
  | .smem => 0
  | _ => 0

abbrev hbmTy0_0 (i : Nat) : BufTy := match i % 128 with
  | 0 => ⟨S8x4096x2304, .f32⟩
  | 1 => ⟨S1x8, .f32⟩
  | 2 => ⟨S1x8x257, .f32⟩
  | 3 => ⟨S1x512, .f32⟩
  | 4 => ⟨S1x512, .f32⟩
  | 5 => ⟨S8x4096x512, .f32⟩
  | 6 => ⟨S8x4096x128, .f32⟩
  | 7 => ⟨S8x4096x128, .f32⟩
  | 8 => ⟨S8x4096x512, .f32⟩
  | 9 => ⟨S8x4096x512, .f32⟩
  | 10 => ⟨S8x4096x512, .f32⟩
  | 11 => ⟨S8x4096x8x64, .f32⟩
  | 12 => ⟨S8x4096x2x64, .f32⟩
  | 13 => ⟨S8x4096x2x64, .f32⟩
  | 14 => ⟨S8, .f32⟩
  | 15 => ⟨S8x4096x2x4x64, .f32⟩
  | 16 => ⟨S8x2x4096x4096x4, .f32⟩
  | 17 => ⟨S8x2x4x4096x4096, .f32⟩
  | 18 => ⟨S_, .f32⟩
  | 19 => ⟨S8x2x4x4096x4096, .f32⟩
  | 20 => ⟨S8x2x4x4096x4096, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S2x4, .f32⟩
  | 36 => ⟨S2x4x1x1, .f32⟩
  | 37 => ⟨S4096, .i32⟩
  | 38 => ⟨S4096x1, .i32⟩
  | 39 => ⟨S4096, .i32⟩
  | 40 => ⟨S1x4096, .i32⟩
  | 41 => ⟨S4096x4096, .i32⟩
  | 42 => ⟨S4096x4096, .i32⟩
  | 43 => ⟨S4096x4096, .i32⟩
  | 44 => ⟨S4096x4096, .i32⟩
  | 45 => ⟨S4096x4096, .f32⟩
  | 46 => ⟨S1x1x4096x4096, .f32⟩
  | 47 => ⟨S2x4x4096x4096, .f32⟩
  | 48 => ⟨S2x4x4096x4096, .f32⟩
  | 49 => ⟨S2x4x4096x4096, .f32⟩
  | 50 => ⟨S1x2x4x4096x4096, .f32⟩
  | 51 => ⟨S8x2x4x4096x4096, .f32⟩
  | 52 => ⟨S8x2x4x4096x4096, .f32⟩
  | 53 => ⟨S4096, .i32⟩
  | 54 => ⟨S_, .i32⟩
  | 55 => ⟨S4096, .i32⟩
  | 56 => ⟨S4096, .i32⟩
  | 57 => ⟨S4096x1, .i32⟩
  | 58 => ⟨S4096, .i32⟩
  | 59 => ⟨S_, .i32⟩
  | 60 => ⟨S4096, .i32⟩
  | 61 => ⟨S4096, .i32⟩
  | 62 => ⟨S1x4096, .i32⟩
  | 63 => ⟨S4096x4096, .i32⟩
  | 64 => ⟨S4096x4096, .i32⟩
  | 65 => ⟨S4096x4096, .i1⟩
  | 66 => ⟨S_, .i32⟩
  | 67 => ⟨S4096x1, .i32⟩
  | 68 => ⟨S4096x1, .i32⟩
  | 69 => ⟨S4096x4096, .i32⟩
  | 70 => ⟨S4096x4096, .i32⟩
  | 71 => ⟨S4096x4096, .i1⟩
  | 72 => ⟨S4096x4096, .i1⟩
  | 73 => ⟨S_, .f32⟩
  | 74 => ⟨S_, .f32⟩
  | 75 => ⟨S8x2x4x4096x4096, .i1⟩
  | 76 => ⟨S8x2x4x4096x4096, .f32⟩
  | 77 => ⟨S8x2x4x4096x4096, .f32⟩
  | 78 => ⟨S2x4, .f32⟩
  | 79 => ⟨S1x2x4x1x1, .f32⟩
  | 80 => ⟨S_, .f32⟩
  | 81 => ⟨S8x2x4x4096, .f32⟩
  | 82 => ⟨S8x2x4x4096x1, .f32⟩
  | 83 => ⟨S8x2x4x4096x1, .f32⟩
  | 84 => ⟨S8x2x4x4096x1, .f32⟩
  | 85 => ⟨S8x2x4x4096x4096, .f32⟩
  | 86 => ⟨S8x2x4x4096x4096, .f32⟩
  | 87 => ⟨S8x2x4x4096x4096, .f32⟩
  | 88 => ⟨S_, .f32⟩
  | 89 => ⟨S8x2x4x4096, .f32⟩
  | 90 => ⟨S8x2x4x4096x1, .f32⟩
  | 91 => ⟨S8x2x4x4096x1, .f32⟩
  | 92 => ⟨S8x2x4x4096x1, .f32⟩
  | 93 => ⟨S8x2x4x4096x1, .f32⟩
  | 94 => ⟨S8x2x4x4096x1, .f32⟩
  | 95 => ⟨S8x2x4x4096x4096, .f32⟩
  | 96 => ⟨S8x2x4x4096x4096, .f32⟩
  | 97 => ⟨S8x2x64x4x4096, .f32⟩
  | 98 => ⟨S8x4096x2x4x64, .f32⟩
  | 99 => ⟨S8x4096x512, .f32⟩
  | 100 => ⟨S8x4096x8x64, .f32⟩
  | 101 => ⟨S8x4096x8x64, .f32⟩
  | 102 => ⟨S8x4096x8x64, .f32⟩
  | 103 => ⟨S8x257, .f32⟩
  | 104 => ⟨S8x8x4096x4096, .f32⟩
  | 105 => ⟨S_, .f32⟩
  | 106 => ⟨S8x8x4096x4096, .f32⟩
  | 107 => ⟨S8x8x4096x4096, .f32⟩
  | 108 => ⟨S4096, .i32⟩
  | 109 => ⟨S4096x1, .i32⟩
  | 110 => ⟨S4096, .i32⟩
  | 111 => ⟨S1x4096, .i32⟩
  | 112 => ⟨S4096x4096, .i32⟩
  | 113 => ⟨S4096x4096, .i32⟩
  | 114 => ⟨S4096x4096, .i32⟩
  | 115 => ⟨S_, .i32⟩
  | 116 => ⟨S_, .i32⟩
  | 117 => ⟨S_, .i32⟩
  | 118 => ⟨S4096x4096, .i32⟩
  | 119 => ⟨S4096x4096, .i32⟩
  | 120 => ⟨S_, .i32⟩
  | 121 => ⟨S4096x4096, .i32⟩
  | 122 => ⟨S4096x4096, .i32⟩
  | 123 => ⟨S_, .i32⟩
  | 124 => ⟨S4096x4096, .i32⟩
  | 125 => ⟨S4096x4096, .i32⟩
  | 126 => ⟨S4096, .i32⟩
  | 127 => ⟨S_, .i32⟩
  | _ => ⟨S8x4096x2304, .f32⟩

abbrev hbmTy0_1 (i : Nat) : BufTy := match i % 128 with
  | 0 => ⟨S4096, .i32⟩
  | 1 => ⟨S4096, .i32⟩
  | 2 => ⟨S4096x1, .i32⟩
  | 3 => ⟨S4096, .i32⟩
  | 4 => ⟨S_, .i32⟩
  | 5 => ⟨S4096, .i32⟩
  | 6 => ⟨S4096, .i32⟩
  | 7 => ⟨S1x4096, .i32⟩
  | 8 => ⟨S4096x4096, .i32⟩
  | 9 => ⟨S4096x4096, .i32⟩
  | 10 => ⟨S4096x4096, .i1⟩
  | 11 => ⟨S_, .i32⟩
  | 12 => ⟨S4096x1, .i32⟩
  | 13 => ⟨S4096x1, .i32⟩
  | 14 => ⟨S4096x4096, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i1⟩
  | 21 => ⟨S_, .i32⟩
  | 22 => ⟨S4096x4096, .i32⟩
  | 23 => ⟨S4096x4096, .i32⟩
  | 24 => ⟨S4096x4096, .i32⟩
  | 25 => ⟨S4096x4096x1, .i32⟩
  | 26 => ⟨S8x4096x4096, .f32⟩
  | 27 => ⟨S1x8x4096x4096, .f32⟩
  | 28 => ⟨S8x8x4096x4096, .f32⟩
  | 29 => ⟨S8x8x4096x4096, .f32⟩
  | 30 => ⟨S_, .f32⟩
  | 31 => ⟨S_, .f32⟩
  | 32 => ⟨S8x8x4096x4096, .i1⟩
  | 33 => ⟨S8x8x4096x4096, .f32⟩
  | 34 => ⟨S8x8x4096x4096, .f32⟩
  | 35 => ⟨S_, .f32⟩
  | 36 => ⟨S8x8x4096, .f32⟩
  | 37 => ⟨S_, .f32⟩
  | 38 => ⟨S8x8x4096, .f32⟩
  | 39 => ⟨S8x8x4096, .f32⟩
  | 40 => ⟨S8x8x4096x1, .f32⟩
  | 41 => ⟨S8x8x4096x4096, .f32⟩
  | 42 => ⟨S8x8x4096x4096, .f32⟩
  | 43 => ⟨S8x8x4096x4096, .f32⟩
  | 44 => ⟨S_, .f32⟩
  | 45 => ⟨S8x8x4096, .f32⟩
  | 46 => ⟨S8x8x4096x1, .f32⟩
  | 47 => ⟨S8x8x4096x4096, .f32⟩
  | 48 => ⟨S8x8x4096x4096, .f32⟩
  | 49 => ⟨S8x8x64x4096, .f32⟩
  | 50 => ⟨S8x4096x8x64, .f32⟩
  | 51 => ⟨S8x4096x512, .f32⟩
  | 52 => ⟨S512, .f32⟩
  | 53 => ⟨S8x4096x512, .f32⟩
  | 54 => ⟨S_, .f32⟩
  | 55 => ⟨S8x4096, .f32⟩
  | 56 => ⟨S8x4096x1, .f32⟩
  | 57 => ⟨S_, .f32⟩
  | 58 => ⟨S8x4096x1, .f32⟩
  | 59 => ⟨S8x4096x1, .f32⟩
  | 60 => ⟨S_, .f32⟩
  | 61 => ⟨S8x4096x1, .f32⟩
  | 62 => ⟨S8x4096x1, .f32⟩
  | 63 => ⟨S8x4096x1, .f32⟩
  | 64 => ⟨S8x4096x512, .f32⟩
  | 65 => ⟨S8x4096x512, .f32⟩
  | 66 => ⟨S1x1x512, .f32⟩
  | 67 => ⟨S8x4096x512, .f32⟩
  | 68 => ⟨S8x4096x512, .f32⟩
  | 69 => ⟨S512, .f32⟩
  | 70 => ⟨S8x4096x512, .f32⟩
  | 71 => ⟨S_, .f32⟩
  | 72 => ⟨S8x4096, .f32⟩
  | 73 => ⟨S8x4096x1, .f32⟩
  | 74 => ⟨S_, .f32⟩
  | 75 => ⟨S8x4096x1, .f32⟩
  | 76 => ⟨S8x4096x1, .f32⟩
  | 77 => ⟨S_, .f32⟩
  | 78 => ⟨S8x4096x1, .f32⟩
  | 79 => ⟨S8x4096x1, .f32⟩
  | 80 => ⟨S8x4096x1, .f32⟩
  | 81 => ⟨S8x4096x512, .f32⟩
  | 82 => ⟨S8x4096x512, .f32⟩
  | 83 => ⟨S1x1x512, .f32⟩
  | 84 => ⟨S8x4096x512, .f32⟩
  | 85 => ⟨S8x4096x512, .f32⟩
  | 86 => ⟨S8x4096x1024, .f32⟩
  | 87 => ⟨S8x1024x4096, .f32⟩
  | 88 => ⟨S8x1024x4096, .bf16⟩
  | _ => ⟨S8x4096x2304, .f32⟩

abbrev hbmTy (i : Nat) : BufTy := match i / 128 with
  | 0 => hbmTy0_0 i
  | 1 => hbmTy0_1 i
  | _ => ⟨S8x4096x2304, .f32⟩

abbrev bufTy : (tb : Table) → Fin (tcTables nBuf tb) → BufTy
  | .hbm, ⟨i, _⟩ => hbmTy i
  | _, _ => ⟨S8x4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_5 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_9 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_c_10 : Ref sig .tc := ⟨.hbm, 115, rfl⟩
abbrev main_c_11 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_v95 : Ref sig .tc := ⟨.hbm, 122, rfl⟩
abbrev main_c_12 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_13 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c_14 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_15 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_c_16 : Ref sig .tc := ⟨.hbm, 146, rfl⟩
abbrev main_v115 : Ref sig .tc := ⟨.hbm, 147, rfl⟩
abbrev main_v116 : Ref sig .tc := ⟨.hbm, 148, rfl⟩
abbrev main_c_17 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_18 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v125 : Ref sig .tc := ⟨.hbm, 162, rfl⟩
abbrev main_cst_19 : Ref sig .tc := ⟨.hbm, 163, rfl⟩
abbrev main_v126 : Ref sig .tc := ⟨.hbm, 164, rfl⟩
abbrev main_cst_20 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_21 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_22 : Ref sig .tc := ⟨.hbm, 182, rfl⟩
abbrev main_v142 : Ref sig .tc := ⟨.hbm, 183, rfl⟩
abbrev main_v143 : Ref sig .tc := ⟨.hbm, 184, rfl⟩
abbrev main_cst_23 : Ref sig .tc := ⟨.hbm, 185, rfl⟩
abbrev main_v144 : Ref sig .tc := ⟨.hbm, 186, rfl⟩
abbrev main_v145 : Ref sig .tc := ⟨.hbm, 187, rfl⟩
abbrev main_cst_24 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_25 : Ref sig .tc := ⟨.hbm, 199, rfl⟩
abbrev main_v156 : Ref sig .tc := ⟨.hbm, 200, rfl⟩
abbrev main_v157 : Ref sig .tc := ⟨.hbm, 201, rfl⟩
abbrev main_cst_26 : Ref sig .tc := ⟨.hbm, 202, rfl⟩
abbrev main_v158 : Ref sig .tc := ⟨.hbm, 203, rfl⟩
abbrev main_v159 : Ref sig .tc := ⟨.hbm, 204, rfl⟩
abbrev main_cst_27 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S8x1024x4096 : Shape := ⟨3, ![8, 1024, 4096]⟩
abbrev S1024x1024 : Shape := ⟨2, ![1024, 1024]⟩
abbrev S1024x4096 : Shape := ⟨2, ![1024, 4096]⟩
abbrev S4096x1024 : Shape := ⟨2, ![4096, 1024]⟩
abbrev S1024x1 : Shape := ⟨2, ![1024, 1]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 19
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S8x1024x4096, .f32⟩
  | .hbm, ⟨8, _⟩ => ⟨S8x1024x4096, .bf16⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1024x4096, .f32⟩
  | .hbm, ⟨14, _⟩ => ⟨S1024x4096, .bf16⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S8x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .f32⟩
  | .local _ .vmem, ⟨12, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S4096x1024 : Shape := ⟨2, ![4096, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S1024x1024, .f32⟩
  | .hbm, ⟨8, _⟩ => ⟨S8x4096x1024, .f32⟩
  | .hbm, ⟨9, _⟩ => ⟨S8x4096x1024, .f32⟩
  | .hbm, ⟨10, _⟩ => ⟨S1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S1024x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.FfnSpec.lean ====
/-
  The feed-forward block on one row (one token), as formulas over the extended reals: the output projection with its residual, an RMS
  normalization, the squared-ReLU network with its residual, and the final RMS normalization. No program is named here: the kernel's module and
  the reference's module each show that their result reads as `row`.
-/
module

public import Idealize.ShloMosaic.PureOps.Ideal
public import Idealize.ShloMosaic.Lib.Pointwise

@[expose] public section

noncomputable section

namespace Cert.Ffn

open Idealize.ShloMosaic

/-- The number of features, as the divisor of a mean. -/
abbrev width : EReal := Ideal.ofBits .f32 0x44800000#32
/-- The small number under the root of an RMS normalization. -/
abbrev eps : EReal := Ideal.ofBits .f32 0x358637BD#32

/-- The row `h` over its root mean square, times the gain `g`. -/
def rms (h g : Fin 1024 → EReal) (d : Fin 1024) : EReal :=
  h d * Ideal.rsqrt (Ideal.div (∑ k, h k * h k) width + eps) * g d

/-- The residual row `x` plus the projection of the mixer's row `y`. -/
def hidden (y x : Fin 1024 → EReal) (wo : Fin 1024 → Fin 1024 → EReal) (d : Fin 1024) : EReal := x d + ∑ k, y k * wo k d

/-- The squared ReLU of one hidden unit whose weights are `w`. -/
def unit (n w : Fin 1024 → EReal) : EReal := max (∑ k, n k * w k) 0 * max (∑ k, n k * w k) 0

/-- The row after the feed-forward network and its residual. -/
def mlp (h n : Fin 1024 → EReal) (w1 : Fin 1024 → Fin 4096 → EReal) (w2 : Fin 4096 → Fin 1024 → EReal) (d : Fin 1024) : EReal :=
  h d + ∑ f, unit n (fun k => w1 k f) * w2 f d

/-- The whole block on one row. -/
def row (y x : Fin 1024 → EReal) (wo : Fin 1024 → Fin 1024 → EReal) (g2 : Fin 1024 → EReal) (w1 : Fin 1024 → Fin 4096 → EReal)
    (w2 : Fin 4096 → Fin 1024 → EReal) (gf : Fin 1024 → EReal) : Fin 1024 → EReal :=
  rms (mlp (hidden y x wo) (rms (hidden y x wo) g2) w1 w2) gf

/-- The share of the network's sum that the `o`-th quarter of its units gives. -/
def quarter (n : Fin 1024 → EReal) (w1 : Fin 1024 → Fin 4096 → EReal) (w2 : Fin 4096 → Fin 1024 → EReal) (d : Fin 1024) (o : ℕ) (ho : o + 1024 ≤ 4096) : EReal :=
  ∑ f : Fin 1024, unit n (fun k => w1 k ⟨o + f, by omega⟩) * w2 ⟨o + f, by omega⟩ d

/-- A sum over 4096 units is the sum of its four quarters. -/
theorem sum_quarters (f : Fin 4096 → EReal) :
    ∑ i, f i = (((∑ i : Fin 1024, f ⟨0 + i, by omega⟩) + ∑ i : Fin 1024, f ⟨1024 + i, by omega⟩) + ∑ i : Fin 1024, f ⟨2048 + i, by omega⟩)
      + ∑ i : Fin 1024, f ⟨3072 + i, by omega⟩ := by
  rw [Fin.sum_univ_add (a := 3072) (b := 1024) f, Fin.sum_univ_add (a := 2048) (b := 1024), Fin.sum_univ_add (a := 1024) (b := 1024)]
  simp only [Nat.zero_add]
  rfl

/-- The network's row with its sum taken quarter by quarter onto the residual. -/
theorem mlp_quarters (h n : Fin 1024 → EReal) (w1 : Fin 1024 → Fin 4096 → EReal) (w2 : Fin 4096 → Fin 1024 → EReal) (d : Fin 1024) :
    mlp h n w1 w2 d = (((h d + quarter n w1 w2 d 0 (by omega)) + quarter n w1 w2 d 1024 (by omega)) + quarter n w1 w2 d 2048 (by omega))
      + quarter n w1 w2 d 3072 (by omega) := by
  unfold mlp quarter
  rw [sum_quarters]
  simp only [add_assoc]

end Cert.Ffn
-- ==== Proof.AttnMath.lean ====
/-
  Sums of exponential weights over the extended reals: a softmax computed block by block, each block against its own
  maximum and to base two, is the softmax of the whole.
-/
module

public import Idealize.ShloMosaic.Lib.Pointwise

@[expose] public section

noncomputable section

namespace Cert.Attn

open Idealize.ShloMosaic

/-- The factor that turns a score into a score to base two. -/
def lg : EReal := (((Real.log 2)⁻¹ : ℝ) : EReal)

/-- The weighted values of a family of scores. -/
def total {ι : Type} [Fintype ι] (s v : ι → EReal) : EReal := ∑ k, Ideal.exp (s k) * v k

/-- The weights' sum of a family of scores. -/
def mass {ι : Type} [Fintype ι] (s : ι → EReal) : EReal := ∑ k, Ideal.exp (s k)

/-- Weighted values over the weights' sum. -/
def share (a b : EReal) : EReal := a * Ideal.div 1 b

/-- A positive real number. -/
def Pos (x : EReal) : Prop := ∃ r : ℝ, 0 < r ∧ x = r

/-- A real number that is not negative. -/
def NonNeg (x : EReal) : Prop := ∃ r : ℝ, 0 ≤ r ∧ x = r

theorem Pos.nonNeg {x : EReal} (h : Pos x) : NonNeg x := let ⟨r, hr, e⟩ := h; ⟨r, hr.le, e⟩

theorem NonNeg.add {x y : EReal} (hx : NonNeg x) (hy : NonNeg y) : NonNeg (x + y) := by
  obtain ⟨r, hr, rfl⟩ := hx
  obtain ⟨q, hq, rfl⟩ := hy
  exact ⟨r + q, by positivity, by norm_cast⟩

theorem Pos.add_nonNeg {x y : EReal} (hx : Pos x) (hy : NonNeg y) : Pos (x + y) := by
  obtain ⟨r, hr, rfl⟩ := hx
  obtain ⟨q, hq, rfl⟩ := hy
  exact ⟨r + q, by positivity, by norm_cast⟩

theorem NonNeg.add_pos {x y : EReal} (hx : NonNeg x) (hy : Pos y) : Pos (x + y) := by
  rw [add_comm]; exact hy.add_nonNeg hx

theorem NonNeg.zero : NonNeg 0 := ⟨0, le_rfl, rfl⟩

/-- A value that is neither infinity is real. -/
theorem real_of_ne {x : EReal} (hb : x ≠ ⊥) (ht : x ≠ ⊤) : ∃ r : ℝ, x = r := ⟨x.toReal, (EReal.coe_toReal ht hb).symm⟩

theorem exp_nonNeg {x : EReal} (h : x ≠ ⊤) : NonNeg (Ideal.exp x) := by
  by_cases hb : x = ⊥
  · subst hb; exact ⟨0, le_rfl, rfl⟩
  · obtain ⟨r, rfl⟩ := real_of_ne hb h
    exact ⟨Real.exp r, (Real.exp_pos r).le, rfl⟩

theorem exp_pos {x : EReal} (hb : x ≠ ⊥) (h : x ≠ ⊤) : Pos (Ideal.exp x) := by
  obtain ⟨r, rfl⟩ := real_of_ne hb h
  exact ⟨Real.exp r, Real.exp_pos r, rfl⟩

/-- A sum of numbers that are not negative is not negative. -/
theorem sum_nonNeg {ι : Type} (s : Finset ι) (f : ι → EReal) (h : ∀ k ∈ s, NonNeg (f k)) : NonNeg (∑ k ∈ s, f k) := by
  classical
  induction s using Finset.induction_on with
  | empty => simpa using NonNeg.zero
  | insert a s ha ih =>
    rw [Finset.sum_insert ha]
    exact (h a (by simp)).add (ih fun k hk => h k (by simp [hk]))

theorem mass_nonNeg {ι : Type} [Fintype ι] (s : ι → EReal) (h : ∀ k, s k ≠ ⊤) : NonNeg (mass s) :=
  sum_nonNeg _ _ fun k _ => exp_nonNeg (h k)

/-- The weights' sum is positive when some score is real. -/
theorem mass_pos {ι : Type} [Fintype ι] (s : ι → EReal) (h : ∀ k, s k ≠ ⊤) (k : ι) (hk : s k ≠ ⊥) : Pos (mass s) := by
  classical
  unfold mass
  rw [← Finset.add_sum_erase _ _ (Finset.mem_univ k)]
  exact (exp_pos hk (h k)).add_nonNeg (sum_nonNeg _ _ fun j _ => exp_nonNeg (h j))

/-- A real factor that is not negative goes through a sum of any extended reals. -/
theorem coe_mul_sum {ι : Type} (s : Finset ι) (c : ℝ) (hc : 0 ≤ c) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem coe_mul_add (c : ℝ) (hc : 0 ≤ c) (a b : EReal) : (c : EReal) * (a + b) = c * a + c * b :=
  EReal.left_distrib_of_nonneg_of_ne_top (by exact_mod_cast hc) (EReal.coe_ne_top c) a b

theorem rpow_two (r : ℝ) : Real.rpow 2 (r * (Real.log 2)⁻¹) = Real.exp r := by
  have h2 : Real.log 2 ≠ 0 := (Real.log_pos (by norm_num)).ne'
  show (2 : ℝ) ^ (r * (Real.log 2)⁻¹) = _
  rw [Real.rpow_def_of_pos (by norm_num)]
  congr 1
  field_simp

theorem two_add (a b : ℝ) : Real.rpow 2 (a + b) = Real.rpow 2 a * Real.rpow 2 b := Real.rpow_add (by norm_num) a b

/-- A weight to base two against a real maximum. -/
theorem weight_eq (s : EReal) (hs : s ≠ ⊤) (μ : ℝ) : Ideal.exp2 (s * lg - μ) = ((Real.rpow 2 (-μ) : ℝ) : EReal) * Ideal.exp s := by
  by_cases hb : s = ⊥
  · subst hb
    have hl : (0 : ℝ) < (Real.log 2)⁻¹ := inv_pos.mpr (Real.log_pos (by norm_num))
    rw [show (⊥ : EReal) * lg = ⊥ from EReal.bot_mul_coe_of_pos hl, EReal.bot_sub]
    simp
  · obtain ⟨r, rfl⟩ := real_of_ne hb hs
    unfold lg
    rw [show (r : EReal) * (((Real.log 2)⁻¹ : ℝ) : EReal) - (μ : EReal) = ((r * (Real.log 2)⁻¹ - μ : ℝ) : EReal) by norm_cast,
      Ideal.exp2_coe, Ideal.exp_coe, ← rpow_two r]
    norm_cast
    rw [← two_add]
    congr 1
    ring

/-- A weight against a real maximum. -/
theorem weight_exp (s : EReal) (hs : s ≠ ⊤) (μ : ℝ) : Ideal.exp (s - μ) = ((Real.exp (-μ) : ℝ) : EReal) * Ideal.exp s := by
  by_cases hb : s = ⊥
  · subst hb
    rw [EReal.bot_sub]
    simp
  · obtain ⟨r, rfl⟩ := real_of_ne hb hs
    rw [show (r : EReal) - (μ : EReal) = ((r - μ : ℝ) : EReal) by norm_cast, Ideal.exp_coe, Ideal.exp_coe]
    norm_cast
    rw [← Real.exp_add]
    congr 1
    ring

/-- A block's weighted values against its own maximum, weighed against the common one. -/
theorem block_total {ι : Type} [Fintype ι] (s v : ι → EReal) (hs : ∀ k, s k ≠ ⊤) (μ m : ℝ) :
    (∑ k, v k * Ideal.exp2 (s k * lg - μ)) * Ideal.exp2 ((μ : EReal) - m) = ((Real.rpow 2 (-m) : ℝ) : EReal) * total s v := by
  have h2 : ∀ x : ℝ, (0 : ℝ) ≤ Real.rpow 2 x := fun x => Real.rpow_nonneg (by norm_num) x
  rw [show (μ : EReal) - (m : EReal) = ((μ - m : ℝ) : EReal) by norm_cast, Ideal.exp2_coe, mul_comm, coe_mul_sum _ _ (h2 _)]
  unfold total
  rw [coe_mul_sum _ _ (h2 _)]
  refine Finset.sum_congr rfl fun k _ => ?_
  rw [weight_eq _ (hs k)]
  have e : ((Real.rpow 2 (μ - m) : ℝ) : EReal) * ((Real.rpow 2 (-μ) : ℝ) : EReal) = ((Real.rpow 2 (-m) : ℝ) : EReal) := by
    norm_cast
    rw [← two_add]
    congr 1
    ring
  rw [← e]
  ac_rfl

/-- A masked block counts for nothing. -/
theorem block_masked (x m : EReal) : x * Ideal.exp2 (⊥ - m) = 0 := by
  rw [EReal.bot_sub]; simp

/-- A common positive factor cancels from weighted values over the weights' sum. -/
theorem share_scale (c : ℝ) (hc : 0 < c) (a b : EReal) (hb : Pos b) : share ((c : EReal) * a) ((c : EReal) * b) = share a b := by
  obtain ⟨r, hr, rfl⟩ := hb
  unfold share
  rw [show (c : EReal) * (r : EReal) = ((c * r : ℝ) : EReal) by norm_cast, Ideal.div_coe (by positivity), Ideal.div_coe hr.ne']
  have e : (c : EReal) * ((1 / (c * r) : ℝ) : EReal) = ((1 / r : ℝ) : EReal) := by
    norm_cast
    field_simp
  rw [one_mul, one_mul, ← e]
  ac_rfl

/-- Weights divided one by one by their sum, against a real maximum: the weighted values over the weights' sum. -/
theorem share_each {ι : Type} [Fintype ι] (s v : ι → EReal) (hs : ∀ k, s k ≠ ⊤) (m : ℝ) (b : EReal) (hb : Pos b) :
    ∑ k, Ideal.div (Ideal.exp (s k - m)) (((Real.exp (-m) : ℝ) : EReal) * b) * v k = share (total s v) b := by
  obtain ⟨r, hr, rfl⟩ := hb
  have he := Real.exp_pos (-m)
  have e : ((Real.exp (-m) : ℝ) : EReal) * ((1 / (Real.exp (-m) * r) : ℝ) : EReal) = ((1 / r : ℝ) : EReal) := by
    norm_cast
    field_simp
  unfold share total
  rw [Ideal.div_coe hr.ne', one_mul, mul_comm (∑ k, Ideal.exp (s k) * v k), coe_mul_sum _ _ (by positivity)]
  refine Finset.sum_congr rfl fun k _ => ?_
  rw [show ((Real.exp (-m) : ℝ) : EReal) * (r : EReal) = ((Real.exp (-m) * r : ℝ) : EReal) by norm_cast,
    Ideal.div_coe (by positivity), weight_exp _ (hs k), ← e]
  ac_rfl

/-- The weights' sum against a real maximum. -/
theorem mass_shift {ι : Type} [Fintype ι] (s : ι → EReal) (hs : ∀ k, s k ≠ ⊤) (m : ℝ) :
    ∑ k, Ideal.exp (s k - m) = ((Real.exp (-m) : ℝ) : EReal) * mass s := by
  unfold mass
  rw [coe_mul_sum _ _ (Real.exp_pos _).le]
  exact Finset.sum_congr rfl fun k _ => weight_exp _ (hs k) m

/-- A maximum over scores of which none is infinite and one is real is real. -/
theorem fold_max_real {ι : Type} [Fintype ι] (f : ι → EReal) (h : ∀ k, f k ≠ ⊤) (k : ι) (hk : f k ≠ ⊥) :
    ∃ r : ℝ, Finset.univ.fold max ⊥ f = r := by
  refine real_of_ne (fun e => hk ?_) (fun e => ?_)
  · exact le_bot_iff.mp (e ▸ (Finset.le_sup (f := f) (Finset.mem_univ k)))
  · have : Finset.univ.sup f < ⊤ := (Finset.sup_lt_iff (by simp)).mpr fun k _ => lt_of_le_of_ne le_top (h k)
    exact this.ne e

end Cert.Attn

end
-- ==== Proof.AttnSpec.lean ====
/-
  The attention layer on one token, as formulas over the extended reals: two groups of eight heads, each an exponentially weighted mean of
  values over a band of keys, and an RMS normalization of each group. No program is named here.
-/
module

public import proofs.«01_k».proof.Proof.AttnMath
public import Idealize.ShloMosaic.Lib.Pointwise

@[expose] public section

noncomputable section

namespace Cert.Mixer

open Idealize.ShloMosaic Cert.Attn

/-- The key `k` lies in the query's chunk of 64 tokens or in one of the `n` chunks before it. -/
def Near (n q k : ℕ) : Prop := k / 64 ≤ q / 64 ∧ q / 64 ≤ k / 64 + n

instance (n q k : ℕ) : Decidable (Near n q k) := inferInstanceAs (Decidable (_ ∧ _))

/-- The factor of the scores, one over the root of a head's width. -/
def eighth : EReal := Ideal.ofBits .f32 0x3E000000#32

/-- The slope of head `h`'s penalty on distance. -/
def slope (h : ℕ) : EReal :=
  Ideal.exp (Ideal.ofBits .f32 0x3F317218#32 *
    Ideal.div (Ideal.ofBits .f32 0xC1000000#32 * (((h : ℝ) : EReal) + Ideal.ofBits .f32 0x3F800000#32)) (Ideal.ofBits .f32 0x41000000#32))

/-- The distance of two tokens. -/
def dist (q k : ℕ) : EReal := (((|(q : ℤ) - k| : ℤ) : ℝ) : EReal)

/-- The row of the bias table for a query and a key: their difference, kept between -128 and 128. -/
def relIx (d : ℤ) : Fin 257 := ⟨(max (-128) (min 128 d) + 128).toNat, by omega⟩

/-- The number of features of a group, as the divisor of a mean. -/
def width : EReal := Ideal.ofBits .f32 0x44000000#32
/-- The small number under the root of an RMS normalization. -/
def eps : EReal := Ideal.ofBits .f32 0x358637BD#32

/-- The row `y` over its root mean square, times the gain `g`. -/
def rms (y g : Fin 512 → EReal) (r : Fin 512) : EReal :=
  y r * Ideal.rsqrt (Ideal.div (∑ k, y k * y k) width + eps) * g r

section
variable (P : Fin 8 → Fin 4096 → Fin 2304 → EReal) (sink : Fin 8 → EReal) (rb : Fin 8 → Fin 257 → EReal) (ga gb : Fin 512 → EReal)

/-- Group A's score of a key: four heads share a key head; the penalty grows with the distance. -/
def scoreA (b h : Fin 8) (q k : Fin 4096) : EReal :=
  if Near 2 q k then (∑ x : Fin 64, P b q ⟨64 * h + x, by omega⟩ * P b k ⟨512 + 64 * (h / 4) + x, by omega⟩) * eighth - slope h * dist q k else ⊥

/-- Group B's score of a key: the bias is read from a table at the difference of the positions. -/
def scoreB (b h : Fin 8) (q k : Fin 4096) : EReal :=
  if Near 8 q k then (∑ x : Fin 64, P b q ⟨768 + 64 * h + x, by omega⟩ * P b k ⟨1280 + 64 * h + x, by omega⟩) * eighth + rb h (relIx ((q : ℤ) - k)) else ⊥

/-- Feature `d` of group A's head `h`: the sink takes a share of the weights. -/
def headA (b h : Fin 8) (q : Fin 4096) (d : Fin 64) : EReal :=
  share (total (scoreA P b h q) fun k => P b k ⟨640 + 64 * (h / 4) + d, by omega⟩) (mass (scoreA P b h q) + Ideal.exp (sink h))

/-- Feature `d` of group B's head `h`. -/
def headB (b h : Fin 8) (q : Fin 4096) (d : Fin 64) : EReal :=
  share (total (scoreB P rb b h q) fun k => P b k ⟨1792 + 64 * h + d, by omega⟩) (mass (scoreB P rb b h q))

/-- Group A's row. -/
def rowA (b : Fin 8) (q : Fin 4096) (r : Fin 512) : EReal := headA P sink b ⟨r / 64, by omega⟩ q ⟨r % 64, by omega⟩

/-- Group B's row. -/
def rowB (b : Fin 8) (q : Fin 4096) (r : Fin 512) : EReal := headB P rb b ⟨r / 64, by omega⟩ q ⟨r % 64, by omega⟩

/-- The layer's result: group A's normalized features, then group B's. -/
def result (b : Fin 8) (r : Fin 1024) (q : Fin 4096) : EReal :=
  if h : r.val < 512 then rms (rowA P sink b q) ga ⟨r, h⟩ else rms (rowB P rb b q) gb ⟨r - 512, by omega⟩
end

/-! ## Real values -/

/-- A real number among the extended ones. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, by norm_cast⟩

theorem IsReal.add {x y : EReal} (hx : IsReal x) (hy : IsReal y) : IsReal (x + y) := by
  obtain ⟨a, rfl⟩ := hx; obtain ⟨b, rfl⟩ := hy; exact ⟨a + b, by norm_cast⟩

theorem IsReal.sub {x y : EReal} (hx : IsReal x) (hy : IsReal y) : IsReal (x - y) := by
  obtain ⟨a, rfl⟩ := hx; obtain ⟨b, rfl⟩ := hy; exact ⟨a - b, by norm_cast⟩

theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

theorem eighth_eq : eighth = ((1 / 8 : ℝ) : EReal) := by
  unfold eighth; simp [Ideal.ofBits, Ideal.ieee]; rw [← EReal.coe_mul]; norm_num

theorem eighth_real : IsReal eighth := ⟨_, eighth_eq⟩

theorem slope_real (h : ℕ) : IsReal (slope h) := by
  have e3 : Ideal.ofBits .f32 0x41000000#32 = ((8 : ℝ) : EReal) := by simp [Ideal.ofBits, Ideal.ieee]; rw [← EReal.coe_mul]; norm_num
  have r0 : IsReal (Ideal.ofBits .f32 0x3F317218#32) := by simp [Ideal.ofBits, Ideal.ieee]; exact ⟨_, rfl⟩
  have r1 : IsReal (Ideal.ofBits .f32 0xC1000000#32) := by simp [Ideal.ofBits, Ideal.ieee]; exact ⟨_, rfl⟩
  have r2 : IsReal (Ideal.ofBits .f32 0x3F800000#32) := by simp [Ideal.ofBits, Ideal.ieee]; exact IsReal.mul ⟨_, rfl⟩ ⟨_, rfl⟩
  have r3 : IsReal (Ideal.div (Ideal.ofBits .f32 0xC1000000#32 * (((h : ℝ) : EReal) + Ideal.ofBits .f32 0x3F800000#32)) (Ideal.ofBits .f32 0x41000000#32)) := by
    rw [e3, Ideal.div_coe (by norm_num)]
    exact (r1.mul (IsReal.add ⟨_, rfl⟩ r2)).mul ⟨_, rfl⟩
  obtain ⟨r, e⟩ := r0.mul r3
  unfold slope
  rw [e, Ideal.exp_coe]
  exact ⟨_, rfl⟩

section
variable {P : Fin 8 → Fin 4096 → Fin 2304 → EReal} {sink : Fin 8 → EReal} {rb : Fin 8 → Fin 257 → EReal}

theorem scoreA_ne_top (hP : ∀ b q x, IsReal (P b q x)) (b h : Fin 8) (q k : Fin 4096) : scoreA P b h q k ≠ ⊤ := by
  unfold scoreA
  split
  · exact (((IsReal.sum _ _ fun x => (hP _ _ _).mul (hP _ _ _)).mul eighth_real).sub ((slope_real _).mul ⟨_, rfl⟩)).ne_top
  · exact bot_ne_top

theorem scoreA_self (hP : ∀ b q x, IsReal (P b q x)) (b h : Fin 8) (q : Fin 4096) : scoreA P b h q q ≠ ⊥ := by
  unfold scoreA
  rw [if_pos ⟨le_rfl, by omega⟩]
  exact (((IsReal.sum _ _ fun x => (hP _ _ _).mul (hP _ _ _)).mul eighth_real).sub ((slope_real _).mul ⟨_, rfl⟩)).ne_bot

theorem scoreB_real (hP : ∀ b q x, IsReal (P b q x)) (hr : ∀ h j, IsReal (rb h j)) (b h : Fin 8) (q k : Fin 4096) (hn : Near 8 q k) :
    IsReal (scoreB P rb b h q k) := by
  unfold scoreB
  rw [if_pos hn]
  exact ((IsReal.sum _ _ fun x => (hP _ _ _).mul (hP _ _ _)).mul eighth_real).add (hr _ _)

theorem scoreB_ne_top (hP : ∀ b q x, IsReal (P b q x)) (hr : ∀ h j, IsReal (rb h j)) (b h : Fin 8) (q k : Fin 4096) : scoreB P rb b h q k ≠ ⊤ := by
  by_cases hn : Near 8 q k
  · exact (scoreB_real hP hr b h q k hn).ne_top
  · unfold scoreB; rw [if_neg hn]; exact bot_ne_top

theorem scoreB_self (hP : ∀ b q x, IsReal (P b q x)) (hr : ∀ h j, IsReal (rb h j)) (b h : Fin 8) (q : Fin 4096) : scoreB P rb b h q q ≠ ⊥ :=
  (scoreB_real hP hr b h q q ⟨le_rfl, by omega⟩).ne_bot
end

/-! ## Sums over a band of blocks -/

/-- Of `N` blocks of which only the `a`-th before `T` counts, the sum is that block, if there is one. -/
theorem pick {N : ℕ} (g : Fin N → EReal) (T a : ℕ) (hT : T < N) :
    (∑ j : Fin N, if j.val + a = T then g j else 0) = if h : a ≤ T then g ⟨T - a, by omega⟩ else 0 := by
  by_cases h : a ≤ T
  · rw [dif_pos h, Finset.sum_eq_single (⟨T - a, by omega⟩ : Fin N)]
    · rw [if_pos (by show T - a + a = T; omega)]
    · intro j _ hj
      rw [if_neg]
      intro e; apply hj; apply Fin.ext; show j.val = T - a; omega
    · intro hn; exact absurd (Finset.mem_univ _) hn
  · rw [dif_neg h]
    exact Finset.sum_eq_zero fun j _ => if_neg (by omega)

/-- A sum over 4096 keys by blocks of 256, all but three of which are zero. -/
theorem sum_three (f : Fin 4096 → EReal) (T : ℕ) (hT : T < 16) (hf : ∀ k : Fin 4096, (k / 256 + 2 < T ∨ T < k / 256) → f k = 0) :
    ∑ k, f k = (if h : 2 ≤ T then ∑ k : Fin 256, f ⟨256 * (T - 2) + k, by omega⟩ else 0)
      + (if h : 1 ≤ T then ∑ k : Fin 256, f ⟨256 * (T - 1) + k, by omega⟩ else 0) + ∑ k : Fin 256, f ⟨256 * T + k, by omega⟩ := by
  have e : ∑ k, f k = ∑ j : Fin 16, ∑ k : Fin 256, f ⟨256 * j + k, by omega⟩ := by
    rw [← (finProdFinEquiv (m := 16) (n := 256)).sum_comp, Fintype.sum_prod_type]
    refine Finset.sum_congr rfl fun j _ => Finset.sum_congr rfl fun k _ => congrArg f (Fin.ext ?_)
    simp [finProdFinEquiv]; omega
  rw [e]
  have g : ∀ j : Fin 16, (∑ k : Fin 256, f ⟨256 * j + k, by omega⟩) =
      (if j.val + 2 = T then ∑ k : Fin 256, f ⟨256 * j + k, by omega⟩ else 0) + (if j.val + 1 = T then ∑ k : Fin 256, f ⟨256 * j + k, by omega⟩ else 0)
        + (if j.val + 0 = T then ∑ k : Fin 256, f ⟨256 * j + k, by omega⟩ else 0) := by
    intro j
    by_cases h2 : j.val + 2 = T
    · rw [if_pos h2, if_neg (by omega), if_neg (by omega), add_zero, add_zero]
    · by_cases h1 : j.val + 1 = T
      · rw [if_neg h2, if_pos h1, if_neg (by omega), zero_add, add_zero]
      · by_cases h0 : j.val + 0 = T
        · rw [if_neg h2, if_neg h1, if_pos h0, zero_add, zero_add]
        · rw [if_neg h2, if_neg h1, if_neg h0, add_zero, add_zero]
          exact Finset.sum_eq_zero fun k _ => hf _ (by show (256 * j.val + k.val) / 256 + 2 < T ∨ T < (256 * j.val + k.val) / 256; omega)
  rw [Finset.sum_congr rfl fun j _ => g j, Finset.sum_add_distrib, Finset.sum_add_distrib, pick _ T 2 hT, pick _ T 1 hT, pick _ T 0 hT, dif_pos (Nat.zero_le T)]
  rfl

/-- A sum over 4096 keys by blocks of 128, all but two of which are zero. -/
theorem sum_two (f : Fin 4096 → EReal) (T : ℕ) (hT : T < 32) (hf : ∀ k : Fin 4096, (k / 128 + 1 < T ∨ T < k / 128) → f k = 0) :
    ∑ k, f k = (if h : 1 ≤ T then ∑ k : Fin 128, f ⟨128 * (T - 1) + k, by omega⟩ else 0) + ∑ k : Fin 128, f ⟨128 * T + k, by omega⟩ := by
  have e : ∑ k, f k = ∑ j : Fin 32, ∑ k : Fin 128, f ⟨128 * j + k, by omega⟩ := by
    rw [← (finProdFinEquiv (m := 32) (n := 128)).sum_comp, Fintype.sum_prod_type]
    refine Finset.sum_congr rfl fun j _ => Finset.sum_congr rfl fun k _ => congrArg f (Fin.ext ?_)
    simp [finProdFinEquiv]; omega
  rw [e]
  have g : ∀ j : Fin 32, (∑ k : Fin 128, f ⟨128 * j + k, by omega⟩) =
      (if j.val + 1 = T then ∑ k : Fin 128, f ⟨128 * j + k, by omega⟩ else 0)
        + (if j.val + 0 = T then ∑ k : Fin 128, f ⟨128 * j + k, by omega⟩ else 0) := by
    intro j
    by_cases h1 : j.val + 1 = T
    · rw [if_pos h1, if_neg (by omega), add_zero]
    · by_cases h0 : j.val + 0 = T
      · rw [if_neg h1, if_pos h0, zero_add]
      · rw [if_neg h1, if_neg h0, add_zero]
        exact Finset.sum_eq_zero fun k _ => hf _ (by show (128 * j.val + k.val) / 128 + 1 < T ∨ T < (128 * j.val + k.val) / 128; omega)
  rw [Finset.sum_congr rfl fun j _ => g j, Finset.sum_add_distrib, pick _ T 1 hT, pick _ T 0 hT, dif_pos (Nat.zero_le T)]
  rfl

/-- A sum over a group's 512 features, head by head. -/
theorem sum_heads (f : Fin 512 → EReal) : ∑ r, f r = ∑ n : Fin 8, ∑ d : Fin 64, f ⟨64 * n + d, by omega⟩ := by
  rw [← (finProdFinEquiv (m := 8) (n := 64)).sum_comp, Fintype.sum_prod_type]
  refine Finset.sum_congr rfl fun j _ => Finset.sum_congr rfl fun k _ => congrArg f (Fin.ext ?_)
  simp [finProdFinEquiv]; omega

end Cert.Mixer

end
-- ==== Proof.ProjSpec.lean ====
/-
  The input projection on one token, as formulas over the extended reals: the products of the token's normalized row with the columns of the
  weights, and the order in which the transposed result lists the columns. No program is named here.
-/
module

public import proofs.«01_k».proof.Proof.FfnSpec
public import proofs.«01_k».proof.Proof.AttnSpec
public import proofs.«01_k».proof.Proof.AttnMath

@[expose] public section

noncomputable section

namespace Cert.Proj

open Idealize.ShloMosaic
open Cert.Mixer (eighth)

/-- The product of the row `n` with column `j` of the weights. -/
def column (n : Fin 1024 → EReal) (w : Fin 1024 → Fin 2304 → EReal) (j : Fin 2304) : EReal := ∑ k, n k * w k j

/-- The column of the weights that row `f` of the transposed result holds: group A's queries, group B's queries, group B's values, then
    group A's keys and values. -/
def src (f : Fin 1792) : Fin 2304 :=
  if h0 : f.val < 512 then ⟨f, by omega⟩
  else if h1 : f.val < 1024 then ⟨f + 256, by omega⟩
  else if h2 : f.val < 1536 then ⟨f + 768, by omega⟩
  else ⟨f - 1024, by omega⟩

/-- Row `f` of the transposed result: a column, the queries divided by the root of the head size. -/
def feature (n : Fin 1024 → EReal) (w : Fin 1024 → Fin 2304 → EReal) (f : Fin 1792) : EReal :=
  if f.val < 1024 then column n w (src f) * eighth else column n w (src f)

/-- The weights as the kernel keeps them for the transposed result: rows in the result's order, the queries' rows already scaled. -/
def kept (w : Fin 1024 → Fin 2304 → EReal) (f : Fin 1792) (k : Fin 1024) : EReal :=
  if f.val < 1024 then w k (src f) * eighth else w k (src f)

/-- Scaling the weights is scaling the column: one eighth is a real number that is not negative, so it goes through the sum. -/
theorem sum_kept (n : Fin 1024 → EReal) (w : Fin 1024 → Fin 2304 → EReal) (f : Fin 1792) : ∑ k, kept w f k * n k = feature n w f := by
  unfold kept feature column
  by_cases h : f.val < 1024
  · simp only [if_pos h]
    rw [Mixer.eighth_eq, mul_comm (∑ k, n k * w k (src f)), Attn.coe_mul_sum _ _ (by norm_num)]
    exact Finset.sum_congr rfl fun k _ => by ac_rfl
  · simp only [if_neg h]
    exact Finset.sum_congr rfl fun k _ => mul_comm _ _

end Cert.Proj
-- ==== Proof.ProjBlock.lean ====
/-
  The first call's body at one grid point: what it leaves in the two results' blocks and in the two scratch arrays, from its input blocks.
  The first point prepares the weights in scratch; the later points read what that point left there.
-/
module

public import proofs.«01_k».proof.Proof.Gen.Kernel0Ideal.Value
public import proofs.«01_k».proof.Proof.ProjSpec
public import Idealize.ShloMosaic.Lib.Pointwise
public import Idealize.ShloMosaic.Lib.Pipeline.ReadBack
public import Idealize.ShloMosaic.Lib.Pipeline.ValueKit.Held

@[expose] public section

set_option maxRecDepth 16384

noncomputable section

namespace Cert.ProjBlock

open Cert.Kernel0Ideal Cert.Kernel0Ideal.Gen Idealize.ShloMosaic Idealize.ShloMosaic.TcCoe Idealize.SL.Sem
open Idealize.ShloMosaic.Tactic
open Cert.Mixer (eighth)

variable (m : (ℓ : Loc nD τ sig) → Buf (Elt Ideal) ℓ)

/-- The normalized rows of half a block. -/
theorem norm_apply (x : Vec Ideal S1x512x1024 .f32) (g : Vec Ideal S1x1024 .f32) (r : Fin 512) (d : Fin 1024) :
    k0_pay2 x g (ix2 r d) = Ffn.rms (fun k => x (ix3 0 r k)) (fun k => g (ix2 0 k)) d := by
  unfold Ffn.rms
  pointwise! [k0_pay2]

/-- Half a block of group B's keys. -/
theorem keys_apply (x : Vec Ideal S1x512x1024 .f32) (g : Vec Ideal S1x1024 .f32) (w : Vec Ideal S1024x512 .bf16) (r j : Fin 512) :
    k0_pay3 x g w (ix3 0 r j) = ∑ k : Fin 1024, k0_pay2 x g (ix2 r k) * w (ix2 k j) := by
  pointwise! [k0_pay3]

/-- Half a block of the transposed result. -/
theorem rows_apply (x : Vec Ideal S1x512x1024 .f32) (g : Vec Ideal S1x1024 .f32) (w : Vec Ideal S1792x1024 .bf16) (f : Fin 1792) (r : Fin 512) :
    k0_pay4 x g w (ix3 0 f r) = ∑ k : Fin 1024, w (ix2 f k) * k0_pay2 x g (ix2 r k) := by
  pointwise! [k0_pay4]

/-- Both halves of a block form the keys the same way. -/
theorem pay12_eq : @k0_pay12 = @k0_pay3 := rfl
/-- Both halves of a block form the transposed rows the same way. -/
theorem pay13_eq (x : Vec Ideal S1x512x1024 .f32) (g : Vec Ideal S1x1024 .f32) (w : Vec Ideal S1792x1024 .bf16) :
    k0_pay1 (k0_pay13 x g w) = k0_pay4 x g w := rfl
/-- Both groups' query weights are prepared the same way. -/
theorem pay7_eq : @k0_pay7 = @k0_pay6 := rfl

/-- The weights of group B's keys are kept as they are. -/
theorem key_weights (w : Vec Ideal S1024x512 .f32) (i : S1024x512.Idx) : k0_pay5 w i = w i := by
  pointwise [k0_pay5]

/-- The weights of queries are kept transposed and scaled. -/
theorem query_weights (w : Vec Ideal S1024x512 .f32) (f : Fin 512) (k : Fin 1024) : k0_pay6 w (ix2 f k) = w (ix2 k f) * eighth := by
  unfold eighth
  pointwise [k0_pay6]

/-- The weights of group B's values are kept transposed. -/
theorem value_weights (w : Vec Ideal S1024x512 .f32) (f : Fin 512) (k : Fin 1024) : k0_pay8 w (ix2 f k) = w (ix2 k f) := by
  pointwise [k0_pay8]

/-- The weights of group A's keys and values are kept transposed. -/
theorem small_weights (w : Vec Ideal S1024x256 .f32) (f : Fin 256) (k : Fin 1024) : k0_pay10 (k0_pay9 w) (ix2 f k) = w (ix2 k f) := by
  pointwise [k0_pay10, k0_pay9]

/-- The weights of group B's keys as kept in scratch. -/
def wk (w : Vec Ideal S1024x2304 .f32) : Vec Ideal S1024x512 .bf16 := fun i => w (ix2 (i 0) (⟨1280 + (i 1).val, by have := (i 1).isLt; change (i 1).val < 512 at this; omega⟩ : Fin 2304))

/-- The weights of the transposed result as kept in scratch. -/
def wt (w : Vec Ideal S1024x2304 .f32) : Vec Ideal S1792x1024 .bf16 := fun i => Proj.kept (fun k j => w (ix2 k j)) (i 0) (i 1)

/-- A block of group B's keys, from its input blocks and the kept weights. -/
def G3 (x : Vec Ideal S1x1024x1024 .f32) (g : Vec Ideal S1x1024 .f32) (u : Vec Ideal S1024x512 .bf16) : Vec Ideal S1x1024x512 .bf16 := fun i =>
  ∑ k, Ffn.rms (fun k => x (ix3 0 (i 1) k)) (fun k => g (ix2 0 k)) k * u (ix2 k (i 2))

/-- A block of the transposed result, from its input blocks and the kept weights. -/
def G4 (x : Vec Ideal S1x1024x1024 .f32) (g : Vec Ideal S1x1024 .f32) (u : Vec Ideal S1792x1024 .bf16) : Vec Ideal S1x1792x1024 .bf16 := fun i =>
  ∑ k, u (ix2 (i 1) k) * Ffn.rms (fun k => x (ix3 0 (i 2) k)) (fun k => g (ix2 0 k)) k

/-- Half the tokens of a block, normalized. -/
theorem half_norm (x : Vec Ideal S1x1024x1024 .f32) (g : Vec Ideal S1x1024 .f32) (o : ℕ)
    (h : ∀ a, (![0, o, 0] : Fin 3 → ℕ) a + (![1, 512, 1024] : Fin 3 → ℕ) a ≤ S1x1024x1024.size a) (r : Fin 512) :
    (fun k => k0_pay2 (View.ld x (Rect.unit (s := S1x1024x1024) ![0, o, 0] ![1, 512, 1024] h)) g (ix2 r k))
      = Ffn.rms (fun k => x (ix3 0 (⟨o + r, by have : o + 512 ≤ 1024 := h 1; omega⟩ : Fin 1024) k)) (fun k => g (ix2 0 k)) := by
  funext d
  rw [norm_apply]
  pointwise

/-- A stored half block of keys is that half of `G3`. -/
theorem keys_piece (x : Vec Ideal S1x1024x1024 .f32) (g : Vec Ideal S1x1024 .f32) (u : Vec Ideal S1024x512 .bf16) (o : ℕ)
    (h : ∀ a, (![0, o, 0] : Fin 3 → ℕ) a + (![1, 512, 1024] : Fin 3 → ℕ) a ≤ S1x1024x1024.size a)
    (h' : ∀ a, (![0, o, 0] : Fin 3 → ℕ) a + (![1, 512, 512] : Fin 3 → ℕ) a ≤ S1x1024x512.size a) (y : S1x512x512.Idx) :
    k0_pay3 (View.ld x (Rect.unit (s := S1x1024x1024) ![0, o, 0] ![1, 512, 1024] h)) g u y
      = G3 x g u ((Rect.unit (s := S1x1024x512) ![0, o, 0] ![1, 512, 512] h').emb y) := by
  obtain ⟨z, r, j, rfl⟩ : ∃ (z : Fin 1) (r j : Fin 512), y = ix3 z r j := ⟨y 0, y 1, y 2, eq_ix3 y⟩
  obtain rfl : z = 0 := Subsingleton.elim _ _
  have ho : o + 512 ≤ 1024 := h 1
  have e3 : (Rect.unit (s := S1x1024x512) ![0, o, 0] ![1, 512, 512] h').emb (ix3 0 r j) = ix3 0 (⟨o + r, by omega⟩ : Fin 1024) j := by
    funext a; apply Fin.ext; rw [Rect.emb_apply]; fin_cases a <;> simp [ix3]
  rw [keys_apply, e3]
  exact Finset.sum_congr rfl fun k _ => congrArg (· * u (ix2 k j)) (congrFun (half_norm x g o h r) k)

/-- A stored half block of the transposed result is that half of `G4`. -/
theorem rows_piece (x : Vec Ideal S1x1024x1024 .f32) (g : Vec Ideal S1x1024 .f32) (u : Vec Ideal S1792x1024 .bf16) (o : ℕ)
    (h : ∀ a, (![0, o, 0] : Fin 3 → ℕ) a + (![1, 512, 1024] : Fin 3 → ℕ) a ≤ S1x1024x1024.size a)
    (h' : ∀ a, (![0, 0, o] : Fin 3 → ℕ) a + (![1, 1792, 512] : Fin 3 → ℕ) a ≤ S1x1792x1024.size a) (y : S1x1792x512.Idx) :
    k0_pay4 (View.ld x (Rect.unit (s := S1x1024x1024) ![0, o, 0] ![1, 512, 1024] h)) g u y
      = G4 x g u ((Rect.unit (s := S1x1792x1024) ![0, 0, o] ![1, 1792, 512] h').emb y) := by
  obtain ⟨z, f, r, rfl⟩ : ∃ (z : Fin 1) (f : Fin 1792) (r : Fin 512), y = ix3 z f r := ⟨y 0, y 1, y 2, eq_ix3 y⟩
  obtain rfl : z = 0 := Subsingleton.elim _ _
  have ho : o + 512 ≤ 1024 := h 1
  have e3 : (Rect.unit (s := S1x1792x1024) ![0, 0, o] ![1, 1792, 512] h').emb (ix3 0 f r) = ix3 0 f (⟨o + r, by omega⟩ : Fin 1024) := by
    funext a; apply Fin.ext; rw [Rect.emb_apply]; fin_cases a <;> simp [ix3]
  rw [rows_apply, e3]
  exact Finset.sum_congr rfl fun k _ => congrArg (u (ix2 f k) * ·) (congrFun (half_norm x g o h r) k)

/-- A load of columns of the weights reads the columns from its offset on. -/
theorem ld_cols (w : Vec Ideal S1024x2304 .f32) (o n : ℕ)
    (h : ∀ a, (![0, o] : Fin 2 → ℕ) a + (![1024, n] : Fin 2 → ℕ) a ≤ S1024x2304.size a) (k : Fin 1024) (j : Fin n) :
    View.ld w (Rect.unit (s := S1024x2304) ![0, o] ![1024, n] h) (ix2 k j)
      = w (ix2 k (⟨o + j, by have : o + n ≤ 2304 := h 1; omega⟩ : Fin 2304)) := by
  pointwise

/-- Rows of prepared weights stored from row `q` on, read from columns `o` on, are those rows of the kept weights. -/
theorem queries_piece (w : Vec Ideal S1024x2304 .f32) (o q : ℕ)
    (h : ∀ a, (![0, o] : Fin 2 → ℕ) a + (![1024, 512] : Fin 2 → ℕ) a ≤ S1024x2304.size a)
    (h' : ∀ a, (![q, 0] : Fin 2 → ℕ) a + (![512, 1024] : Fin 2 → ℕ) a ≤ S1792x1024.size a) (hq : q + 512 ≤ 1024)
    (hs : ∀ f : Fin 512, (Proj.src ⟨q + f, by omega⟩).val = o + f) (y : S512x1024.Idx) :
    k0_pay6 (View.ld w (Rect.unit (s := S1024x2304) ![0, o] ![1024, 512] h)) y
      = wt w ((Rect.unit (s := S1792x1024) ![q, 0] ![512, 1024] h').emb y) := by
  obtain ⟨f, k, rfl⟩ : ∃ (f : Fin 512) (k : Fin 1024), y = ix2 f k := ⟨y 0, y 1, eq_ix2 y⟩
  have e2 : (Rect.unit (s := S1792x1024) ![q, 0] ![512, 1024] h').emb (ix2 f k) = ix2 (⟨q + f, by omega⟩ : Fin 1792) k := by
    funext a; apply Fin.ext; rw [Rect.emb_apply]; fin_cases a <;> simp [ix2]
  rw [query_weights, e2, ld_cols]
  show _ = Proj.kept (fun k j => w (ix2 k j)) (⟨q + f, by omega⟩ : Fin 1792) k
  unfold Proj.kept
  rw [if_pos (show q + f.val < 1024 by omega)]
  exact congrArg (fun j => w (ix2 k j) * eighth) (Fin.ext (hs f).symm)

/-- The stored weights of group B's values are their rows of the kept weights. -/
theorem values_piece (w : Vec Ideal S1024x2304 .f32) (y : S512x1024.Idx) :
    k0_pay8 (View.ld w (Rect.unit (s := S1024x2304) ![0, 1792] ![1024, 512] inb_S1024x2304_S1024x512_0_1792)) y
      = wt w ((Rect.unit (s := S1792x1024) ![1024, 0] ![512, 1024] inb_S1792x1024_S512x1024_1024_0).emb y) := by
  obtain ⟨f, k, rfl⟩ : ∃ (f : Fin 512) (k : Fin 1024), y = ix2 f k := ⟨y 0, y 1, eq_ix2 y⟩
  have e2 : (Rect.unit (s := S1792x1024) ![1024, 0] ![512, 1024] inb_S1792x1024_S512x1024_1024_0).emb (ix2 f k) = ix2 (⟨1024 + f, by omega⟩ : Fin 1792) k := by
    funext a; apply Fin.ext; rw [Rect.emb_apply]; fin_cases a <;> simp [ix2]
  rw [value_weights, e2, ld_cols]
  show _ = Proj.kept (fun k j => w (ix2 k j)) (⟨1024 + f, by omega⟩ : Fin 1792) k
  unfold Proj.kept Proj.src
  rw [if_neg (show ¬ 1024 + f.val < 1024 by omega), dif_neg (show ¬ 1024 + f.val < 512 by omega), dif_neg (show ¬ 1024 + f.val < 1024 by omega),
    dif_pos (show 1024 + f.val < 1536 by omega)]
  exact congrArg (fun j => w (ix2 k j)) (Fin.ext (by dsimp only; omega))

/-- The stored weights of group A's keys and values are their rows of the kept weights. -/
theorem small_piece (w : Vec Ideal S1024x2304 .f32) (y : S256x1024.Idx) :
    k0_pay10 (k0_pay9 (View.ld w (Rect.unit (s := S1024x2304) ![0, 512] ![1024, 256] inb_S1024x2304_S1024x256_0_512))) y
      = wt w ((Rect.unit (s := S1792x1024) ![1536, 0] ![256, 1024] inb_S1792x1024_S256x1024_1536_0).emb y) := by
  obtain ⟨f, k, rfl⟩ : ∃ (f : Fin 256) (k : Fin 1024), y = ix2 f k := ⟨y 0, y 1, eq_ix2 y⟩
  have e2 : (Rect.unit (s := S1792x1024) ![1536, 0] ![256, 1024] inb_S1792x1024_S256x1024_1536_0).emb (ix2 f k) = ix2 (⟨1536 + f, by omega⟩ : Fin 1792) k := by
    funext a; apply Fin.ext; rw [Rect.emb_apply]; fin_cases a <;> simp [ix2]
  rw [small_weights, e2, ld_cols]
  show _ = Proj.kept (fun k j => w (ix2 k j)) (⟨1536 + f, by omega⟩ : Fin 1792) k
  unfold Proj.kept Proj.src
  rw [if_neg (show ¬ 1536 + f.val < 1024 by omega), dif_neg (show ¬ 1536 + f.val < 512 by omega), dif_neg (show ¬ 1536 + f.val < 1024 by omega),
    dif_neg (show ¬ 1536 + f.val < 1536 by omega)]
  exact congrArg (fun j => w (ix2 k j)) (Fin.ext (by dsimp only; omega))

/-- The first point's stores of prepared weights, the last one first. -/
abbrev stores (w : Vec Ideal S1024x2304 .f32) : List (View.Piece (Elt Ideal) S1792x1024 .bf16) :=
  [⟨Rect.unit ![1536, 0] ![256, 1024] inb_S1792x1024_S256x1024_1536_0,
      k0_pay10 (k0_pay9 (View.ld w (Rect.unit ![0, 512] ![1024, 256] inb_S1024x2304_S1024x256_0_512)))⟩,
    ⟨Rect.unit ![1024, 0] ![512, 1024] inb_S1792x1024_S512x1024_1024_0,
      k0_pay8 (View.ld w (Rect.unit ![0, 1792] ![1024, 512] inb_S1024x2304_S1024x512_0_1792))⟩,
    ⟨Rect.unit ![512, 0] ![512, 1024] inb_S1792x1024_S512x1024_512_0,
      k0_pay7 (View.ld w (Rect.unit ![0, 768] ![1024, 512] inb_S1024x2304_S1024x512_0_768))⟩,
    ⟨Rect.unit ![0, 0] ![512, 1024] inb_S1792x1024_S512x1024_0_0,
      k0_pay6 (View.ld w (Rect.unit ![0, 0] ![1024, 512] inb_S1024x2304_S1024x512_0_0))⟩]

/-- Each store of prepared weights is a block of the kept weights. -/
theorem stores_kept (w : Vec Ideal S1024x2304 .f32) : ∀ p ∈ stores w, ∀ x : p.1.shape.Idx, p.2 x = wt w (p.1.emb x) := by
  unfold stores
  rw [pay7_eq]
  simp only [List.forall_mem_cons, List.not_mem_nil, false_imp_iff, implies_true, and_true]
  refine ⟨small_piece w, values_piece w, queries_piece w 768 512 _ _ (by omega) fun f => ?_, queries_piece w 0 0 _ _ (by omega) fun f => ?_⟩
  · unfold Proj.src
    rw [dif_neg (show ¬ 512 + f.val < 512 by omega), dif_pos (show 512 + f.val < 1024 by omega)]
    dsimp only; omega
  · unfold Proj.src
    rw [dif_pos (show 0 + f.val < 512 by omega)]

/-- Reading all of the scratch after the stores gives the kept weights. -/
theorem read_stores {sig : RefSig} {κ : Kind} {sp : Space} (v : View sig κ sp S1792x1024 .bf16) (w : Vec Ideal S1024x2304 .f32) :
    v.readCov (stores w) (Rect.unit (s := S1792x1024) ![0, 0] ![1792, 1024] inb_S1792x1024_S1792x1024_0_0).toLoadRect = wt w := by
  have hc (y : S1792x1024.Idx) : ∃ p ∈ stores w, y ∈ p.1.set := View.cover_of_tiledBy (stores w) ![256, 1024] (by sl_kernel_rfl) y
  rw [View.readCov_eq_canon_ld _ _ _ hc]
  funext y
  have e : (Rect.unit (s := S1792x1024) ![0, 0] ![1792, 1024] inb_S1792x1024_S1792x1024_0_0).emb y = y := by
    funext a; apply Fin.ext; rw [Rect.emb_apply]; fin_cases a <;> simp
  show View.canon (stores w) ((Rect.unit (s := S1792x1024) ![0, 0] ![1792, 1024] inb_S1792x1024_S1792x1024_0_0).emb y) = _
  rw [e]
  exact View.canon_apply_of_pieces (wt w) _ (stores_kept w) y (hc y)

/-- The key weights of the first point, as one array. -/
theorem key_store (w : Vec Ideal S1024x2304 .f32) :
    k0_pay5 (View.ld w (Rect.unit ![0, 1280] ![1024, 512] inb_S1024x2304_S1024x512_0_1280)) = wk w := by
  funext y
  obtain ⟨k, j, rfl⟩ : ∃ (k : Fin 1024) (j : Fin 512), y = ix2 k j := ⟨y 0, y 1, eq_ix2 y⟩
  rw [key_weights, ld_cols]
  rfl

/-- The first point keeps the weights of group B's keys. -/
theorem scratch0 (c : Dev nD) (t : Fin cfg0.N) (h0 : t.val % 32 = 0) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) = wk (iblk m c 2 t) := by
  funext y
  have hc := scover0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  unfold sout0_A_0
  rw [View.read_writes_eq_canon _ _ _ hc]
  refine View.canon_apply_of_pieces _ _ ?_ y (hc y)
  unfold kernelRun0_A
  dsimp only
  sl_unfold_words
  simp (disch := decide) only [↓View.readCov_fill, ↓View.readCov_cons_unit_lit', View.readAt_eq_ld, (hs0_0 t).read_unread, (hs0_1 t).read_unread, (hs0_2 t).read_unread, read_unread_whole, View.ld_unit_lit]
  simp only [List.forall_mem_cons, List.not_mem_nil, false_imp_iff, implies_true, and_true]
  intro x
  rw [key_store]
  exact congrArg (wk (iblk m c 2 t)) (by
    funext a; apply Fin.ext; rw [Rect.emb_apply]; fin_cases a <;> simp)

/-- The first point keeps the weights of the transposed result. -/
theorem scratch1 (c : Dev nD) (t : Fin cfg0.N) (h0 : t.val % 32 = 0) :
    sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) = wt (iblk m c 2 t) := by
  funext y
  have hc := scover0_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  unfold sout0_A_1
  rw [View.read_writes_eq_canon _ _ _ hc]
  refine View.canon_apply_of_pieces _ _ ?_ y (hc y)
  unfold kernelRun0_A
  dsimp only
  sl_unfold_words
  simp (disch := decide) only [↓View.readCov_fill, ↓View.readCov_cons_unit_lit', View.readAt_eq_ld, (hs0_0 t).read_unread, (hs0_1 t).read_unread, (hs0_2 t).read_unread, read_unread_whole, View.ld_unit_lit]
  exact stores_kept (iblk m c 2 t)

/-- The keys' block at the first point. -/
theorem out3A (c : Dev nD) (t : Fin cfg0.N) (h0 : t.val % 32 = 0) :
    out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) = G3 (iblk m c 0 t) (iblk m c 1 t) (wk (iblk m c 2 t)) := by
  funext y
  have hc := cover0_A_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  unfold out0_A_3
  rw [View.read_writes_eq_canon _ _ _ hc]
  refine View.canon_apply_of_pieces _ _ ?_ y (hc y)
  unfold kernelRun0_A
  dsimp only
  sl_unfold_words
  simp (disch := decide) only [↓View.readCov_fill, ↓View.readCov_cons_unit_lit', View.readAt_eq_ld, (hs0_0 t).read_unread, (hs0_1 t).read_unread, (hs0_2 t).read_unread, read_unread_whole, View.ld_unit_lit]
  simp only [List.forall_mem_cons, List.not_mem_nil, false_imp_iff, implies_true, and_true]
  rw [pay12_eq, key_store]
  exact ⟨keys_piece _ _ _ 512 _ _, keys_piece _ _ _ 0 _ _⟩

/-- The transposed block at the first point. -/
theorem out4A (c : Dev nD) (t : Fin cfg0.N) (h0 : t.val % 32 = 0) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) = G4 (iblk m c 0 t) (iblk m c 1 t) (wt (iblk m c 2 t)) := by
  funext y
  have hc := cover0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  unfold out0_A_4
  rw [View.read_writes_eq_canon _ _ _ hc]
  refine View.canon_apply_of_pieces _ _ ?_ y (hc y)
  unfold kernelRun0_A
  dsimp only
  sl_unfold_words
  simp (disch := decide) only [↓View.readCov_fill, ↓View.readCov_cons_unit_lit', View.readAt_eq_ld, (hs0_0 t).read_unread, (hs0_1 t).read_unread, (hs0_2 t).read_unread, read_unread_whole, View.ld_unit_lit]
  simp only [List.forall_mem_cons, List.not_mem_nil, false_imp_iff, implies_true, and_true]
  rw [pay13_eq, read_stores]
  exact ⟨rows_piece _ _ _ 512 _ _, rows_piece _ _ _ 0 _ _⟩

/-- The keys' block at a later point, over the scratch it finds. -/
theorem out3B (c : Dev nD) (t : Fin cfg0.N) (h0 : ¬t.val % 32 = 0) (u0 : Vec Ideal S1024x512 .bf16) (u1 : Vec Ideal S1792x1024 .bf16) :
    out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) u0 u1 = G3 (iblk m c 0 t) (iblk m c 1 t) u0 := by
  funext y
  have hc := cover0_B_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) u0 u1
  unfold out0_B_3
  rw [View.read_writes_eq_canon _ _ _ hc]
  refine View.canon_apply_of_pieces _ _ ?_ y (hc y)
  unfold kernelRun0_B
  dsimp only
  sl_unfold_words
  simp (disch := decide) only [↓View.readCov_fill, ↓View.readCov_cons_unit_lit', View.readAt_eq_ld, (hs0_0 t).read_unread, (hs0_1 t).read_unread, (hs0_2 t).read_unread, read_unread_whole, View.ld_unit_lit]
  simp only [List.forall_mem_cons, List.not_mem_nil, false_imp_iff, implies_true, and_true]
  rw [pay12_eq]
  exact ⟨keys_piece _ _ _ 512 _ _, keys_piece _ _ _ 0 _ _⟩

/-- The transposed block at a later point, over the scratch it finds. -/
theorem out4B (c : Dev nD) (t : Fin cfg0.N) (h0 : ¬t.val % 32 = 0) (u0 : Vec Ideal S1024x512 .bf16) (u1 : Vec Ideal S1792x1024 .bf16) :
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) u0 u1 = G4 (iblk m c 0 t) (iblk m c 1 t) u1 := by
  funext y
  have hc := cover0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) u0 u1
  unfold out0_B_4
  rw [View.read_writes_eq_canon _ _ _ hc]
  refine View.canon_apply_of_pieces _ _ ?_ y (hc y)
  unfold kernelRun0_B
  dsimp only
  sl_unfold_words
  simp (disch := decide) only [↓View.readCov_fill, ↓View.readCov_cons_unit_lit', View.readAt_eq_ld, (hs0_0 t).read_unread, (hs0_1 t).read_unread, (hs0_2 t).read_unread, read_unread_whole, View.ld_unit_lit]
  simp only [List.forall_mem_cons, List.not_mem_nil, false_imp_iff, implies_true, and_true]
  rw [pay13_eq]
  exact ⟨rows_piece _ _ _ 512 _ _, rows_piece _ _ _ 0 _ _⟩

end Cert.ProjBlock
-- ==== Proof.ProjKernel.lean ====
/-
  The first call (norm and input projection): the two arrays it ends with, index by index, as formulas of the argument arrays. Each grid point
  writes one block of 1024 tokens of one sequence into each array; the blocks tile both. The weights in scratch are those the first point kept.
-/
module

public import proofs.«01_k».proof.Proof.ProjBlock

@[expose] public section

set_option maxRecDepth 16384

noncomputable section

namespace Cert.ProjKernel

open Cert.Kernel0Ideal Cert.Kernel0Ideal.Gen Cert.Kernel0Ideal.Value Idealize.ShloMosaic Idealize.ShloMosaic.TcCoe Idealize.SL.Sem
open Idealize.ShloMosaic.Tactic
open Idealize.ShloMosaic.Pipeline (Dat)
open Cert.ProjBlock (wk wt G3 G4)

variable (m : (ℓ : Loc nD τ sig) → Buf (Elt Ideal) ℓ)

/-- Where the blocks of a grid point lie: point `4 b + s` takes token block `s` of sequence `b`. -/
theorem idx_facts : ∀ t : Fin cfg0.N,
    win0_0.index t (0 : Fin 3) = t.val / 4 ∧ win0_0.index t (1 : Fin 3) = t.val % 4 ∧ win0_0.index t (2 : Fin 3) = 0 ∧
    win0_1.index t (0 : Fin 2) = 0 ∧ win0_1.index t (1 : Fin 2) = 0 ∧ win0_2.index t (0 : Fin 2) = 0 ∧ win0_2.index t (1 : Fin 2) = 0 ∧
    win0_3.index t (0 : Fin 3) = t.val / 4 ∧ win0_3.index t (1 : Fin 3) = t.val % 4 ∧ win0_3.index t (2 : Fin 3) = 0 ∧
    win0_4.index t (0 : Fin 3) = t.val / 4 ∧ win0_4.index t (1 : Fin 3) = 0 ∧ win0_4.index t (2 : Fin 3) = t.val % 4 :=
  (by decide +kernel : ∀ t : Fin grid0.N, _)

/-- Every point writes its block of keys back. -/
theorem flushes3 : ∀ t : Fin cfg0.N, (cfg0.win 3).flush t = true := (by decide +kernel : ∀ t : Fin grid0.N, win0_3.flush t = true)
/-- Every point writes its transposed block back. -/
theorem flushes4 : ∀ t : Fin cfg0.N, (cfg0.win 4).flush t = true := (by decide +kernel : ∀ t : Fin grid0.N, win0_4.flush t = true)

/-- The grid has 32 points. -/
theorem points : cfg0.N = 32 := N_0

/-- The sequence and the token of row `r` of a point's block. -/
abbrev tok (t : Fin cfg0.N) (r : Fin 1024) : Fin 4096 := ⟨t.val % 4 * 1024 + r, by omega⟩
/-- The sequence of a point's block. -/
abbrev sq (t : Fin cfg0.N) : Fin 8 := ⟨t.val / 4, by have := t.isLt; have := points; omega⟩

/-- The layer's input at a token. -/
abbrev row (c : Dev nD) (b : Fin 8) (s : Fin 4096) : Fin 1024 → EReal :=
  fun k => (m ((c : Thread nD τ).loc main_arg0) : Vec Ideal S8x4096x1024 .f32) (ix3 b s k)
/-- The norm's gain. -/
abbrev gain (c : Dev nD) : Fin 1024 → EReal := fun k => (m ((c : Thread nD τ).loc main_arg1) : Vec Ideal S1x1024 .f32) (ix2 0 k)
/-- The weights. -/
abbrev weights (c : Dev nD) : Fin 1024 → Fin 2304 → EReal :=
  fun k j => (m ((c : Thread nD τ).loc main_arg2) : Vec Ideal S1x1024x2304 .f32) (ix3 0 k j)

/-- A point's block of the layer's input. -/
theorem x_blk (c : Dev nD) (t : Fin cfg0.N) (k r : Fin 1024) :
    (iblk m c 0 t : Vec Ideal S1x1024x1024 .f32) (ix3 0 r k) = row m c (sq t) (tok t r) k := by
  obtain ⟨h0, h1, h2, -⟩ := idx_facts t
  have e : ((cfg0.win 0).blk t).view.emb (ix3 0 r k) = (ix3 (sq t) (tok t r) k : S8x4096x1024.Idx) := by
    funext a; apply Fin.ext
    refine (Pipeline.Window.rect_emb_val win0_0 t (ix3 0 r k) a).trans ?_
    fin_cases a
    · show win0_0.index t (0 : Fin 3) * 1 + 0 = t.val / 4; omega
    · show win0_0.index t (1 : Fin 3) * 1024 + r.val = t.val % 4 * 1024 + r.val; omega
    · show win0_0.index t (2 : Fin 3) * 1024 + k.val = k.val; omega
  show (V m c main_arg0 : Vec Ideal S8x4096x1024 .f32) (((cfg0.win 0).blk t).view.emb (ix3 0 r k)) = _
  rw [e, V_main_arg0]

/-- The gain as every point finds it. -/
theorem g_blk (c : Dev nD) (t : Fin cfg0.N) (k : Fin 1024) : (iblk m c 1 t : Vec Ideal S1x1024 .f32) (ix2 0 k) = gain m c k := by
  obtain ⟨-, -, -, h0, h1, -⟩ := idx_facts t
  have hV : (V m c main_v1 : Vec Ideal S1x1024 .f32) =
      shapeCast S1x1024 (shapeCast S1024 (m ((c : Thread nD τ).loc main_arg1) : Vec Ideal S1x1024 .f32)
        shapeCasts_S1x1024_S1024) shapeCasts_S1024_S1x1024 := by
    unfold V; after_results; rfl
  show (V m c main_v1 : Vec Ideal S1x1024 .f32) (((cfg0.win 1).blk t).view.emb (ix2 0 k)) = _
  have e : ((cfg0.win 1).blk t).view.emb (ix2 0 k) = (ix2 0 k : S1x1024.Idx) := by
    funext a; apply Fin.ext
    refine (Pipeline.Window.rect_emb_val win0_1 t (ix2 0 k) a).trans ?_
    fin_cases a
    · show win0_1.index t (0 : Fin 2) * 1 + 0 = 0; omega
    · show win0_1.index t (1 : Fin 2) * 1024 + k.val = k.val; omega
  rw [e, hV]
  pointwise

/-- The weight matrix as every point finds it. -/
abbrev W (c : Dev nD) : Vec Ideal S1024x2304 .f32 := fun i => weights m c (i 0) (i 1)

/-- Dropping the leading axis of extent one of the weights, read at an index. -/
theorem drop_weights (X : Vec Ideal S1x1024x2304 .f32) (k : Fin 1024) (j : Fin 2304) :
    (shapeCast S1024x2304 X shapeCasts_S1x1024x2304_S1024x2304 : Vec Ideal S1024x2304 .f32) (ix2 k j) = X (ix3 0 k j) := by
  pointwise

/-- The weights are the same block at every point. -/
theorem w_blk (c : Dev nD) (t : Fin cfg0.N) : (iblk m c 2 t : Vec Ideal S1024x2304 .f32) = W m c := by
  obtain ⟨-, -, -, -, -, h0, h1, -⟩ := idx_facts t
  have hV : (V m c main_v2 : Vec Ideal S1024x2304 .f32) =
      shapeCast S1024x2304 (m ((c : Thread nD τ).loc main_arg2) : Vec Ideal S1x1024x2304 .f32) shapeCasts_S1x1024x2304_S1024x2304 := by
    unfold V; after_results; rfl
  funext i
  obtain ⟨k, j, rfl⟩ : ∃ (k : Fin 1024) (j : Fin 2304), i = ix2 k j := ⟨i 0, i 1, eq_ix2 i⟩
  show (V m c main_v2 : Vec Ideal S1024x2304 .f32) (((cfg0.win 2).blk t).view.emb (ix2 k j)) = _
  have e : ((cfg0.win 2).blk t).view.emb (ix2 k j) = (ix2 k j : S1024x2304.Idx) := by
    funext a; apply Fin.ext
    refine (Pipeline.Window.rect_emb_val win0_2 t (ix2 k j) a).trans ?_
    fin_cases a
    · show win0_2.index t (0 : Fin 2) * 1024 + k.val = k.val; omega
    · show win0_2.index t (1 : Fin 2) * 2304 + j.val = j.val; omega
  rw [e, hV]
  exact drop_weights _ _ _

/-- After every point the scratch holds the weights the first point kept. -/
theorem scratch (c : Dev nD) (t : Fin cfg0.N) : (outsAt0 m c t.val t.isLt).2.2 = (wk (W m c), wt (W m c)) := by
  refine Pipeline.eq_of_write_hold (fun n h => (outsAt0 m c n h).2.2) 32 (fun _ => (wk (W m c), wt (W m c))) (fun t h0 => ?_) (fun t h0 => ?_) t
  · rw [outsAt0_A m c t h0]
    dsimp only
    rw [ProjBlock.scratch0 m c t h0, ProjBlock.scratch1 m c t h0, w_blk]
  · rw [outsAt0_B m c t h0]
    rfl

/-- What the body leaves in the keys' block at a grid point. -/
theorem outs3 (c : Dev nD) (t : Fin cfg0.N) : (outsAt0 m c t.val t.isLt).1 = G3 (iblk m c 0 t) (iblk m c 1 t) (wk (W m c)) := by
  by_cases h0 : t.val % 32 = 0
  · rw [outsAt0_A m c t h0]
    dsimp only
    rw [ProjBlock.out3A m c t h0, w_blk]
  · have hs := scratch m c ⟨t.val - 1, Nat.lt_of_le_of_lt (Nat.sub_le _ _) t.isLt⟩
    rw [outsAt0_B m c t h0]
    dsimp only at hs ⊢
    rw [hs]
    exact ProjBlock.out3B m c t h0 _ _

/-- What the body leaves in the transposed block at a grid point. -/
theorem outs4 (c : Dev nD) (t : Fin cfg0.N) : (outsAt0 m c t.val t.isLt).2.1 = G4 (iblk m c 0 t) (iblk m c 1 t) (wt (W m c)) := by
  by_cases h0 : t.val % 32 = 0
  · rw [outsAt0_A m c t h0]
    dsimp only
    rw [ProjBlock.out4A m c t h0, w_blk]
  · have hs := scratch m c ⟨t.val - 1, Nat.lt_of_le_of_lt (Nat.sub_le _ _) t.isLt⟩
    rw [outsAt0_B m c t h0]
    dsimp only at hs ⊢
    rw [hs]
    exact ProjBlock.out4B m c t h0 _ _

/-- A token's normalized row. -/
abbrev normed (c : Dev nD) (b : Fin 8) (s : Fin 4096) : Fin 1024 → EReal := Ffn.rms (row m c b s) (gain m c)

/-- The array of group B's keys the call ends with. -/
def result3 (c : Dev nD) : Vec Ideal S8x4096x512 .bf16 := fun i =>
  Proj.column (normed m c (i 0) (i 1)) (weights m c) (⟨1280 + (i 2).val, by have := (i 2).isLt; change (i 2).val < 512 at this; omega⟩ : Fin 2304)

/-- The transposed array the call ends with. -/
def result4 (c : Dev nD) : Vec Ideal S8x1792x4096 .bf16 := fun i => Proj.feature (normed m c (i 0) (i 2)) (weights m c) (i 1)

/-- The normalized rows of a point's block. -/
theorem norm_blk (c : Dev nD) (t : Fin cfg0.N) (r : Fin 1024) :
    Ffn.rms (fun k => (iblk m c 0 t : Vec Ideal S1x1024x1024 .f32) (ix3 0 r k)) (fun k => (iblk m c 1 t : Vec Ideal S1x1024 .f32) (ix2 0 k))
      = normed m c (sq t) (tok t r) := by
  rw [funext fun k => x_blk m c t k r, funext fun k => g_blk m c t k]

/-- What point `t` writes back is its block of the keys. -/
theorem flushed_eq3 (c : Dev nD) (t : Fin cfg0.N) (r : Fin 1024) (j : Fin 512) :
    (outsAt0 m c t.val t.isLt).1 (ix3 0 r j) = result3 m c (ix3 (sq t) (tok t r) j) := by
  rw [outs3]
  exact Finset.sum_congr rfl fun k _ => congrArg (· * weights m c k (⟨1280 + j.val, by omega⟩ : Fin 2304)) (congrFun (norm_blk m c t r) k)

/-- What point `t` writes back is its block of the transposed array. -/
theorem flushed_eq4 (c : Dev nD) (t : Fin cfg0.N) (f : Fin 1792) (r : Fin 1024) :
    (outsAt0 m c t.val t.isLt).2.1 (ix3 0 f r) = result4 m c (ix3 (sq t) f (tok t r)) := by
  rw [outs4]
  refine Eq.trans ?_ (Proj.sum_kept (normed m c (sq t) (tok t r)) (weights m c) f)
  exact Finset.sum_congr rfl fun k _ => congrArg (Proj.kept (weights m c) f k * ·) (congrFun (norm_blk m c t r) k)

/-- An index of the keys lies in the block of a point. -/
theorem mem_blk3 (t : Fin cfg0.N) (i : S8x4096x512.Idx) (h0 : (i 0).val = t.val / 4)
    (h1 : t.val % 4 * 1024 ≤ (i 1).val) (h1' : (i 1).val < t.val % 4 * 1024 + 1024) :
    i ∈ ((cfg0.win 3).blk t).view.set := by
  obtain ⟨-, -, -, -, -, -, -, e0, e1, e2, -⟩ := idx_facts t
  show i ∈ ((View.whole main_v3_0).slice (win0_3.rect t)).set
  rw [View.set_slice_whole, Rect.mem_set_unit]
  intro a
  fin_cases a
  · show win0_3.index t (0 : Fin 3) * 1 ≤ (i 0).val ∧ (i 0).val < win0_3.index t (0 : Fin 3) * 1 + 1; omega
  · show win0_3.index t (1 : Fin 3) * 1024 ≤ (i 1).val ∧ (i 1).val < win0_3.index t (1 : Fin 3) * 1024 + 1024; omega
  · have h : (i 2).val < 512 := (i 2).isLt
    show win0_3.index t (2 : Fin 3) * 512 ≤ (i 2).val ∧ (i 2).val < win0_3.index t (2 : Fin 3) * 512 + 512
    omega

/-- An index of the transposed array lies in the block of a point. -/
theorem mem_blk4 (t : Fin cfg0.N) (i : S8x1792x4096.Idx) (h0 : (i 0).val = t.val / 4)
    (h1 : t.val % 4 * 1024 ≤ (i 2).val) (h1' : (i 2).val < t.val % 4 * 1024 + 1024) :
    i ∈ ((cfg0.win 4).blk t).view.set := by
  obtain ⟨-, -, -, -, -, -, -, -, -, -, e0, e1, e2⟩ := idx_facts t
  show i ∈ ((View.whole main_v3_1).slice (win0_4.rect t)).set
  rw [View.set_slice_whole, Rect.mem_set_unit]
  intro a
  fin_cases a
  · show win0_4.index t (0 : Fin 3) * 1 ≤ (i 0).val ∧ (i 0).val < win0_4.index t (0 : Fin 3) * 1 + 1; omega
  · have h : (i 1).val < 1792 := (i 1).isLt
    show win0_4.index t (1 : Fin 3) * 1792 ≤ (i 1).val ∧ (i 1).val < win0_4.index t (1 : Fin 3) * 1792 + 1792
    omega
  · show win0_4.index t (2 : Fin 3) * 1024 ≤ (i 2).val ∧ (i 2).val < win0_4.index t (2 : Fin 3) * 1024 + 1024; omega

/-- Where an index of a block of keys lies in the array. -/
theorem emb3 (t : Fin cfg0.N) (r : Fin 1024) (j : Fin 512) :
    ((cfg0.win 3).blk t).view.emb (ix3 0 r j) = (ix3 (sq t) (tok t r) j : S8x4096x512.Idx) := by
  obtain ⟨-, -, -, -, -, -, -, e0, e1, e2, -⟩ := idx_facts t
  funext a; apply Fin.ext
  refine (Pipeline.Window.rect_emb_val win0_3 t (ix3 0 r j) a).trans ?_
  fin_cases a
  · show win0_3.index t (0 : Fin 3) * 1 + 0 = t.val / 4; omega
  · show win0_3.index t (1 : Fin 3) * 1024 + r.val = t.val % 4 * 1024 + r.val; omega
  · show win0_3.index t (2 : Fin 3) * 512 + j.val = j.val; omega

/-- Where an index of a transposed block lies in the array. -/
theorem emb4 (t : Fin cfg0.N) (f : Fin 1792) (r : Fin 1024) :
    ((cfg0.win 4).blk t).view.emb (ix3 0 f r) = (ix3 (sq t) f (tok t r) : S8x1792x4096.Idx) := by
  obtain ⟨-, -, -, -, -, -, -, -, -, -, e0, e1, e2⟩ := idx_facts t
  funext a; apply Fin.ext
  refine (Pipeline.Window.rect_emb_val win0_4 t (ix3 0 f r) a).trans ?_
  fin_cases a
  · show win0_4.index t (0 : Fin 3) * 1 + 0 = t.val / 4; omega
  · show win0_4.index t (1 : Fin 3) * 1792 + f.val = f.val; omega
  · show win0_4.index t (2 : Fin 3) * 1024 + r.val = t.val % 4 * 1024 + r.val; omega

/-- The keys' array the call ends with. -/
theorem arr_eq3 (c : Dev nD) : (dats m 0 c).arrAt 3 cfg0.N = result3 m c := by
  refine (dats m 0 c).arrAt_eq_of_cover 3 (result3 m c) ?_ ?_
  · intro t _
    rw [flushed3 m c t]
    funext y
    obtain ⟨r, j, rfl⟩ : ∃ (r : Fin 1024) (j : Fin 512), y = ix3 0 r j := by
      refine ⟨y 1, y 2, (eq_ix3 y).trans ?_⟩
      congr 1
      exact Subsingleton.elim (α := Fin 1) _ _
    refine (flushed_eq3 m c t r j).trans ?_
    show _ = result3 m c (((cfg0.win 3).blk t).view.emb (ix3 0 r j))
    rw [emb3]
  · intro i
    have h0 : (i 0).val < 8 := (i 0).isLt
    have h1 : (i 1).val < 4096 := (i 1).isLt
    refine ⟨⟨(i 0).val * 4 + (i 1).val / 1024, by rw [points]; omega⟩, flushes3 _, mem_blk3 _ i ?_ ?_ ?_⟩ <;> dsimp only <;> omega

/-- The transposed array the call ends with. -/
theorem arr_eq4 (c : Dev nD) : (dats m 0 c).arrAt 4 cfg0.N = result4 m c := by
  refine (dats m 0 c).arrAt_eq_of_cover 4 (result4 m c) ?_ ?_
  · intro t _
    rw [flushed4 m c t]
    funext y
    obtain ⟨f, r, rfl⟩ : ∃ (f : Fin 1792) (r : Fin 1024), y = ix3 0 f r := by
      refine ⟨y 1, y 2, (eq_ix3 y).trans ?_⟩
      congr 1
      exact Subsingleton.elim (α := Fin 1) _ _
    refine (flushed_eq4 m c t f r).trans ?_
    show _ = result4 m c (((cfg0.win 4).blk t).view.emb (ix3 0 f r))
    rw [emb4]
  · intro i
    have h0 : (i 0).val < 8 := (i 0).isLt
    have h1 : (i 2).val < 4096 := (i 2).isLt
    refine ⟨⟨(i 0).val * 4 + (i 2).val / 1024, by rw [points]; omega⟩, flushes4 _, mem_blk4 _ i ?_ ?_ ?_⟩ <;> dsimp only <;> omega

end Cert.ProjKernel
-- ==== Proof.ProjReference.lean ====
/-
  The reference of the first call, both results read at one index: the same formulas of the argument arrays, `Cert.Proj.column` and
  `Cert.Proj.feature` of the token's normalized row.
-/
module

public import proofs.«01_k».proof.Proof.ProjSpec
public import proofs.«01_k».proof.Proof.Gen.Reference0Ideal.Read
public import Idealize.ShloMosaic.Lib.Pointwise

@[expose] public section

set_option maxRecDepth 16384

noncomputable section

namespace Cert.ProjReference

open Cert.Reference0Ideal Cert.Reference0Ideal.Gen Cert.Reference0Ideal.Read Idealize.ShloMosaic Idealize.ShloMosaic.TcCoe
open Cert.Mixer (eighth)

variable (x : Vec Ideal S8x4096x1024 .f32) (g : Vec Ideal S1x1024 .f32) (w : Vec Ideal S1x1024x2304 .f32)

/-- The norm before the projection. -/
theorem norm_apply (b : Fin 8) (s : Fin 4096) (d : Fin 1024) :
    val_main_v13 (F := Ideal) x g (ix3 b s d) = Ffn.rms (fun k => x (ix3 b s k)) (fun k => g (ix2 0 k)) d := by
  unfold val_main_v13 val_main_v12 val_main_v11 val_main_v10 val_main_v9 val_main_v8 val_main_v7 val_main_v6 val_main_v5 val_main_v4 val_main_v3
    val_main_v2 val_main_v1 val_main_v0 val_main_cst val_main_cst_0 val_main_cst_1
  pointwise [Ffn.rms, Ffn.width, Ffn.eps]

/-- The projected columns. -/
theorem column_apply (b : Fin 8) (s : Fin 4096) (j : Fin 2304) :
    val_main_v15 (F := Ideal) x g w (ix3 b s j) =
      Proj.column (Ffn.rms (fun k => x (ix3 b s k)) (fun k => g (ix2 0 k))) (fun k j => w (ix3 0 k j)) j := by
  rw [show Ffn.rms (fun k => x (ix3 b s k)) (fun k => g (ix2 0 k)) = fun d => val_main_v13 (F := Ideal) x g (ix3 b s d) from
    funext fun d => (norm_apply x g b s d).symm]
  unfold val_main_v15 val_main_v14
  generalize val_main_v13 (F := Ideal) x g = n
  pointwise [Proj.column]

/-- Group B's keys, the reference's first result. -/
theorem keys_apply (b : Fin 8) (s : Fin 4096) (j : Fin 512) :
    val_main_v27 (F := Ideal) x g w (ix3 b s j) =
      Proj.column (Ffn.rms (fun k => x (ix3 b s k)) (fun k => g (ix2 0 k))) (fun k j => w (ix3 0 k j)) ⟨1280 + j, by omega⟩ := by
  rw [← column_apply]
  unfold val_main_v27 val_main_v20
  generalize val_main_v15 (F := Ideal) x g w = p
  pointwise

/-- The transposed rows, the reference's second result. -/
theorem rows_apply (b : Fin 8) (f : Fin 1792) (s : Fin 4096) :
    val_main_v29 (F := Ideal) x g w (ix3 b f s) =
      Proj.feature (Ffn.rms (fun k => x (ix3 b s k)) (fun k => g (ix2 0 k))) (fun k j => w (ix3 0 k j)) f := by
  unfold Proj.feature
  rw [← column_apply]
  unfold val_main_v29 val_main_v28 val_main_v26 val_main_v25 val_main_v24 val_main_v23 val_main_v22 val_main_v21 val_main_v19 val_main_v18 val_main_v17
    val_main_v16 val_main_cst_2 val_main_cst_3
  generalize val_main_v15 (F := Ideal) x g w = p
  pointwise
  unfold Proj.src
  by_cases h0 : f.val < 512
  · rw [dif_pos h0, if_pos (show f.val < 1024 by omega), dif_pos h0]
    rfl
  rw [dif_neg h0, dif_neg h0]
  by_cases h1 : f.val < 1024
  · rw [dif_pos (show f.val - 512 < 512 by omega), if_pos h1, dif_pos h1]
    exact congrArg (fun z : Fin 2304 => p (ix3 b s z) * eighth) (Fin.ext (show 768 + (f.val - 512) = f.val + 256 by omega))
  rw [dif_neg (show ¬ f.val - 512 < 512 by omega), if_neg h1, dif_neg h1]
  by_cases h2 : f.val < 1536
  · rw [dif_pos (show f.val - 512 - 512 < 512 by omega), dif_pos h2]
    exact congrArg (fun z : Fin 2304 => p (ix3 b s z)) (Fin.ext (show 1792 + (f.val - 512 - 512) = f.val + 768 by omega))
  rw [dif_neg (show ¬ f.val - 512 - 512 < 512 by omega), dif_neg h2]
  by_cases h3 : f.val - 512 - 512 - 512 < 128
  · rw [dif_pos h3]
    exact congrArg (fun z : Fin 2304 => p (ix3 b s z)) (Fin.ext (show 512 + (f.val - 512 - 512 - 512) = f.val - 1024 by omega))
  · rw [dif_neg h3]
    exact congrArg (fun z : Fin 2304 => p (ix3 b s z)) (Fin.ext (show 640 + (f.val - 512 - 512 - 512 - 128) = f.val - 1024 by omega))

end Cert.ProjReference
-- ==== Proof.ProjClaim.lean ====
/-
  The value claim of the first call: kernel and reference end with the same two arrays, index by index.
-/
module

public import proofs.«01_k».proof.Defs
public import proofs.«01_k».proof.Proof.ProjKernel
public import proofs.«01_k».proof.Proof.ProjReference
public import proofs.«01_k».proof.Proof.Gen.Reference0Ideal.Run

@[expose] public section

set_option maxRecDepth 16384

noncomputable section

namespace Cert.ProjClaim

open Idealize.ShloMosaic Idealize.ShloMosaic.TcCoe Idealize.SL.Sem

variable (m : (ℓ : Loc Cert.Kernel0Ideal.nD Cert.Kernel0Ideal.τ Cert.Kernel0Ideal.sig) → Buf (Elt Ideal) ℓ)
  (m' : (ℓ : Loc Cert.Reference0Ideal.nD Cert.Reference0Ideal.τ Cert.Reference0Ideal.sig) → Buf (Elt Ideal) ℓ)
  (c : Dev Cert.Kernel0Ideal.nD)
  (e0 : m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0))
  (e1 : m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1))
  (e2 : m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2))

include e0 e1 e2

/-- From memories that agree on the arguments, the reference's keys are the kernel's. -/
theorem keys_eq :
    Cert.Reference0Ideal.Read.val_main_v27 (F := Ideal)
      (m' ((c.tc : Thread Cert.Reference0Ideal.nD Cert.Reference0Ideal.τ).loc Cert.Reference0Ideal.main_arg0))
      (m' ((c.tc : Thread Cert.Reference0Ideal.nD Cert.Reference0Ideal.τ).loc Cert.Reference0Ideal.main_arg1))
      (m' ((c.tc : Thread Cert.Reference0Ideal.nD Cert.Reference0Ideal.τ).loc Cert.Reference0Ideal.main_arg2)) = ProjKernel.result3 m c := by
  rw [e0, e1, e2]
  funext i
  exact (congrArg _ (eq_ix3 i)).trans (ProjReference.keys_apply _ _ _ (i 0) (i 1) (i 2))

/-- From memories that agree on the arguments, the reference's transposed rows are the kernel's. -/
theorem rows_eq :
    Cert.Reference0Ideal.Read.val_main_v29 (F := Ideal)
      (m' ((c.tc : Thread Cert.Reference0Ideal.nD Cert.Reference0Ideal.τ).loc Cert.Reference0Ideal.main_arg0))
      (m' ((c.tc : Thread Cert.Reference0Ideal.nD Cert.Reference0Ideal.τ).loc Cert.Reference0Ideal.main_arg1))
      (m' ((c.tc : Thread Cert.Reference0Ideal.nD Cert.Reference0Ideal.τ).loc Cert.Reference0Ideal.main_arg2)) = ProjKernel.result4 m c := by
  rw [e0, e1, e2]
  funext i
  exact (congrArg _ (eq_ix3 i)).trans (ProjReference.rows_apply _ _ _ (i 0) (i 1) (i 2))

omit e0 e1 e2

/-- The norm and the input projection compute the reference's two results. -/
theorem claim : Cert.algebraic_Kernel0Ideal_Reference0Ideal (hKernel0Ideal := Cert.Kernel0Ideal.Gen.facts)
    (hReference0Ideal := Cert.Reference0Ideal.Gen.facts) := by
  intro m g m' g' _ hagree
  refine ⟨fun c => ProjKernel.result3 m c, fun c => ProjKernel.result4 m c, ?_, ?_⟩
  · refine (θ_run _ _ _).mono (fun r h c => ?_) (Cert.Kernel0Ideal.Value.run_blocks m g)
    exact ⟨(h c).1.trans (ProjKernel.arr_eq3 m c), (h c).2.1.trans (ProjKernel.arr_eq4 m c), (h c).2.2⟩
  · refine (θ_run _ _ _).mono (fun r h c => ?_) (Cert.Reference0Ideal.Value.run m' g')
    obtain ⟨e0, e1, e2⟩ := hagree c
    exact ⟨(h c).1.trans ((Cert.Reference0Ideal.Read.val_main_v27_eq _ _ _).trans (keys_eq m m' c e0 e1 e2)),
      (h c).2.1.trans ((Cert.Reference0Ideal.Read.val_main_v29_eq m' c).trans (rows_eq m m' c e0 e1 e2)), (h c).2.2⟩

end Cert.ProjClaim
-- ==== Proof.AttnUnits.lean ====
/-
  The attention body's building blocks as operations on blocks: one head of B on one tile of 256 queries (three blocks
  of 256 keys, each with its own column maximum, put together at the end), and four heads of A on one tile of 128
  queries (256 keys and a sink).
-/
module

public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe Idealize.SL.Sem

variable {F : FTy → Type} [FloatOps F] [Named F]

/-! ## Group B -/

/-- A head's queries over the 128 features of its pair of heads: the head's own 64, zeros for the other's. -/
def padB (first : Bool) (qt : Vec F S1x64x256 .bf16) : FVec F S128x256 .bf16 :=
  match first with
  | true => concatenate S128x256 0 [⟨S64x256, shapeCast S64x256 qt shapeCasts_S1x64x256_S64x256⟩, ⟨S64x256, k0_pay3 (F := F)⟩] concatenates_S64x256_S64x256_S128x256_d0
  | false => concatenate S128x256 0 [⟨S64x256, k0_pay3 (F := F)⟩, ⟨S64x256, shapeCast S64x256 qt shapeCasts_S1x64x256_S64x256⟩] concatenates_S64x256_S64x256_S128x256_d0

/-- Keys times queries: rows are keys, columns queries. -/
def rawB (kp : Vec F S1x256x128 .bf16) (qm : FVec F S128x256 .bf16) : FVec F S256x256 .f32 :=
  matmul dot_S256x128_S128x256_S256x256_1_0_0_1_n_n none (shapeCast S256x128 kp shapeCasts_S1x256x128_S256x128) qm
    (constant S256x256 .f32 0x00000000#32)

/-- A quarter of the products with its bias, to base two. -/
def tileB (o : Fin 2 → ℕ) (h : S256x256.Slices o S128x128) (raw : FVec F S256x256 .f32) (b : Vec F S1x128x128 .f32) :
    FVec F S128x128 .f32 :=
  mulf (addf (extractStridedSlice S128x128 o raw h) (shapeCast S128x128 b shapeCasts_S1x128x128_S128x128))
    (broadcast S128x128 (Named.named κ "log2e" 0x3FB8AA3B#32))

/-- The largest entry of each column. -/
def colMaxB (t : FVec F S128x128 .f32) : FVec F S1x128 .f32 :=
  shapeCast S1x128 (multiReduction .maximumf [0] S128 t 0xFF800000#32 reduces_S128x128_S128 (.inl rfl) rfl) shapeCasts_S128_S1x128

/-- The weights of a quarter against the column's maximum. -/
def weightB (t : FVec F S128x128 .f32) (m : FVec F S1x128 .f32) : FVec F S128x128 .bf16 :=
  truncf .bf16 (exp2 (subf t (broadcastTo S128x128 m broadcasts_S1x128_S128x128))) bitsLt_bf16_f32

/-- The weights of a quarter that no query of it attends to. -/
def deadB : FVec F S128x128 .bf16 := broadcast S128x128 (Scalar.ofBits .bf16 0x0000#16)

/-- Four quarters (left column, then right column) as one block. -/
def quarters (a b c d : FVec F S128x128 .bf16) : FVec F S256x256 .bf16 :=
  concatenate S256x256 1
    [⟨S256x128, concatenate S256x128 0 [⟨S128x128, a⟩, ⟨S128x128, b⟩] concatenates_S128x128_S128x128_S256x128_d0⟩,
      ⟨S256x128, concatenate S256x128 0 [⟨S128x128, c⟩, ⟨S128x128, d⟩] concatenates_S128x128_S128x128_S256x128_d0⟩]
    concatenates_S256x128_S256x128_S256x256_d1

/-- The two halves of the column maxima, side by side. -/
def maxB (l r : FVec F S1x128 .f32) : FVec F S1x256 .f32 :=
  concatenate S1x256 1 [⟨S1x128, l⟩, ⟨S1x128, r⟩] concatenates_S1x128_S1x128_S1x256_d1

/-- Values, with rows of ones below them, times weights: the weighted values and, in row 64, the weights' sum. -/
def accB (v : Vec F S1x64x256 .bf16) (pt : FVec F S256x256 .bf16) : FVec F S72x256 .f32 :=
  extractStridedSlice S72x256 ![0, 0]
    (matmul dot_S80x256_S256x256_S80x256_1_0_0_1_n_n none
      (concatenate S80x256 0 [⟨S64x256, shapeCast S64x256 v shapeCasts_S1x64x256_S64x256⟩, ⟨S16x256, k0_pay4 (F := F)⟩] concatenates_S64x256_S16x256_S80x256_d0)
      pt (constant S80x256 .f32 0x00000000#32)) slices_S80x256_o0_0_S72x256

/-- The first key block's maxima: its upper right quarter is dead. -/
def max0 (raw : FVec F S256x256 .f32) (b00 b10 b11 : Vec F S1x128x128 .f32) : FVec F S1x256 .f32 :=
  maxB (colMaxB (maximumf (tileB ![0, 0] slices_S256x256_o0_0_S128x128 raw b00) (tileB ![128, 0] slices_S256x256_o128_0_S128x128 raw b10)))
    (colMaxB (tileB ![128, 128] slices_S256x256_o128_128_S128x128 raw b11))

/-- The first key block's weighted values. -/
def part0 (raw : FVec F S256x256 .f32) (b00 b10 b11 : Vec F S1x128x128 .f32) (v : Vec F S1x64x256 .bf16) : FVec F S72x256 .f32 :=
  let t00 := tileB ![0, 0] slices_S256x256_o0_0_S128x128 raw b00
  let t10 := tileB ![128, 0] slices_S256x256_o128_0_S128x128 raw b10
  let t11 := tileB ![128, 128] slices_S256x256_o128_128_S128x128 raw b11
  accB v (quarters (weightB t00 (colMaxB (maximumf t00 t10))) (weightB t10 (colMaxB (maximumf t00 t10))) deadB (weightB t11 (colMaxB t11)))

/-- The middle key block's maxima. -/
def max1 (raw : FVec F S256x256 .f32) (b00 b10 b01 b11 : Vec F S1x128x128 .f32) : FVec F S1x256 .f32 :=
  maxB (colMaxB (maximumf (tileB ![0, 0] slices_S256x256_o0_0_S128x128 raw b00) (tileB ![128, 0] slices_S256x256_o128_0_S128x128 raw b10)))
    (colMaxB (maximumf (tileB ![0, 128] slices_S256x256_o0_128_S128x128 raw b01) (tileB ![128, 128] slices_S256x256_o128_128_S128x128 raw b11)))

/-- The middle key block's weighted values. -/
def part1 (raw : FVec F S256x256 .f32) (b00 b10 b01 b11 : Vec F S1x128x128 .f32) (v : Vec F S1x64x256 .bf16) : FVec F S72x256 .f32 :=
  let t00 := tileB ![0, 0] slices_S256x256_o0_0_S128x128 raw b00
  let t10 := tileB ![128, 0] slices_S256x256_o128_0_S128x128 raw b10
  let t01 := tileB ![0, 128] slices_S256x256_o0_128_S128x128 raw b01
  let t11 := tileB ![128, 128] slices_S256x256_o128_128_S128x128 raw b11
  accB v (quarters (weightB t00 (colMaxB (maximumf t00 t10))) (weightB t10 (colMaxB (maximumf t00 t10)))
    (weightB t01 (colMaxB (maximumf t01 t11))) (weightB t11 (colMaxB (maximumf t01 t11))))

/-- The last key block's maxima: its lower left quarter is dead. -/
def max2 (raw : FVec F S256x256 .f32) (b00 b01 b11 : Vec F S1x128x128 .f32) : FVec F S1x256 .f32 :=
  maxB (colMaxB (tileB ![0, 0] slices_S256x256_o0_0_S128x128 raw b00))
    (colMaxB (maximumf (tileB ![0, 128] slices_S256x256_o0_128_S128x128 raw b01) (tileB ![128, 128] slices_S256x256_o128_128_S128x128 raw b11)))

/-- The last key block's weighted values. -/
def part2 (raw : FVec F S256x256 .f32) (b00 b01 b11 : Vec F S1x128x128 .f32) (v : Vec F S1x64x256 .bf16) : FVec F S72x256 .f32 :=
  let t00 := tileB ![0, 0] slices_S256x256_o0_0_S128x128 raw b00
  let t01 := tileB ![0, 128] slices_S256x256_o0_128_S128x128 raw b01
  let t11 := tileB ![128, 128] slices_S256x256_o128_128_S128x128 raw b11
  accB v (quarters (weightB t00 (colMaxB t00)) deadB (weightB t01 (colMaxB (maximumf t01 t11))) (weightB t11 (colMaxB (maximumf t01 t11))))

/-- A key block's part, weighed by its own maximum against the common one. -/
def scaleB (p : FVec F S72x256 .f32) (mp m : FVec F S1x256 .f32) : FVec F S72x256 .f32 :=
  mulf p (broadcastTo S72x256 (exp2 (subf mp m)) broadcasts_S1x256_S72x256)

/-- The three parts put together. -/
def sumB (p0 p1 p2 : FVec F S72x256 .f32) (m0 m1 m2 : FVec F S1x256 .f32) : FVec F S72x256 .f32 :=
  let m := maximumf (maximumf m0 m1) m2
  addf (addf (addf (broadcast S72x256 (Scalar.ofBits .f32 0x00000000#32)) (scaleB p0 m0 m)) (scaleB p1 m1 m)) (scaleB p2 m2 m)

/-- The weighted values over the weights' sum. -/
def quotB (o : FVec F S72x256 .f32) : FVec F S64x256 .f32 :=
  mulf (extractStridedSlice S64x256 ![0, 0] o slices_S72x256_o0_0_S64x256)
    (broadcastTo S64x256 (divf (broadcast S1x256 (Scalar.ofBits .f32 0x3F800000#32))
      (extractStridedSlice S1x256 ![64, 0] o slices_S72x256_o64_0_S1x256)) broadcasts_S1x256_S64x256)

/-- In the sequence's first step the keys before it count for nothing: their maximum is the mask. -/
def maskB (i : grid0.Coords) (m : FVec F S1x256 .f32) : FVec F S1x256 .f32 :=
  Scalar.select (Scalar.cmpi .eq (BitVec.ofNat 32 (i 1).val) 0#32) (broadcast S1x256 (Named.named κ "mask" 0xF149F2CA#32)) m

/-- One head's result on one tile of queries; `g0`, `g1` mask the first and the middle block's maxima. -/
def headB (first : Bool) (qt : Vec F S1x64x256 .bf16) (k0 k1 k2 : Vec F S1x256x128 .bf16) (v0 v1 v2 : Vec F S1x64x256 .bf16)
    (b00 b10 b11 c00 c10 c01 c11 d00 d01 d11 : Vec F S1x128x128 .f32) (g0 g1 : FVec F S1x256 .f32 → FVec F S1x256 .f32) :
    FVec F S64x256 .f32 :=
  quotB (sumB (part0 (rawB k0 (padB first qt)) b00 b10 b11 v0) (part1 (rawB k1 (padB first qt)) c00 c10 c01 c11 v1)
    (part2 (rawB k2 (padB first qt)) d00 d01 d11 v2)
    (g0 (max0 (rawB k0 (padB first qt)) b00 b10 b11)) (g1 (max1 (rawB k1 (padB first qt)) c00 c10 c01 c11))
    (max2 (rawB k2 (padB first qt)) d00 d01 d11))

/-- What is kept of a head's result until the norm is known: the result times the gain. -/
def gainB (y : FVec F S64x256 .f32) (g : Vec F S64x256 .f32) : FVec F S64x256 .f32 :=
  shapeCast S64x256 (mulf y (shapeCast S64x256 g shapeCasts_S64x256_S64x256)) shapeCasts_S64x256_S64x256

/-- The running sums of squares, eight rows of them, after one more head. -/
def sqB (s : FVec F S8x256 .f32) (y : FVec F S64x256 .f32) : FVec F S8x256 .f32 :=
  addf s (multiReduction .add [0] S8x256 (shapeCast S8x8x256 (mulf y y) shapeCasts_S64x256_S8x8x256) 0x00000000#32 reduces_S8x8x256_S8x256 (.inl rfl) rfl)

/-- The tile's stored result: the kept rows times the inverse root of the mean square. -/
def normB (kept : Vec F S512x256 .f32) (s : FVec F S8x256 .f32) : FVec F S1x512x256 .bf16 :=
  shapeCast S1x512x256 (truncf .bf16 (mulf kept (broadcastTo S512x256 (rsqrt (addf (divf
    (shapeCast S1x256 (multiReduction .add [0] S256 s 0x00000000#32 reduces_S8x256_S256 (.inl rfl) rfl) shapeCasts_S256_S1x256)
    (broadcast S1x256 (Scalar.ofBits .f32 0x44000000#32))) (broadcast S1x256 (Scalar.ofBits .f32 0x358637BD#32)))) broadcasts_S1x256_S512x256)) bitsLt_bf16_f32)
    shapeCasts_S512x256_S1x512x256

/-! ## Group A -/

/-- The window of keys and values (rows: two key heads, two value heads; columns: 256 tokens), its first half from the
    tokens before the step. -/
def winFst (p : Vec F S1x256x128 .bf16) (x : Vec F S1x256x128 .bf16) : FVec F S256x256 .bf16 :=
  concatenate S256x256 1 [⟨S256x128, shapeCast S256x128 p shapeCasts_S1x256x128_S256x128⟩,
    ⟨S256x128, shapeCast S256x128 x shapeCasts_S1x256x128_S256x128⟩] concatenates_S256x128_S256x128_S256x256_d1

/-- The window of keys and values inside the step. -/
def winIn (x : Vec F S1x256x256 .bf16) : FVec F S256x256 .bf16 := shapeCast S256x256 x shapeCasts_S1x256x256_S256x256

/-- A head's queries over the 128 features of the two key heads: the key head's own 64, zeros for the other's. -/
def padA (first : Bool) (qt : Vec F S1x64x128 .bf16) : FVec F S128x128 .bf16 :=
  match first with
  | true => concatenate S128x128 0 [⟨S64x128, shapeCast S64x128 qt shapeCasts_S1x64x128_S64x128⟩, ⟨S64x128, k0_pay5 (F := F)⟩] concatenates_S64x128_S64x128_S128x128_d0
  | false => concatenate S128x128 0 [⟨S64x128, k0_pay5 (F := F)⟩, ⟨S64x128, shapeCast S64x128 qt shapeCasts_S1x64x128_S64x128⟩] concatenates_S64x128_S64x128_S128x128_d0

/-- The scores, to base two, of four heads' queries side by side against 256 keys. -/
def scoresA (first : Bool) (w : FVec F S256x256 .bf16) (q0 q1 q2 q3 : Vec F S1x64x128 .bf16) (b : Vec F S1x256x512 .f32) : FVec F S256x512 .f32 :=
  mulf (addf (matmul dot_S128x256_S128x512_S256x512_0_0_1_1_n_n none (extractStridedSlice S128x256 ![0, 0] w slices_S256x256_o0_0_S128x256)
      (concatenate S128x512 1 [⟨S128x128, padA first q0⟩, ⟨S128x128, padA first q1⟩, ⟨S128x128, padA first q2⟩, ⟨S128x128, padA first q3⟩]
        concatenates_S128x128_S128x128_S128x128_S128x128_S128x512_d1) (constant S256x512 .f32 0x00000000#32))
    (shapeCast S256x512 b shapeCasts_S1x256x512_S256x512)) (broadcast S256x512 (Named.named κ "log2e" 0x3FB8AA3B#32))

/-- The scores' first 128 keys. -/
def upperA (s : FVec F S256x512 .f32) : FVec F S128x512 .f32 := extractStridedSlice S128x512 ![0, 0] s slices_S256x512_o0_0_S128x512

/-- The scores' last 128 keys. -/
def lowerA (s : FVec F S256x512 .f32) : FVec F S128x512 .f32 := extractStridedSlice S128x512 ![128, 0] s slices_S256x512_o128_0_S128x512

/-- In the sequence's first step the keys before it count for nothing. -/
def maskA (i : grid0.Coords) (s : FVec F S128x512 .f32) : FVec F S128x512 .f32 := addf s (broadcast S128x512 (k0_pay6 (F := F) i))

/-- The sinks, to base two. -/
def sinkA (k : Vec F S1x1x512 .f32) : FVec F S1x512 .f32 :=
  mulf (shapeCast S1x512 k shapeCasts_S1x1x512_S1x512) (broadcast S1x512 (Named.named κ "log2e" 0x3FB8AA3B#32))

/-- Each column's largest score, the sink included. -/
def topA (s0 s1 : FVec F S128x512 .f32) (k : Vec F S1x1x512 .f32) : FVec F S1x512 .f32 :=
  maximumf (shapeCast S1x512 (multiReduction .maximumf [0] S512 (maximumf s0 s1) 0xFF800000#32 reduces_S128x512_S512 (.inl rfl) rfl) shapeCasts_S512_S1x512) (sinkA k)

/-- The key head's values with rows of ones below them. -/
def valsA (first : Bool) (w : FVec F S256x256 .bf16) : FVec F S80x256 .bf16 :=
  match first with
  | true => concatenate S80x256 0 [⟨S64x256, extractStridedSlice S64x256 ![0, 0] (extractStridedSlice S128x256 ![128, 0] w slices_S256x256_o128_0_S128x256) slices_S128x256_o0_0_S64x256⟩, ⟨S16x256, k0_pay4 (F := F)⟩] concatenates_S64x256_S16x256_S80x256_d0
  | false => concatenate S80x256 0 [⟨S64x256, extractStridedSlice S64x256 ![64, 0] (extractStridedSlice S128x256 ![128, 0] w slices_S256x256_o128_0_S128x256) slices_S128x256_o64_0_S64x256⟩, ⟨S16x256, k0_pay4 (F := F)⟩] concatenates_S64x256_S16x256_S80x256_d0

/-- The weighted values and, in row 64, the weights' sum. -/
def accA (v : FVec F S80x256 .bf16) (s0 s1 : FVec F S128x512 .f32) (m : FVec F S1x512 .f32) : FVec F S80x512 .f32 :=
  matmul dot_S80x256_S256x512_S80x512_1_0_0_1_n_n none v
    (truncf .bf16 (concatenate S256x512 0 [⟨S128x512, exp2 (subf s0 (broadcastTo S128x512 m broadcasts_S1x512_S128x512))⟩,
      ⟨S128x512, exp2 (subf s1 (broadcastTo S128x512 m broadcasts_S1x512_S128x512))⟩] concatenates_S128x512_S128x512_S256x512_d0) bitsLt_bf16_f32)
    (constant S80x512 .f32 0x00000000#32)

/-- The weighted values over the weights' sum, the sink's weight included. -/
def quotA (o : FVec F S80x512 .f32) (k : Vec F S1x1x512 .f32) (m : FVec F S1x512 .f32) : FVec F S64x512 .f32 :=
  mulf (extractStridedSlice S64x512 ![0, 0] o slices_S80x512_o0_0_S64x512)
    (broadcastTo S64x512 (divf (broadcast S1x512 (Scalar.ofBits .f32 0x3F800000#32))
      (addf (extractStridedSlice S1x512 ![64, 0] o slices_S80x512_o64_0_S1x512) (exp2 (subf (sinkA k) m)))) broadcasts_S1x512_S64x512)

/-- Four heads' results on one tile of queries, side by side; `g` masks the first 128 keys. -/
def quadA (first : Bool) (w : FVec F S256x256 .bf16) (q0 q1 q2 q3 : Vec F S1x64x128 .bf16) (b : Vec F S1x256x512 .f32) (k : Vec F S1x1x512 .f32)
    (g : FVec F S128x512 .f32 → FVec F S128x512 .f32) : FVec F S64x512 .f32 :=
  quotA (accA (valsA first w) (g (upperA (scoresA first w q0 q1 q2 q3 b))) (lowerA (scoresA first w q0 q1 q2 q3 b))
      (topA (g (upperA (scoresA first w q0 q1 q2 q3 b))) (lowerA (scoresA first w q0 q1 q2 q3 b)) k)) k
    (topA (g (upperA (scoresA first w q0 q1 q2 q3 b))) (lowerA (scoresA first w q0 q1 q2 q3 b)) k)

/-- One head's columns of the four heads' results. -/
def colsA (o : ℕ) (h : S64x512.Slices ![0, o] S64x128) (y : FVec F S64x512 .f32) : FVec F S64x128 .f32 := extractStridedSlice S64x128 ![0, o] y h

/-- What is kept of a head's result until the norm is known: the result times the gain. -/
def gainA (y : FVec F S64x128 .f32) (g : Vec F S64x128 .f32) : FVec F S64x128 .f32 :=
  shapeCast S64x128 (mulf y (shapeCast S64x128 g shapeCasts_S64x128_S64x128)) shapeCasts_S64x128_S64x128

/-- The running sums of squares, eight rows of them, after one more head. -/
def sqA (s : FVec F S8x128 .f32) (y : FVec F S64x128 .f32) : FVec F S8x128 .f32 :=
  addf s (multiReduction .add [0] S8x128 (shapeCast S8x8x128 (mulf y y) shapeCasts_S64x128_S8x8x128) 0x00000000#32 reduces_S8x8x128_S8x128 (.inl rfl) rfl)

/-- The tile's stored result: the kept rows times the inverse root of the mean square. -/
def normA (kept : Vec F S512x128 .f32) (s : FVec F S8x128 .f32) : FVec F S1x512x128 .bf16 :=
  shapeCast S1x512x128 (truncf .bf16 (mulf kept (broadcastTo S512x128 (rsqrt (addf (divf
    (shapeCast S1x128 (multiReduction .add [0] S128 s 0x00000000#32 reduces_S8x128_S128 (.inl rfl) rfl) shapeCasts_S128_S1x128)
    (broadcast S1x128 (Scalar.ofBits .f32 0x44000000#32))) (broadcast S1x128 (Scalar.ofBits .f32 0x358637BD#32)))) broadcasts_S1x128_S512x128)) bitsLt_bf16_f32)
    shapeCasts_S512x128_S1x512x128

end Cert.Attn

end
-- ==== Proof.AttnPieces.lean ====
/-
  What the body stores: the building blocks of AttnUnits on the blocks the body loads.
-/
module

public import proofs.«01_k».proof.Proof.AttnUnits
public import proofs.«01_k».proof.Proof.Gen.KernelIdeal.Frame.Runs

@[expose] public section

set_option maxRecDepth 16384

noncomputable section

namespace Cert.Attn

open Cert.KernelIdeal Cert.KernelIdeal.Gen
open Idealize.ShloMosaic Idealize.ShloMosaic.TcCoe Idealize.SL.Sem

variable {F : FTy → Type} [FloatOps F] [Named F]

/-- A head's 64 rows of the feature block, from row `o`, on the query tile at `t`. -/
def featB (x : Vec F S1x1792x512 .bf16) (o t : ℕ) (h : ∀ a, (![0, o, t] : Fin 3 → ℕ) a + S1x64x256.size a ≤ S1x1792x512.size a) :
    Vec F S1x64x256 .bf16 := View.ld x (Rect.unit ![0, o, t] S1x64x256.size h)

/-- 256 keys of a key block, from key `o`, of the pair of heads at column `t`. -/
def keysB (x : Vec F S1x512x512 .bf16) (o t : ℕ) (h : ∀ a, (![0, o, t] : Fin 3 → ℕ) a + S1x256x128.size a ≤ S1x512x512.size a) :
    Vec F S1x256x128 .bf16 := View.ld x (Rect.unit ![0, o, t] S1x256x128.size h)

/-- A head's 64 rows of the earlier values, from row `o`, at the keys from `t`. -/
def valsB (x : Vec F S1x512x512 .bf16) (o t : ℕ) (h : ∀ a, (![0, o, t] : Fin 3 → ℕ) a + S1x64x256.size a ≤ S1x512x512.size a) :
    Vec F S1x64x256 .bf16 := View.ld x (Rect.unit ![0, o, t] S1x64x256.size h)

/-- A quarter of head `n`'s biases. -/
def biasB (x : Vec F S8x768x256 .f32) (n o t : ℕ) (h : ∀ a, (![n, o, t] : Fin 3 → ℕ) a + S1x128x128.size a ≤ S8x768x256.size a) :
    Vec F S1x128x128 .f32 := View.ld x (Rect.unit ![n, o, t] S1x128x128.size h)

/-- A head's gains. -/
def gainsB (x : Vec F S512x256 .f32) (o : ℕ) (h : ∀ a, (![o, 0] : Fin 2 → ℕ) a + S64x256.size a ≤ S512x256.size a) :
    Vec F S64x256 .f32 := View.ld x (Rect.unit ![o, 0] S64x256.size h)

theorem inb_feat (o t : ℕ) (ho : o ≤ 1728) (ht : t ≤ 256) (a : Fin 3) : (![0, o, t] : Fin 3 → ℕ) a + S1x64x256.size a ≤ S1x1792x512.size a := by
  fin_cases a <;> simp [S1x64x256, S1x1792x512] <;> omega

theorem inb_keys (o t : ℕ) (ho : o ≤ 256) (ht : t ≤ 384) (a : Fin 3) : (![0, o, t] : Fin 3 → ℕ) a + S1x256x128.size a ≤ S1x512x512.size a := by
  fin_cases a <;> simp [S1x256x128, S1x512x512] <;> omega

theorem inb_vals (o t : ℕ) (ho : o ≤ 448) (ht : t ≤ 256) (a : Fin 3) : (![0, o, t] : Fin 3 → ℕ) a + S1x64x256.size a ≤ S1x512x512.size a := by
  fin_cases a <;> simp [S1x64x256, S1x512x512] <;> omega

theorem inb_bias (n o t : ℕ) (hn : n ≤ 7) (ho : o ≤ 640) (ht : t ≤ 128) (a : Fin 3) : (![n, o, t] : Fin 3 → ℕ) a + S1x128x128.size a ≤ S8x768x256.size a := by
  fin_cases a <;> simp [S1x128x128, S8x768x256] <;> omega

theorem inb_gains (o : ℕ) (ho : o ≤ 448) (a : Fin 2) : (![o, 0] : Fin 2 → ℕ) a + S64x256.size a ≤ S512x256.size a := by
  fin_cases a <;> simp [S64x256, S512x256] <;> omega

/-- Head `n` with the keys and values given: the biases are the head's quarters of the table. -/
def headOn (x0 : Vec F S1x1792x512 .bf16) (x7 : Vec F S8x768x256 .f32) (n : Fin 8) (t : ℕ) (ht : t ≤ 256)
    (k0 k1 k2 : Vec F S1x256x128 .bf16) (v0 v1 v2 : Vec F S1x64x256 .bf16) (g0 g1 : FVec F S1x256 .f32 → FVec F S1x256 .f32) :
    FVec F S64x256 .f32 :=
  headB (n.val % 2 == 0) (featB x0 (512 + 64 * n.val) t (inb_feat _ _ (by omega) ht)) k0 k1 k2 v0 v1 v2
    (biasB x7 n.val 0 0 (inb_bias _ _ _ (by omega) (by omega) (by omega)))
    (biasB x7 n.val 128 0 (inb_bias _ _ _ (by omega) (by omega) (by omega)))
    (biasB x7 n.val 128 128 (inb_bias _ _ _ (by omega) (by omega) (by omega)))
    (biasB x7 n.val 256 0 (inb_bias _ _ _ (by omega) (by omega) (by omega)))
    (biasB x7 n.val 384 0 (inb_bias _ _ _ (by omega) (by omega) (by omega)))
    (biasB x7 n.val 256 128 (inb_bias _ _ _ (by omega) (by omega) (by omega)))
    (biasB x7 n.val 384 128 (inb_bias _ _ _ (by omega) (by omega) (by omega)))
    (biasB x7 n.val 512 0 (inb_bias _ _ _ (by omega) (by omega) (by omega)))
    (biasB x7 n.val 512 128 (inb_bias _ _ _ (by omega) (by omega) (by omega)))
    (biasB x7 n.val 640 128 (inb_bias _ _ _ (by omega) (by omega) (by omega))) g0 g1

/-- Head `n` on the step's first tile of queries: two key blocks before the step, one in it. -/
def headFst (i : grid0.Coords) (x0 : Vec F S1x1792x512 .bf16) (x1 x2 x3 : Vec F S1x512x512 .bf16) (x7 : Vec F S8x768x256 .f32)
    (n : Fin 8) : FVec F S64x256 .f32 :=
  headOn x0 x7 n 0 (by omega) (keysB x1 0 (128 * (n.val / 2)) (inb_keys _ _ (by omega) (by omega)))
    (keysB x1 256 (128 * (n.val / 2)) (inb_keys _ _ (by omega) (by omega)))
    (keysB x2 0 (128 * (n.val / 2)) (inb_keys _ _ (by omega) (by omega)))
    (valsB x3 (64 * n.val) 0 (inb_vals _ _ (by omega) (by omega))) (valsB x3 (64 * n.val) 256 (inb_vals _ _ (by omega) (by omega)))
    (featB x0 (1024 + 64 * n.val) 0 (inb_feat _ _ (by omega) (by omega))) (maskB i) (maskB i)

/-- Head `n` on the step's second tile of queries: one key block before the step, two in it. -/
def headSnd (i : grid0.Coords) (x0 : Vec F S1x1792x512 .bf16) (x1 x2 x3 : Vec F S1x512x512 .bf16) (x7 : Vec F S8x768x256 .f32)
    (n : Fin 8) : FVec F S64x256 .f32 :=
  headOn x0 x7 n 256 (by omega) (keysB x1 256 (128 * (n.val / 2)) (inb_keys _ _ (by omega) (by omega)))
    (keysB x2 0 (128 * (n.val / 2)) (inb_keys _ _ (by omega) (by omega)))
    (keysB x2 256 (128 * (n.val / 2)) (inb_keys _ _ (by omega) (by omega)))
    (valsB x3 (64 * n.val) 256 (inb_vals _ _ (by omega) (by omega)))
    (featB x0 (1024 + 64 * n.val) 0 (inb_feat _ _ (by omega) (by omega)))
    (featB x0 (1024 + 64 * n.val) 256 (inb_feat _ _ (by omega) (by omega))) (maskB i) id

/-- Head `n` on the step's tile `q` of queries. -/
def headAt (i : grid0.Coords) (x0 : Vec F S1x1792x512 .bf16) (x1 x2 x3 : Vec F S1x512x512 .bf16) (x7 : Vec F S8x768x256 .f32)
    (q : Fin 2) (n : Fin 8) : FVec F S64x256 .f32 :=
  match q with
  | 0 => headFst i x0 x1 x2 x3 x7 n
  | 1 => headSnd i x0 x1 x2 x3 x7 n

theorem inb_keptB (o t : ℕ) (ho : o ≤ 448) (ht : t ≤ 256) (a : Fin 2) : (![o, t] : Fin 2 → ℕ) a + S64x256.size a ≤ S512x512.size a := by
  fin_cases a <;> simp [S64x256, S512x512] <;> omega

theorem inb_keptA (o t : ℕ) (ho : o ≤ 448) (ht : t ≤ 384) (a : Fin 2) : (![o, t] : Fin 2 → ℕ) a + S64x128.size a ≤ S512x512.size a := by
  fin_cases a <;> simp [S64x128, S512x512] <;> omega

theorem inb_rowsB (t : ℕ) (ht : t ≤ 256) (a : Fin 2) : (![0, t] : Fin 2 → ℕ) a + S512x256.size a ≤ S512x512.size a := by
  fin_cases a <;> simp [S512x256, S512x512] <;> omega

theorem inb_rowsA (t : ℕ) (ht : t ≤ 384) (a : Fin 2) : (![0, t] : Fin 2 → ℕ) a + S512x128.size a ≤ S512x512.size a := by
  fin_cases a <;> simp [S512x128, S512x512] <;> omega

/-- Head `n`'s kept rows, at columns from `t`. -/
def pieceB (x9 : Vec F S512x256 .f32) (t : ℕ) (ht : t ≤ 256) (Y : Fin 8 → FVec F S64x256 .f32) (n : Fin 8) : View.Piece (Elt F) S512x512 .f32 :=
  ⟨Rect.unit ![64 * n.val, t] S64x256.size (inb_keptB _ _ (by omega) ht), gainB (Y n) (gainsB x9 (64 * n.val) (inb_gains _ (by omega)))⟩

/-- The eight heads' kept rows over what was kept before, the last head's first. -/
def keepB (x9 : Vec F S512x256 .f32) (t : ℕ) (ht : t ≤ 256) (Y : Fin 8 → FVec F S64x256 .f32) (L : List (View.Piece (Elt F) S512x512 .f32)) :
    List (View.Piece (Elt F) S512x512 .f32) :=
  pieceB x9 t ht Y 7 :: pieceB x9 t ht Y 6 :: pieceB x9 t ht Y 5 :: pieceB x9 t ht Y 4 :: pieceB x9 t ht Y 3 :: pieceB x9 t ht Y 2 ::
    pieceB x9 t ht Y 1 :: pieceB x9 t ht Y 0 :: L

/-- The eight heads' sums of squares. -/
def squaresB (Y : Fin 8 → FVec F S64x256 .f32) : FVec F S8x256 .f32 :=
  sqB (sqB (sqB (sqB (sqB (sqB (sqB (sqB (broadcast S8x256 (Scalar.ofBits .f32 0x00000000#32)) (Y 0)) (Y 1)) (Y 2)) (Y 3)) (Y 4)) (Y 5)) (Y 6)) (Y 7)

/-- A head's 64 rows of the feature block, from row `o`, on the query tile at `t`. -/
def featA (x : Vec F S1x1792x512 .bf16) (o t : ℕ) (h : ∀ a, (![0, o, t] : Fin 3 → ℕ) a + S1x64x128.size a ≤ S1x1792x512.size a) :
    Vec F S1x64x128 .bf16 := View.ld x (Rect.unit ![0, o, t] S1x64x128.size h)

theorem inb_featA (o t : ℕ) (ho : o ≤ 1728) (ht : t ≤ 384) (a : Fin 3) : (![0, o, t] : Fin 3 → ℕ) a + S1x64x128.size a ≤ S1x1792x512.size a := by
  fin_cases a <;> simp [S1x64x128, S1x1792x512] <;> omega

theorem inb_gainsA (o : ℕ) (ho : o ≤ 448) (a : Fin 2) : (![o, 0] : Fin 2 → ℕ) a + S64x128.size a ≤ S512x128.size a := by
  fin_cases a <;> simp [S64x128, S512x128] <;> omega

theorem inb_biasA (v : ℕ) (hv : v ≤ 1) (a : Fin 3) : (![v, 0, 0] : Fin 3 → ℕ) a + S1x256x512.size a ≤ S2x256x512.size a := by
  fin_cases a <;> simp [S1x256x512, S2x256x512] <;> omega

theorem inb_sinkA (v : ℕ) (hv : v ≤ 1) (a : Fin 3) : (![v, 0, 0] : Fin 3 → ℕ) a + S1x1x512.size a ≤ S2x1x512.size a := by
  fin_cases a <;> simp [S1x1x512, S2x1x512] <;> omega

theorem inb_curA (a : Fin 3) : (![0, 1536, 0] : Fin 3 → ℕ) a + S1x256x128.size a ≤ S1x1792x512.size a := by
  fin_cases a <;> simp [S1x256x128, S1x1792x512]

theorem inb_before (a : Fin 3) : (![0, 0, 0] : Fin 3 → ℕ) a + S1x256x128.size a ≤ S1x256x128.size a := by
  fin_cases a <;> simp [S1x256x128]

theorem inb_winA (t : ℕ) (ht : t ≤ 256) (a : Fin 3) : (![0, 1536, t] : Fin 3 → ℕ) a + S1x256x256.size a ≤ S1x1792x512.size a := by
  fin_cases a <;> simp [S1x256x256, S1x1792x512] <;> omega

/-- The window of keys and values of the query tile `r`. -/
def winAt (x0 : Vec F S1x1792x512 .bf16) (x4 : Vec F S1x256x128 .bf16) (r : Fin 4) : FVec F S256x256 .bf16 :=
  match r with
  | 0 => winFst (View.ld x4 (Rect.unit ![0, 0, 0] S1x256x128.size inb_before)) (View.ld x0 (Rect.unit ![0, 1536, 0] S1x256x128.size inb_curA))
  | 1 => winIn (View.ld x0 (Rect.unit ![0, 1536, 0] S1x256x256.size (inb_winA _ (by omega))))
  | 2 => winIn (View.ld x0 (Rect.unit ![0, 1536, 128] S1x256x256.size (inb_winA _ (by omega))))
  | 3 => winIn (View.ld x0 (Rect.unit ![0, 1536, 256] S1x256x256.size (inb_winA _ (by omega))))

/-- Only the step's first tile of queries sees keys before the step. -/
def maskAt (i : grid0.Coords) (r : Fin 4) (s : FVec F S128x512 .f32) : FVec F S128x512 .f32 :=
  match r with
  | 0 => maskA i s
  | _ => s

/-- The four heads of key head `v` on the query tile `r`. -/
def quadAt (i : grid0.Coords) (x0 : Vec F S1x1792x512 .bf16) (x4 : Vec F S1x256x128 .bf16) (x5 : Vec F S2x256x512 .f32) (x6 : Vec F S2x1x512 .f32)
    (r : Fin 4) (v : Fin 2) : FVec F S64x512 .f32 :=
  quadA (v.val == 0) (winAt x0 x4 r) (featA x0 (256 * v.val) (128 * r.val) (inb_featA _ _ (by omega) (by omega)))
    (featA x0 (256 * v.val + 64) (128 * r.val) (inb_featA _ _ (by omega) (by omega)))
    (featA x0 (256 * v.val + 128) (128 * r.val) (inb_featA _ _ (by omega) (by omega)))
    (featA x0 (256 * v.val + 192) (128 * r.val) (inb_featA _ _ (by omega) (by omega)))
    (View.ld x5 (Rect.unit ![v.val, 0, 0] S1x256x512.size (inb_biasA _ (by omega))))
    (View.ld x6 (Rect.unit ![v.val, 0, 0] S1x1x512.size (inb_sinkA _ (by omega)))) (maskAt i r)

theorem slices_cols (g : ℕ) (hg : g < 4) : S64x512.Slices ![0, 128 * g] S64x128 := by
  interval_cases g <;> decide

/-- Head `n` on the query tile `r`. -/
def queryAt (i : grid0.Coords) (x0 : Vec F S1x1792x512 .bf16) (x4 : Vec F S1x256x128 .bf16) (x5 : Vec F S2x256x512 .f32) (x6 : Vec F S2x1x512 .f32)
    (r : Fin 4) (n : Fin 8) : FVec F S64x128 .f32 :=
  colsA (128 * (n.val % 4)) (slices_cols _ (by omega)) (quadAt i x0 x4 x5 x6 r ⟨n.val / 4, by omega⟩)

/-- Head `n`'s kept rows, at columns from `t`. -/
def pieceA (x8 : Vec F S512x128 .f32) (t : ℕ) (ht : t ≤ 384) (Y : Fin 8 → FVec F S64x128 .f32) (n : Fin 8) : View.Piece (Elt F) S512x512 .f32 :=
  ⟨Rect.unit ![64 * n.val, t] S64x128.size (inb_keptA _ _ (by omega) ht),
    gainA (Y n) (View.ld x8 (Rect.unit ![64 * n.val, 0] S64x128.size (inb_gainsA _ (by omega))))⟩

/-- The eight heads' kept rows over what was kept before, the last head's first. -/
def keepA (x8 : Vec F S512x128 .f32) (t : ℕ) (ht : t ≤ 384) (Y : Fin 8 → FVec F S64x128 .f32) (L : List (View.Piece (Elt F) S512x512 .f32)) :
    List (View.Piece (Elt F) S512x512 .f32) :=
  pieceA x8 t ht Y 7 :: pieceA x8 t ht Y 6 :: pieceA x8 t ht Y 5 :: pieceA x8 t ht Y 4 :: pieceA x8 t ht Y 3 :: pieceA x8 t ht Y 2 ::
    pieceA x8 t ht Y 1 :: pieceA x8 t ht Y 0 :: L

/-- The eight heads' sums of squares. -/
def squaresA (Y : Fin 8 → FVec F S64x128 .f32) : FVec F S8x128 .f32 :=
  sqA (sqA (sqA (sqA (sqA (sqA (sqA (sqA (broadcast S8x128 (Scalar.ofBits .f32 0x00000000#32)) (Y 0)) (Y 1)) (Y 2)) (Y 3)) (Y 4)) (Y 5)) (Y 6)) (Y 7)

theorem inb_outB (t : ℕ) (ht : t ≤ 256) (a : Fin 3) : (![0, 512, t] : Fin 3 → ℕ) a + S1x512x256.size a ≤ S1x1024x512.size a := by
  fin_cases a <;> simp [S1x512x256, S1x1024x512] <;> omega

theorem inb_outA (t : ℕ) (ht : t ≤ 384) (a : Fin 3) : (![0, 0, t] : Fin 3 → ℕ) a + S1x512x128.size a ≤ S1x1024x512.size a := by
  fin_cases a <;> simp [S1x512x128, S1x1024x512] <;> omega

/-- What group B's scratch holds once the tiles up to `q` are done. -/
def keptB (x9 : Vec F S512x256 .f32) (Y : Fin 2 → Fin 8 → FVec F S64x256 .f32) (q : Fin 2) : List (View.Piece (Elt F) S512x512 .f32) :=
  match q with
  | 0 => keepB x9 0 (by omega) (Y 0) []
  | 1 => keepB x9 256 (by omega) (Y 1) (keepB x9 0 (by omega) (Y 0) [])

/-- What group A's scratch holds once the tiles up to `r` are done. -/
def keptA (x8 : Vec F S512x128 .f32) (Y : Fin 4 → Fin 8 → FVec F S64x128 .f32) (r : Fin 4) : List (View.Piece (Elt F) S512x512 .f32) :=
  match r with
  | 0 => keepA x8 0 (by omega) (Y 0) []
  | 1 => keepA x8 128 (by omega) (Y 1) (keepA x8 0 (by omega) (Y 0) [])
  | 2 => keepA x8 256 (by omega) (Y 2) (keepA x8 128 (by omega) (Y 1) (keepA x8 0 (by omega) (Y 0) []))
  | 3 => keepA x8 384 (by omega) (Y 3) (keepA x8 256 (by omega) (Y 2) (keepA x8 128 (by omega) (Y 1) (keepA x8 0 (by omega) (Y 0) [])))

/-- The stored rows of group B on the tile `q`. -/
def outB (v : View sig .tc .vmem S512x512 .f32) (x9 : Vec F S512x256 .f32) (Y : Fin 2 → Fin 8 → FVec F S64x256 .f32) (q : Fin 2) :
    View.Piece (Elt F) S1x1024x512 .bf16 :=
  ⟨Rect.unit ![0, 512, 256 * q.val] S1x512x256.size (inb_outB _ (by omega)),
    normB (v.readCov (keptB x9 Y q) (Rect.unit (s := S512x512) ![0, 256 * q.val] S512x256.size (inb_rowsB _ (by omega))).toLoadRect) (squaresB (Y q))⟩

/-- The stored rows of group A on the tile `r`. -/
def outA (v : View sig .tc .vmem S512x512 .f32) (x8 : Vec F S512x128 .f32) (Y : Fin 4 → Fin 8 → FVec F S64x128 .f32) (r : Fin 4) :
    View.Piece (Elt F) S1x1024x512 .bf16 :=
  ⟨Rect.unit ![0, 0, 128 * r.val] S1x512x128.size (inb_outA _ (by omega)),
    normA (v.readCov (keptA x8 Y r) (Rect.unit (s := S512x512) ![0, 128 * r.val] S512x128.size (inb_rowsA _ (by omega))).toLoadRect) (squaresA (Y r))⟩

end Cert.Attn

end
-- ==== Proof.AttnStores.lean ====
/-
  The body's stores are the blocks of AttnPieces.
-/
module

public import proofs.«01_k».proof.Proof.AttnPieces
public import proofs.«01_k».proof.Proof.Gen.KernelIdeal.Frame.RunA

@[expose] public section

set_option maxRecDepth 16384

noncomputable section

namespace Cert.Attn

open Cert.KernelIdeal Cert.KernelIdeal.Gen
open Idealize.ShloMosaic Idealize.ShloMosaic.TcCoe Idealize.SL.Sem

variable {F : FTy → Type} [FloatOps F] [Named F]

set_option maxHeartbeats 8000000 in
/-- The body's stores, the last first: group A's four tiles and group B's two. -/
theorem stores (c : Dev nD) (i : grid0.Coords) (arg2 : Memref sig .tc .vmem S1x1792x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x256x128 .bf16) (harg6 : arg6.IsWhole) (arg7 : Memref sig .tc .vmem S2x256x512 .f32) (harg7 : arg7.IsWhole) (arg8 : Memref sig .tc .vmem S2x1x512 .f32) (harg8 : arg8.IsWhole) (arg9 : Memref sig .tc .vmem S8x768x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S1x1024x512 .bf16) (harg12 : arg12.IsWhole) (arg13 : Memref sig .tc .vmem S512x512 .f32) (harg13 : arg13.IsWhole) (arg14 : Memref sig .tc .vmem S512x512 .f32) (harg14 : arg14.IsWhole)
    (x0 : Vec F S1x1792x512 .bf16) (x1 : Vec F S1x512x512 .bf16) (x2 : Vec F S1x512x512 .bf16) (x3 : Vec F S1x512x512 .bf16) (x4 : Vec F S1x256x128 .bf16) (x5 : Vec F S2x256x512 .f32) (x6 : Vec F S2x1x512 .f32) (x7 : Vec F S8x768x256 .f32) (x8 : Vec F S512x128 .f32) (x9 : Vec F S512x256 .f32)
    (y0 : Vec F S1x1792x512 .bf16) (y1 y2 y3 : Vec F S1x512x512 .bf16) (y4 : Vec F S1x256x128 .bf16) (y5 : Vec F S2x256x512 .f32) (y6 : Vec F S2x1x512 .f32) (y7 : Vec F S8x768x256 .f32) (y8 : Vec F S512x128 .f32) (y9 : Vec F S512x256 .f32)
    (h0 : y0 = arg2.view.read (Elt F) (harg2.unread x0)) (h1 : y1 = arg3.view.read (Elt F) (harg3.unread x1)) (h2 : y2 = arg4.view.read (Elt F) (harg4.unread x2))
    (h3 : y3 = arg5.view.read (Elt F) (harg5.unread x3)) (h4 : y4 = arg6.view.read (Elt F) (harg6.unread x4)) (h5 : y5 = arg7.view.read (Elt F) (harg7.unread x5))
    (h6 : y6 = arg8.view.read (Elt F) (harg8.unread x6)) (h7 : y7 = arg9.view.read (Elt F) (harg9.unread x7)) (h8 : y8 = arg10.view.read (Elt F) (harg10.unread x8))
    (h9 : y9 = arg11.view.read (Elt F) (harg11.unread x9)) :
    (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 =
      [outA arg13.view y8 (queryAt i y0 y4 y5 y6) 3, outA arg13.view y8 (queryAt i y0 y4 y5 y6) 2, outB arg14.view y9 (headAt i y0 y1 y2 y3 y7) 1,
        outA arg13.view y8 (queryAt i y0 y4 y5 y6) 1, outA arg13.view y8 (queryAt i y0 y4 y5 y6) 0, outB arg14.view y9 (headAt i y0 y1 y2 y3 y7) 0] := by
  subst h0 h1 h2 h3 h4 h5 h6 h7 h8 h9
  rfl

end Cert.Attn

end
-- ==== Proof.AttnReadB.lean ====
/-
  Group B's building blocks read at an index, over the extended reals: one head's result on one tile of 256 queries is
  the softmax of the head's scores against the three blocks of 256 keys, times the values.
-/
module

public import proofs.«01_k».proof.Proof.AttnPieces
public import proofs.«01_k».proof.Proof.AttnMath

@[expose] public section

set_option maxRecDepth 16384

noncomputable section

namespace Cert.Attn

open Cert.KernelIdeal Cert.KernelIdeal.Gen
open Idealize.ShloMosaic Idealize.ShloMosaic.TcCoe Idealize.SL.Sem

theorem log2e_eq : Named.named (F := Ideal) (φ := .f32) κ "log2e" 0x3FB8AA3B#32 = lg :=
  IdealRules.named_const.ideal_named_scalar _ _ _ _ rfl

theorem mask_eq : Named.named (F := Ideal) (φ := .f32) κ "mask" 0xF149F2CA#32 = (⊥ : EReal) :=
  IdealRules.named_const.ideal_named_scalar _ _ _ _ rfl

theorem negInf_eq : Ideal.ofBits FTy.f32 4286578688#32 = (⊥ : EReal) := by
  simp [Ideal.ofBits, Ideal.ieee]

theorem lg_pos : (0 : ℝ) < (Real.log 2)⁻¹ := inv_pos.mpr (Real.log_pos (by norm_num))

theorem mul_lg_ne_top {x : EReal} (h : x ≠ ⊤) : x * lg ≠ ⊤ := by
  by_cases hb : x = ⊥
  · subst hb; unfold lg; rw [EReal.bot_mul_coe_of_pos lg_pos]; exact bot_ne_top
  · obtain ⟨r, rfl⟩ := real_of_ne hb h
    unfold lg; rw [← EReal.coe_mul]; exact EReal.coe_ne_top _

theorem mul_lg_ne_bot {x : EReal} (hb : x ≠ ⊥) (h : x ≠ ⊤) : x * lg ≠ ⊥ := by
  obtain ⟨r, rfl⟩ := real_of_ne hb h
  unfold lg; rw [← EReal.coe_mul]; exact EReal.coe_ne_bot _

theorem max_ne_top {x y : EReal} (hx : x ≠ ⊤) (hy : y ≠ ⊤) : max x y ≠ ⊤ := by
  rcases max_choice x y with h | h <;> rw [h] <;> assumption

theorem max_ne_bot_left {x y : EReal} (hx : x ≠ ⊥) : max x y ≠ ⊥ :=
  fun h => hx (le_bot_iff.mp (h ▸ le_max_left x y))

theorem max_ne_bot_right {x y : EReal} (hy : y ≠ ⊥) : max x y ≠ ⊥ :=
  fun h => hy (le_bot_iff.mp (h ▸ le_max_right x y))

/-! ## A block of 256 keys as four quarters -/

/-- A block's weighted values from four quarters of scores. -/
def partG (t00 t10 t01 t11 : FVec Ideal S128x128 .f32) (v : Vec Ideal S1x64x256 .bf16) : FVec Ideal S72x256 .f32 :=
  accB v (quarters (weightB t00 (colMaxB (maximumf t00 t10))) (weightB t10 (colMaxB (maximumf t00 t10)))
    (weightB t01 (colMaxB (maximumf t01 t11))) (weightB t11 (colMaxB (maximumf t01 t11))))

/-- A block's column maxima from four quarters of scores. -/
def maxG (t00 t10 t01 t11 : FVec Ideal S128x128 .f32) : FVec Ideal S1x256 .f32 :=
  maxB (colMaxB (maximumf t00 t10)) (colMaxB (maximumf t01 t11))

/-- A dead quarter: no score. -/
def none128 : FVec Ideal S128x128 .f32 := fun _ => (⊥ : EReal)

theorem none_max (t : FVec Ideal S128x128 .f32) : maximumf none128 t = t := by
  funext j; show max (⊥ : EReal) (t j) = t j; simp

theorem max_none (t : FVec Ideal S128x128 .f32) : maximumf t none128 = t := by
  funext j; show max (t j) (⊥ : EReal) = t j; simp

theorem weightB_apply (t : FVec Ideal S128x128 .f32) (m : FVec Ideal S1x128 .f32) (r c : Fin 128) :
    weightB t m (ix2 r c) = Ideal.exp2 (t (ix2 r c) - m (ix2 0 c)) := by
  pointwise [weightB]
  rfl

/-- A dead quarter's weights are those of a quarter without scores. -/
theorem deadB_eq (m : FVec Ideal S1x128 .f32) : (deadB : FVec Ideal S128x128 .bf16) = weightB none128 m := by
  funext j
  idx_vars j
  rw [weightB_apply]
  show _ = Ideal.exp2 ((⊥ : EReal) - _)
  rw [EReal.bot_sub]
  pointwise [deadB]
  simp

theorem part0_eq (raw : FVec Ideal S256x256 .f32) (b00 b10 b11 : Vec Ideal S1x128x128 .f32) (v : Vec Ideal S1x64x256 .bf16) :
    part0 raw b00 b10 b11 v = partG (tileB ![0, 0] slices_S256x256_o0_0_S128x128 raw b00) (tileB ![128, 0] slices_S256x256_o128_0_S128x128 raw b10)
      none128 (tileB ![128, 128] slices_S256x256_o128_128_S128x128 raw b11) v := by
  unfold part0 partG
  rw [none_max, ← deadB_eq]

theorem max0_eq (raw : FVec Ideal S256x256 .f32) (b00 b10 b11 : Vec Ideal S1x128x128 .f32) :
    max0 raw b00 b10 b11 = maxG (tileB ![0, 0] slices_S256x256_o0_0_S128x128 raw b00) (tileB ![128, 0] slices_S256x256_o128_0_S128x128 raw b10)
      none128 (tileB ![128, 128] slices_S256x256_o128_128_S128x128 raw b11) := by
  unfold max0 maxG
  rw [none_max]

theorem part2_eq (raw : FVec Ideal S256x256 .f32) (b00 b01 b11 : Vec Ideal S1x128x128 .f32) (v : Vec Ideal S1x64x256 .bf16) :
    part2 raw b00 b01 b11 v = partG (tileB ![0, 0] slices_S256x256_o0_0_S128x128 raw b00) none128
      (tileB ![0, 128] slices_S256x256_o0_128_S128x128 raw b01) (tileB ![128, 128] slices_S256x256_o128_128_S128x128 raw b11) v := by
  unfold part2 partG
  rw [max_none, ← deadB_eq]

theorem max2_eq (raw : FVec Ideal S256x256 .f32) (b00 b01 b11 : Vec Ideal S1x128x128 .f32) :
    max2 raw b00 b01 b11 = maxG (tileB ![0, 0] slices_S256x256_o0_0_S128x128 raw b00) none128
      (tileB ![0, 128] slices_S256x256_o0_128_S128x128 raw b01) (tileB ![128, 128] slices_S256x256_o128_128_S128x128 raw b11) := by
  unfold max2 maxG
  rw [max_none]

/-- A quarter holds the scores `S`, to base two, of the keys from `o` and the queries from `o'`. -/
def Holds (t : FVec Ideal S128x128 .f32) (S : ℕ → ℕ → EReal) (o o' : ℕ) : Prop :=
  ∀ r c : Fin 128, t (ix2 r c) = S (o + r) (o' + c) * lg

theorem quarters_apply (a b c d : FVec Ideal S128x128 .bf16) (k q : Fin 256) :
    quarters a b c d (ix2 k q) = if h : q.val < 128 then if h' : k.val < 128 then a (ix2 ⟨k.val, h'⟩ ⟨q.val, h⟩) else b (ix2 ⟨k.val - 128, by omega⟩ ⟨q.val, h⟩)
      else if h' : k.val < 128 then c (ix2 ⟨k.val, h'⟩ ⟨q.val - 128, by omega⟩) else d (ix2 ⟨k.val - 128, by omega⟩ ⟨q.val - 128, by omega⟩) := by
  pointwise [quarters]

theorem maxG_apply (t00 t10 t01 t11 : FVec Ideal S128x128 .f32) (c : Fin 256) :
    maxG t00 t10 t01 t11 (ix2 0 c) = if h : c.val < 128 then colMaxB (maximumf t00 t10) (ix2 0 ⟨c.val, h⟩)
      else colMaxB (maximumf t01 t11) (ix2 0 ⟨c.val - 128, by omega⟩) := by
  pointwise [maxG, maxB]

/-- A block's weights. -/
theorem weights_apply (t00 t10 t01 t11 : FVec Ideal S128x128 .f32) (S : ℕ → ℕ → EReal)
    (h00 : Holds t00 S 0 0) (h10 : Holds t10 S 128 0) (h01 : Holds t01 S 0 128) (h11 : Holds t11 S 128 128) (k c : Fin 256) :
    quarters (weightB t00 (colMaxB (maximumf t00 t10))) (weightB t10 (colMaxB (maximumf t00 t10)))
      (weightB t01 (colMaxB (maximumf t01 t11))) (weightB t11 (colMaxB (maximumf t01 t11))) (ix2 k c)
      = Ideal.exp2 (S k c * lg - maxG t00 t10 t01 t11 (ix2 0 c)) := by
  rw [quarters_apply, maxG_apply]
  by_cases hc : c.val < 128 <;> by_cases hk : k.val < 128 <;> simp only [hc, hk, dif_pos, dif_neg, not_false_eq_true]
  · rw [weightB_apply, h00]; simp
  · rw [weightB_apply, h10]; simp only [Nat.zero_add]; rw [Nat.add_sub_cancel' (by omega)]
  · rw [weightB_apply, h01]; simp only [Nat.zero_add]; rw [Nat.add_sub_cancel' (by omega)]
  · rw [weightB_apply, h11]; simp only []; rw [Nat.add_sub_cancel' (by omega), Nat.add_sub_cancel' (by omega)]

theorem accB_apply (v : Vec Ideal S1x64x256 .bf16) (pt : FVec Ideal S256x256 .bf16) (d : Fin 72) (c : Fin 256) :
    accB v pt (ix2 d c) = ∑ k : Fin 256, (if h : d.val < 64 then v (ix3 0 ⟨d.val, h⟩ k) else (1 : EReal)) * pt (ix2 k c) := by
  pointwise [accB, k0_pay4]

/-- Weighted values (rows below 64) or the weights' sum (row 64) of a block. -/
theorem partG_apply (t00 t10 t01 t11 : FVec Ideal S128x128 .f32) (v : Vec Ideal S1x64x256 .bf16) (S : ℕ → ℕ → EReal)
    (h00 : Holds t00 S 0 0) (h10 : Holds t10 S 128 0) (h01 : Holds t01 S 0 128) (h11 : Holds t11 S 128 128) (d : Fin 72) (c : Fin 256) :
    partG t00 t10 t01 t11 v (ix2 d c)
      = ∑ k : Fin 256, (if h : d.val < 64 then v (ix3 0 ⟨d.val, h⟩ k) else (1 : EReal)) * Ideal.exp2 (S k c * lg - maxG t00 t10 t01 t11 (ix2 0 c)) := by
  unfold partG
  rw [accB_apply]
  exact Finset.sum_congr rfl fun k _ => by rw [weights_apply _ _ _ _ S h00 h10 h01 h11]

theorem partG_val (t00 t10 t01 t11 : FVec Ideal S128x128 .f32) (v : Vec Ideal S1x64x256 .bf16) (S : ℕ → ℕ → EReal)
    (h00 : Holds t00 S 0 0) (h10 : Holds t10 S 128 0) (h01 : Holds t01 S 0 128) (h11 : Holds t11 S 128 128) (d : Fin 64) (c : Fin 256) :
    partG t00 t10 t01 t11 v (ix2 ⟨d.val, by omega⟩ c) = ∑ k : Fin 256, v (ix3 0 d k) * Ideal.exp2 (S k c * lg - maxG t00 t10 t01 t11 (ix2 0 c)) :=
  (partG_apply t00 t10 t01 t11 v S h00 h10 h01 h11 _ c).trans (Finset.sum_congr rfl fun k _ => by rw [dif_pos d.isLt])

theorem partG_ones (t00 t10 t01 t11 : FVec Ideal S128x128 .f32) (v : Vec Ideal S1x64x256 .bf16) (S : ℕ → ℕ → EReal)
    (h00 : Holds t00 S 0 0) (h10 : Holds t10 S 128 0) (h01 : Holds t01 S 0 128) (h11 : Holds t11 S 128 128) (c : Fin 256) :
    partG t00 t10 t01 t11 v (ix2 64 c) = ∑ k : Fin 256, 1 * Ideal.exp2 (S k c * lg - maxG t00 t10 t01 t11 (ix2 0 c)) :=
  (partG_apply t00 t10 t01 t11 v S h00 h10 h01 h11 _ c).trans (Finset.sum_congr rfl fun k _ => by rw [dif_neg (by decide)])

theorem colMaxB_real (t t' : FVec Ideal S128x128 .f32) (S : ℕ → ℕ → EReal) (o : ℕ) (h : Holds t S 0 o) (h' : Holds t' S 128 o)
    (c : Fin 128) (hS : ∀ k : Fin 256, S k (o + c) ≠ ⊤) (k : Fin 256) (hk : S k (o + c) ≠ ⊥) :
    ∃ r : ℝ, colMaxB (maximumf t t') (ix2 0 c) = r := by
  have e : colMaxB (maximumf t t') (ix2 0 c)
      = Finset.univ.fold max (⊥ : EReal) (fun x : Fin 128 => max (S x (o + c) * lg) (S (128 + x) (o + c) * lg)) := by
    rw [← negInf_eq]
    pointwise [colMaxB]
    congr 1
    funext x
    rw [h, h']
    simp
  rw [e]
  have hS' : ∀ j : ℕ, j < 256 → S j (o + c) ≠ ⊤ := fun j hj => hS ⟨j, hj⟩
  have hn : ∀ x : Fin 128, max (S x (o + c) * lg) (S (128 + x) (o + c) * lg) ≠ ⊤ := fun x =>
    max_ne_top (mul_lg_ne_top (hS' _ (by omega))) (mul_lg_ne_top (hS' _ (by omega)))
  by_cases hl : k.val < 128
  · exact fold_max_real _ hn ⟨k.val, hl⟩ (max_ne_bot_left (mul_lg_ne_bot hk (hS k)))
  · refine fold_max_real _ hn ⟨k.val - 128, by omega⟩ (max_ne_bot_right ?_)
    simp only []
    rw [Nat.add_sub_cancel' (by omega)]
    exact mul_lg_ne_bot hk (hS k)

/-- A block's maxima are real where every query has a key. -/
theorem maxG_real (t00 t10 t01 t11 : FVec Ideal S128x128 .f32) (S : ℕ → ℕ → EReal)
    (h00 : Holds t00 S 0 0) (h10 : Holds t10 S 128 0) (h01 : Holds t01 S 0 128) (h11 : Holds t11 S 128 128) (c : Fin 256)
    (hS : ∀ k : Fin 256, S k c ≠ ⊤) (k : Fin 256) (hk : S k c ≠ ⊥) : ∃ r : ℝ, maxG t00 t10 t01 t11 (ix2 0 c) = r := by
  rw [maxG_apply]
  split_ifs with hc
  · exact colMaxB_real _ _ S 0 h00 h10 _ (by simpa using hS) k (by simpa using hk)
  · refine colMaxB_real _ _ S 128 h01 h11 _ ?_ k ?_ <;> simp only [] <;> rw [Nat.add_sub_cancel' (by omega)] <;> assumption

/-! ## The three blocks put together -/

/-- A masked block has no scores. -/
def masked (L : Prop) [Decidable L] (s : Fin 256 → EReal) (k : Fin 256) : EReal := if L then s k else ⊥

theorem total_bot (v : Fin 256 → EReal) : total (fun _ => (⊥ : EReal)) v = 0 := by
  unfold total; simp

theorem mass_bot : mass (fun _ : Fin 256 => (⊥ : EReal)) = 0 := by
  unfold mass; simp

/-- A block's part, weighed against the common maximum `m`: its weighted values times a common factor. -/
theorem part_scaled (L : Prop) [Decidable L] (s v : Fin 256 → EReal) (hs : ∀ k, s k ≠ ⊤) (μ m : ℝ) (M : EReal) (hM : M = if L then (μ : EReal) else ⊥) :
    (∑ k, v k * Ideal.exp2 (s k * lg - μ)) * Ideal.exp2 (M - m) = ((Real.rpow 2 (-m) : ℝ) : EReal) * total (masked L s) v := by
  subst hM
  by_cases h : L
  · have e : masked L s = s := by funext k; simp [masked, h]
    rw [e, if_pos h]
    exact block_total s v hs μ m
  · have e : masked L s = fun _ => (⊥ : EReal) := by funext k; simp [masked, h]
    rw [e, if_neg h, total_bot, mul_zero]
    exact block_masked _ _

theorem mass_eq_total (s : Fin 256 → EReal) : mass s = total s (fun _ => 1) := by
  unfold mass total; simp

/-- Three blocks' weighted values over their weights' sum is the softmax of the three blocks together. -/
theorem three_blocks (L0 L1 : Prop) [Decidable L0] [Decidable L1] (s0 s1 s2 v0 v1 v2 : Fin 256 → EReal)
    (h0 : ∀ k, s0 k ≠ ⊤) (h1 : ∀ k, s1 k ≠ ⊤) (h2 : ∀ k, s2 k ≠ ⊤) (k : Fin 256) (hk : s2 k ≠ ⊥) (μ0 μ1 μ2 : ℝ) (M0 M1 : EReal)
    (hM0 : M0 = if L0 then (μ0 : EReal) else ⊥) (hM1 : M1 = if L1 then (μ1 : EReal) else ⊥) :
    (0 + (∑ k, v0 k * Ideal.exp2 (s0 k * lg - μ0)) * Ideal.exp2 (M0 - max (max M0 M1) μ2)
        + (∑ k, v1 k * Ideal.exp2 (s1 k * lg - μ1)) * Ideal.exp2 (M1 - max (max M0 M1) μ2)
        + (∑ k, v2 k * Ideal.exp2 (s2 k * lg - μ2)) * Ideal.exp2 ((μ2 : EReal) - max (max M0 M1) μ2))
      * Ideal.div 1 (0 + (∑ k, 1 * Ideal.exp2 (s0 k * lg - μ0)) * Ideal.exp2 (M0 - max (max M0 M1) μ2)
        + (∑ k, 1 * Ideal.exp2 (s1 k * lg - μ1)) * Ideal.exp2 (M1 - max (max M0 M1) μ2)
        + (∑ k, 1 * Ideal.exp2 (s2 k * lg - μ2)) * Ideal.exp2 ((μ2 : EReal) - max (max M0 M1) μ2))
      = share (total (masked L0 s0) v0 + total (masked L1 s1) v1 + total s2 v2) (mass (masked L0 s0) + mass (masked L1 s1) + mass s2) := by
  obtain ⟨m, hm⟩ : ∃ m : ℝ, max (max M0 M1) (μ2 : EReal) = m := by
    refine real_of_ne (max_ne_bot_right (EReal.coe_ne_bot _)) (max_ne_top (max_ne_top ?_ ?_) (EReal.coe_ne_top _)) <;> subst hM0 hM1 <;>
      split_ifs <;> simp
  have p2 : (0 : ℝ) < Real.rpow 2 (-m) := Real.rpow_pos_of_pos (by norm_num) _
  have e2 : masked True s2 = s2 := by funext k; simp [masked]
  have ht : ∀ (L : Prop) [Decidable L] (s : Fin 256 → EReal), (∀ k, s k ≠ ⊤) → ∀ k, masked L s k ≠ ⊤ := by
    intro L _ s hs k; unfold masked; split_ifs
    · exact hs k
    · exact bot_ne_top
  rw [hm, part_scaled L0 s0 v0 h0 μ0 m M0 hM0, part_scaled L1 s1 v1 h1 μ1 m M1 hM1, part_scaled True s2 v2 h2 μ2 m (μ2 : EReal) (by simp),
    part_scaled L0 s0 (fun _ => 1) h0 μ0 m M0 hM0, part_scaled L1 s1 (fun _ => 1) h1 μ1 m M1 hM1,
    part_scaled True s2 (fun _ => 1) h2 μ2 m (μ2 : EReal) (by simp), e2, zero_add, zero_add, ← coe_mul_add _ p2.le, ← coe_mul_add _ p2.le,
    ← coe_mul_add _ p2.le, ← coe_mul_add _ p2.le, ← mass_eq_total, ← mass_eq_total, ← mass_eq_total]
  refine share_scale _ p2 _ _ ?_
  exact ((mass_nonNeg _ (ht L0 s0 h0)).add (mass_nonNeg _ (ht L1 s1 h1))).add_pos (mass_pos s2 h2 k hk)

/-- Reading the three parts and the quotient at a feature and a query. -/
theorem quot_sum_apply (p0 p1 p2 : FVec Ideal S72x256 .f32) (m0 m1 m2 : FVec Ideal S1x256 .f32) (d : Fin 64) (c : Fin 256) :
    quotB (sumB p0 p1 p2 m0 m1 m2) (ix2 d c)
      = (0 + p0 (ix2 ⟨d.val, by omega⟩ c) * Ideal.exp2 (m0 (ix2 0 c) - max (max (m0 (ix2 0 c)) (m1 (ix2 0 c))) (m2 (ix2 0 c)))
          + p1 (ix2 ⟨d.val, by omega⟩ c) * Ideal.exp2 (m1 (ix2 0 c) - max (max (m0 (ix2 0 c)) (m1 (ix2 0 c))) (m2 (ix2 0 c)))
          + p2 (ix2 ⟨d.val, by omega⟩ c) * Ideal.exp2 (m2 (ix2 0 c) - max (max (m0 (ix2 0 c)) (m1 (ix2 0 c))) (m2 (ix2 0 c))))
        * Ideal.div 1 (0 + p0 (ix2 64 c) * Ideal.exp2 (m0 (ix2 0 c) - max (max (m0 (ix2 0 c)) (m1 (ix2 0 c))) (m2 (ix2 0 c)))
          + p1 (ix2 64 c) * Ideal.exp2 (m1 (ix2 0 c) - max (max (m0 (ix2 0 c)) (m1 (ix2 0 c))) (m2 (ix2 0 c)))
          + p2 (ix2 64 c) * Ideal.exp2 (m2 (ix2 0 c) - max (max (m0 (ix2 0 c)) (m1 (ix2 0 c))) (m2 (ix2 0 c)))) := by
  pointwise [quotB, sumB, scaleB]
  rfl

/-! ## One head -/

/-- Keys times a head's queries: the sum over the head's 64 features. -/
theorem rawB_apply (n : Fin 8) (kp : Vec Ideal S1x256x128 .bf16) (qt : Vec Ideal S1x64x256 .bf16) (k c : Fin 256) :
    rawB kp (padB (n.val % 2 == 0) qt) (ix2 k c) = ∑ x : Fin 64, kp (ix3 0 k ⟨64 * (n.val % 2) + x.val, by omega⟩) * qt (ix3 0 x c) := by
  rcases Nat.mod_two_eq_zero_or_one n.val with h | h
  · have e : (n.val % 2 == 0) = true := by simp [h]
    rw [e]
    pointwise [rawB, padB, k0_pay3]
    simp [h]
  · have e : (n.val % 2 == 0) = false := by simp [h]
    rw [e]
    pointwise [rawB, padB, k0_pay3]
    simp [h]

/-- The score of query `c` against key `k` of block `p`: no score in the block's dead quarter. -/
def scoreB (raw : FVec Ideal S256x256 .f32) (x7 : Vec Ideal S8x768x256 .f32) (n : Fin 8) (p : Fin 3) (k c : ℕ) : EReal :=
  if h : k < 256 ∧ c < 256 then
    if (p.val = 0 ∧ k < 128 ∧ 128 ≤ c) ∨ (p.val = 2 ∧ 128 ≤ k ∧ c < 128) then ⊥
    else raw (ix2 ⟨k, h.1⟩ ⟨c, h.2⟩) + x7 (ix3 n ⟨256 * p.val + k, by omega⟩ ⟨c, h.2⟩)
  else ⊥

theorem tileB_holds (raw : FVec Ideal S256x256 .f32) (x7 : Vec Ideal S8x768x256 .f32) (n : Fin 8) (p : Fin 3) (o o' u : ℕ)
    (hs : S256x256.Slices ![o, o'] S128x128) (hu : u = 256 * p.val + o) (ho : o ≤ 128) (ho' : o' ≤ 128)
    (hb : ∀ a, (![n.val, u, o'] : Fin 3 → ℕ) a + S1x128x128.size a ≤ S8x768x256.size a)
    (hl : ¬(p.val = 0 ∧ o < 128 ∧ 128 ≤ o')) (hl' : ¬(p.val = 2 ∧ 128 ≤ o ∧ o' < 128)) (hm : o = 0 ∨ o = 128) (hm' : o' = 0 ∨ o' = 128) :
    Holds (tileB ![o, o'] hs raw (biasB x7 n.val u o' hb)) (scoreB raw x7 n p) o o' := by
  subst hu
  intro r c
  have e : tileB ![o, o'] hs raw (biasB x7 n.val (256 * p.val + o) o' hb) (ix2 r c)
      = (raw (ix2 ⟨o + r.val, by omega⟩ ⟨o' + c.val, by omega⟩) + x7 (ix3 n ⟨256 * p.val + o + r.val, by omega⟩ ⟨o' + c.val, by omega⟩)) * lg := by
    rw [← log2e_eq]
    pointwise [tileB, biasB]
  rw [e]
  unfold scoreB
  rw [dif_pos ⟨by omega, by omega⟩, if_neg (by omega)]
  simp only [Nat.add_assoc]

theorem none_holds (raw : FVec Ideal S256x256 .f32) (x7 : Vec Ideal S8x768x256 .f32) (n : Fin 8) (p : Fin 3) (o o' : ℕ)
    (ho : o ≤ 128) (ho' : o' ≤ 128) (hl : (p.val = 0 ∧ o = 0 ∧ 128 = o') ∨ (p.val = 2 ∧ 128 = o ∧ o' = 0)) :
    Holds none128 (scoreB raw x7 n p) o o' := by
  intro r c
  unfold scoreB
  rw [dif_pos ⟨by omega, by omega⟩, if_pos (by omega)]
  show (⊥ : EReal) = _
  unfold lg
  rw [EReal.bot_mul_coe_of_pos lg_pos]

set_option maxHeartbeats 4000000 in
/-- One head's result at a feature and a query: the softmax of its scores against the three key blocks (the first two
    masked as `L0` and `L1` say), times the values. -/
theorem headOn_apply (x0 : Vec Ideal S1x1792x512 .bf16) (x7 : Vec Ideal S8x768x256 .f32) (n : Fin 8) (t : ℕ) (ht : t ≤ 256)
    (k0 k1 k2 : Vec Ideal S1x256x128 .bf16) (v0 v1 v2 : Vec Ideal S1x64x256 .bf16) (g0 g1 : FVec Ideal S1x256 .f32 → FVec Ideal S1x256 .f32)
    (L0 L1 : Prop) [Decidable L0] [Decidable L1] (hg0 : ∀ M c, g0 M (ix2 0 c) = if L0 then M (ix2 0 c) else (⊥ : EReal))
    (hg1 : ∀ M c, g1 M (ix2 0 c) = if L1 then M (ix2 0 c) else (⊥ : EReal)) (r0 r1 r2 : FVec Ideal S256x256 .f32)
    (hr0 : r0 = rawB k0 (padB (n.val % 2 == 0) (featB x0 (512 + 64 * n.val) t (inb_feat _ _ (by omega) ht))))
    (hr1 : r1 = rawB k1 (padB (n.val % 2 == 0) (featB x0 (512 + 64 * n.val) t (inb_feat _ _ (by omega) ht))))
    (hr2 : r2 = rawB k2 (padB (n.val % 2 == 0) (featB x0 (512 + 64 * n.val) t (inb_feat _ _ (by omega) ht))))
    (d : Fin 64) (c : Fin 256)
    (h0 : ∀ k : Fin 256, scoreB r0 x7 n 0 k c ≠ ⊤) (h1 : ∀ k : Fin 256, scoreB r1 x7 n 1 k c ≠ ⊤) (h2 : ∀ k : Fin 256, scoreB r2 x7 n 2 k c ≠ ⊤)
    (l0 : ∃ k : Fin 256, scoreB r0 x7 n 0 k c ≠ ⊥) (l1 : ∃ k : Fin 256, scoreB r1 x7 n 1 k c ≠ ⊥) (l2 : ∃ k : Fin 256, scoreB r2 x7 n 2 k c ≠ ⊥) :
    headOn x0 x7 n t ht k0 k1 k2 v0 v1 v2 g0 g1 (ix2 d c)
      = share (total (masked L0 fun k => scoreB r0 x7 n 0 k c) (fun k => v0 (ix3 0 d k)) + total (masked L1 fun k => scoreB r1 x7 n 1 k c) (fun k => v1 (ix3 0 d k))
          + total (fun k : Fin 256 => scoreB r2 x7 n 2 k c) (fun k => v2 (ix3 0 d k)))
        (mass (masked L0 fun k => scoreB r0 x7 n 0 k c) + mass (masked L1 fun k => scoreB r1 x7 n 1 k c) + mass (fun k : Fin 256 => scoreB r2 x7 n 2 k c)) := by
  obtain ⟨j0, l0⟩ := l0
  obtain ⟨j1, l1⟩ := l1
  obtain ⟨j2, l2⟩ := l2
  unfold headOn headB
  rw [← hr0, ← hr1, ← hr2, part0_eq, part2_eq, max0_eq, max2_eq, quot_sum_apply]
  have a0 := fun b => tileB_holds r0 x7 n 0 0 0 0 slices_S256x256_o0_0_S128x128 rfl (by omega) (by omega) b (by simp) (by simp) (by simp) (by simp)
  have a1 := fun b => tileB_holds r0 x7 n 0 128 0 128 slices_S256x256_o128_0_S128x128 rfl (by omega) (by omega) b (by simp) (by simp) (by simp) (by simp)
  have a2 := none_holds r0 x7 n 0 0 128 (by omega) (by omega) (by simp)
  have a3 := fun b => tileB_holds r0 x7 n 0 128 128 128 slices_S256x256_o128_128_S128x128 rfl (by omega) (by omega) b (by simp) (by simp) (by simp) (by simp)
  have b0 := fun b => tileB_holds r1 x7 n 1 0 0 256 slices_S256x256_o0_0_S128x128 rfl (by omega) (by omega) b (by simp) (by simp) (by simp) (by simp)
  have b1 := fun b => tileB_holds r1 x7 n 1 128 0 384 slices_S256x256_o128_0_S128x128 rfl (by omega) (by omega) b (by simp) (by simp) (by simp) (by simp)
  have b2 := fun b => tileB_holds r1 x7 n 1 0 128 256 slices_S256x256_o0_128_S128x128 rfl (by omega) (by omega) b (by simp) (by simp) (by simp) (by simp)
  have b3 := fun b => tileB_holds r1 x7 n 1 128 128 384 slices_S256x256_o128_128_S128x128 rfl (by omega) (by omega) b (by simp) (by simp) (by simp) (by simp)
  have c0 := fun b => tileB_holds r2 x7 n 2 0 0 512 slices_S256x256_o0_0_S128x128 rfl (by omega) (by omega) b (by simp) (by simp) (by simp) (by simp)
  have c1 := none_holds r2 x7 n 2 128 0 (by omega) (by omega) (by simp)
  have c2 := fun b => tileB_holds r2 x7 n 2 0 128 512 slices_S256x256_o0_128_S128x128 rfl (by omega) (by omega) b (by simp) (by simp) (by simp) (by simp)
  have c3 := fun b => tileB_holds r2 x7 n 2 128 128 640 slices_S256x256_o128_128_S128x128 rfl (by omega) (by omega) b (by simp) (by simp) (by simp) (by simp)
  obtain ⟨μ0, e0⟩ := maxG_real _ _ _ _ _ (a0 (inb_bias _ _ _ (by omega) (by omega) (by omega))) (a1 (inb_bias _ _ _ (by omega) (by omega) (by omega))) a2
    (a3 (inb_bias _ _ _ (by omega) (by omega) (by omega))) c h0 j0 l0
  obtain ⟨μ1, e1⟩ := maxG_real _ _ _ _ _ (b0 (inb_bias _ _ _ (by omega) (by omega) (by omega))) (b1 (inb_bias _ _ _ (by omega) (by omega) (by omega)))
    (b2 (inb_bias _ _ _ (by omega) (by omega) (by omega))) (b3 (inb_bias _ _ _ (by omega) (by omega) (by omega))) c h1 j1 l1
  obtain ⟨μ2, e2⟩ := maxG_real _ _ _ _ _ (c0 (inb_bias _ _ _ (by omega) (by omega) (by omega))) c1 (c2 (inb_bias _ _ _ (by omega) (by omega) (by omega)))
    (c3 (inb_bias _ _ _ (by omega) (by omega) (by omega))) c h2 j2 l2
  have q0 := partG_val _ _ _ _ v0 _ (a0 (inb_bias _ _ _ (by omega) (by omega) (by omega))) (a1 (inb_bias _ _ _ (by omega) (by omega) (by omega))) a2
    (a3 (inb_bias _ _ _ (by omega) (by omega) (by omega)))
  have q1 := partG_val _ _ _ _ v1 _ (b0 (inb_bias _ _ _ (by omega) (by omega) (by omega))) (b1 (inb_bias _ _ _ (by omega) (by omega) (by omega)))
    (b2 (inb_bias _ _ _ (by omega) (by omega) (by omega))) (b3 (inb_bias _ _ _ (by omega) (by omega) (by omega)))
  have q2 := partG_val _ _ _ _ v2 _ (c0 (inb_bias _ _ _ (by omega) (by omega) (by omega))) c1 (c2 (inb_bias _ _ _ (by omega) (by omega) (by omega)))
    (c3 (inb_bias _ _ _ (by omega) (by omega) (by omega)))
  have w0 := partG_ones _ _ _ _ v0 _ (a0 (inb_bias _ _ _ (by omega) (by omega) (by omega))) (a1 (inb_bias _ _ _ (by omega) (by omega) (by omega))) a2
    (a3 (inb_bias _ _ _ (by omega) (by omega) (by omega)))
  have w1 := partG_ones _ _ _ _ v1 _ (b0 (inb_bias _ _ _ (by omega) (by omega) (by omega))) (b1 (inb_bias _ _ _ (by omega) (by omega) (by omega)))
    (b2 (inb_bias _ _ _ (by omega) (by omega) (by omega))) (b3 (inb_bias _ _ _ (by omega) (by omega) (by omega)))
  have w2 := partG_ones _ _ _ _ v2 _ (c0 (inb_bias _ _ _ (by omega) (by omega) (by omega))) c1 (c2 (inb_bias _ _ _ (by omega) (by omega) (by omega)))
    (c3 (inb_bias _ _ _ (by omega) (by omega) (by omega)))
  rw [show max1 r1 _ _ _ _ = maxG _ _ _ _ from rfl, show part1 r1 _ _ _ _ v1 = partG _ _ _ _ v1 from rfl]
  rw [q0, q1, q2, w0, w1, w2, hg0, hg1, e0, e1, e2]
  exact three_blocks L0 L1 _ _ _ (fun k => v0 (ix3 0 d k)) (fun k => v1 (ix3 0 d k)) (fun k => v2 (ix3 0 d k)) h0 h1 h2 j2 l2 μ0 μ1 μ2 _ _ rfl rfl

/-! ## The norm -/

theorem maskB_apply (i : grid0.Coords) (M : FVec Ideal S1x256 .f32) (c : Fin 256) :
    maskB i M (ix2 0 c) = if (i 1).val ≠ 0 then M (ix2 0 c) else (⊥ : EReal) := by
  have h8 : (i 1).val < 8 := (i 1).isLt
  have hb : Scalar.cmpi .eq (BitVec.ofNat 32 (i 1).val) 0#32 = if (i 1).val = 0 then 1#1 else 0#1 := by
    generalize (i 1).val = n at h8
    interval_cases n <;> rfl
  unfold maskB
  rw [hb, mask_eq]
  by_cases h : (i 1).val = 0
  · rw [if_pos h, if_neg (by simp [h])]; rfl
  · rw [if_neg h, if_pos h]; rfl

theorem gainB_apply (y : FVec Ideal S64x256 .f32) (g : Vec Ideal S64x256 .f32) (d : Fin 64) (c : Fin 256) :
    gainB y g (ix2 d c) = y (ix2 d c) * g (ix2 d c) := by
  pointwise [gainB]

theorem sqB_apply (s : FVec Ideal S8x256 .f32) (y : FVec Ideal S64x256 .f32) (r : Fin 8) (c : Fin 256) :
    sqB s y (ix2 r c) = s (ix2 r c) + ∑ x : Fin 8, y (ix2 ⟨x.val * 8 + r.val, by omega⟩ c) * y (ix2 ⟨x.val * 8 + r.val, by omega⟩ c) := by
  pointwise [sqB]

theorem normB_apply (kept : Vec Ideal S512x256 .f32) (s : FVec Ideal S8x256 .f32) (d : Fin 512) (c : Fin 256) :
    normB kept s (ix3 0 d c) = kept (ix2 d c) * Ideal.rsqrt (Ideal.div (∑ x : Fin 8, s (ix2 x c)) (Ideal.ofBits .f32 0x44000000#32) + Ideal.ofBits .f32 0x358637BD#32) := by
  pointwise [normB]

/-- Eight rows of running sums, added up: the sum over a head's 64 rows. -/
theorem sum_rows (f : Fin 64 → EReal) : ∑ r : Fin 8, ∑ x : Fin 8, f ⟨x.val * 8 + r.val, by omega⟩ = ∑ d : Fin 64, f d := by
  rw [Finset.sum_comm, ← Finset.sum_product', ← (finProdFinEquiv (m := 8) (n := 8)).sum_comp]
  refine Finset.sum_congr rfl fun a _ => ?_
  congr 1
  ext
  simp [finProdFinEquiv]
  omega

/-- The eight heads' sums of squares, added up. -/
theorem squaresB_sum (Y : Fin 8 → FVec Ideal S64x256 .f32) (c : Fin 256) :
    ∑ r : Fin 8, squaresB Y (ix2 r c) = ∑ n : Fin 8, ∑ d : Fin 64, Y n (ix2 d c) * Y n (ix2 d c) := by
  unfold squaresB
  simp only [sqB_apply]
  have z : ∀ r : Fin 8, (broadcast S8x256 (Scalar.ofBits (F := Ideal) .f32 0x00000000#32)) (ix2 r c) = (0 : EReal) := fun r => by pointwise
  simp only [z, zero_add, Finset.sum_add_distrib]
  rw [Fin.sum_univ_eight (fun n => ∑ d : Fin 64, Y n (ix2 d c) * Y n (ix2 d c))]
  have key := fun n => sum_rows fun d => Y n (ix2 d c) * Y n (ix2 d c)
  simp only [key]

end Cert.Attn

end
-- ==== Proof.AttnReadA.lean ====
/-
  Group A's building blocks read at an index, over the extended reals: four heads' results on one tile of 128 queries are
  the softmax of each head's scores against 256 keys and a sink, times the values.
-/
module

public import proofs.«01_k».proof.Proof.AttnPieces
public import proofs.«01_k».proof.Proof.AttnReadB

@[expose] public section

set_option maxRecDepth 16384

noncomputable section

namespace Cert.Attn

open Cert.KernelIdeal Cert.KernelIdeal.Gen
open Idealize.ShloMosaic Idealize.ShloMosaic.TcCoe Idealize.SL.Sem

/-- Four heads' queries side by side. -/
def sideA (first : Bool) (q0 q1 q2 q3 : Vec Ideal S1x64x128 .bf16) : FVec Ideal S128x512 .bf16 :=
  concatenate S128x512 1 [⟨S128x128, padA first q0⟩, ⟨S128x128, padA first q1⟩, ⟨S128x128, padA first q2⟩, ⟨S128x128, padA first q3⟩]
    concatenates_S128x128_S128x128_S128x128_S128x128_S128x512_d1

/-- Column `c` of head `g`'s part. -/
def col (g : Fin 4) (c : Fin 128) : Fin 512 := ⟨128 * g.val + c.val, by omega⟩

theorem sideA_apply (first : Bool) (q : Fin 4 → Vec Ideal S1x64x128 .bf16) (x : Fin 128) (g : Fin 4) (c : Fin 128) :
    sideA first (q 0) (q 1) (q 2) (q 3) (ix2 x (col g c)) = padA first (q g) (ix2 x c) := by
  have hc := c.isLt
  fin_cases g <;> pointwise [sideA, col]
  · rw [dif_neg (by omega), dif_neg (by omega), dif_pos (by omega)]
    congr 2
    ext
    show 256 + c.val - 128 - 128 = c.val
    omega
  · rw [dif_neg (by omega), dif_neg (by omega), dif_neg (by omega)]
    congr 2
    ext
    show 384 + c.val - 128 - 128 - 128 = c.val
    omega

/-- A sum over the padded features is the sum over the head's own. -/
theorem pad_sum (v : Fin 2) (f : Fin 256 → EReal) (q : Vec Ideal S1x64x128 .bf16) (c : Fin 128) :
    ∑ x : Fin 128, f ⟨x.val, by omega⟩ * padA (v.val == 0) q (ix2 x c) = ∑ x : Fin 64, f ⟨64 * v.val + x.val, by omega⟩ * q (ix3 0 x c) := by
  fin_cases v
  · show ∑ x : Fin 128, f ⟨x.val, _⟩ * padA true q (ix2 x c) = _
    pointwise [padA, k0_pay5]
    simp
  · show ∑ x : Fin 128, f ⟨x.val, _⟩ * padA false q (ix2 x c) = _
    pointwise [padA, k0_pay5]
    simp

/-- The score of head `g`'s query `c` against key `k`. -/
def rawA (v : Fin 2) (w : FVec Ideal S256x256 .bf16) (q : Fin 4 → Vec Ideal S1x64x128 .bf16) (b : Vec Ideal S1x256x512 .f32)
    (g : Fin 4) (c : Fin 128) (k : Fin 256) : EReal :=
  (∑ x : Fin 64, w (ix2 ⟨64 * v.val + x.val, by omega⟩ k) * q g (ix3 0 x c)) + b (ix3 0 k (col g c))

theorem scoresA_apply (v : Fin 2) (w : FVec Ideal S256x256 .bf16) (q : Fin 4 → Vec Ideal S1x64x128 .bf16) (b : Vec Ideal S1x256x512 .f32)
    (g : Fin 4) (c : Fin 128) (k : Fin 256) :
    scoresA (v.val == 0) w (q 0) (q 1) (q 2) (q 3) b (ix2 k (col g c)) = rawA v w q b g c k * lg := by
  have e : ∀ (s : FVec Ideal S128x512 .bf16) (j : Fin 512), mulf (addf (matmul dot_S128x256_S128x512_S256x512_0_0_1_1_n_n none
        (extractStridedSlice S128x256 ![0, 0] w slices_S256x256_o0_0_S128x256) s (constant S256x512 .f32 0x00000000#32))
        (shapeCast S256x512 b shapeCasts_S1x256x512_S256x512)) (broadcast S256x512 (Named.named κ "log2e" 0x3FB8AA3B#32)) (ix2 k j)
      = ((∑ x : Fin 128, w (ix2 ⟨x.val, by omega⟩ k) * s (ix2 x j)) + b (ix3 0 k j)) * lg := by
    intro s j
    rw [← log2e_eq]
    pointwise
  refine (e (sideA (v.val == 0) (q 0) (q 1) (q 2) (q 3)) (col g c)).trans ?_
  unfold rawA
  congr 2
  rw [← pad_sum v (fun x => w (ix2 x k)) (q g) c]
  exact Finset.sum_congr rfl fun x _ => by rw [sideA_apply]

theorem upperA_apply (s : FVec Ideal S256x512 .f32) (x : Fin 128) (j : Fin 512) : upperA s (ix2 x j) = s (ix2 ⟨x.val, by omega⟩ j) := by
  pointwise [upperA]

theorem lowerA_apply (s : FVec Ideal S256x512 .f32) (x : Fin 128) (j : Fin 512) : lowerA s (ix2 x j) = s (ix2 ⟨128 + x.val, by omega⟩ j) := by
  pointwise [lowerA]

theorem sinkA_apply (k : Vec Ideal S1x1x512 .f32) (j : Fin 512) : sinkA k (ix2 0 j) = k (ix3 0 0 j) * lg := by
  rw [← log2e_eq]
  pointwise [sinkA]

theorem topA_apply (s0 s1 : FVec Ideal S128x512 .f32) (k : Vec Ideal S1x1x512 .f32) (j : Fin 512) :
    topA s0 s1 k (ix2 0 j) = max (Finset.univ.fold max (⊥ : EReal) fun x : Fin 128 => max (s0 (ix2 x j)) (s1 (ix2 x j))) (k (ix3 0 0 j) * lg) := by
  rw [← log2e_eq, ← negInf_eq]
  pointwise [topA, sinkA]

theorem valsA_val (v : Fin 2) (w : FVec Ideal S256x256 .bf16) (d : Fin 64) (k : Fin 256) :
    valsA (v.val == 0) w (ix2 ⟨d.val, by omega⟩ k) = w (ix2 ⟨128 + 64 * v.val + d.val, by omega⟩ k) := by
  have hd := d.isLt
  fin_cases v
  · show valsA true w _ = _
    pointwise [valsA]
  · show valsA false w _ = _
    pointwise [valsA]
    congr 2
    ext
    show 128 + (64 + d.val) = 192 + d.val
    omega

theorem valsA_ones (v : Fin 2) (w : FVec Ideal S256x256 .bf16) (k : Fin 256) : valsA (v.val == 0) w (ix2 64 k) = (1 : EReal) := by
  fin_cases v
  · show valsA true w _ = _
    pointwise [valsA, k0_pay4]
  · show valsA false w _ = _
    pointwise [valsA, k0_pay4]

theorem accA_apply (v : FVec Ideal S80x256 .bf16) (s0 s1 : FVec Ideal S128x512 .f32) (m : FVec Ideal S1x512 .f32) (d : Fin 80) (j : Fin 512) :
    accA v s0 s1 m (ix2 d j) = (∑ x : Fin 128, v (ix2 d ⟨x.val, by omega⟩) * Ideal.exp2 (s0 (ix2 x j) - m (ix2 0 j)))
      + ∑ x : Fin 128, v (ix2 d ⟨128 + x.val, by omega⟩) * Ideal.exp2 (s1 (ix2 x j) - m (ix2 0 j)) := by
  pointwise [accA]
  rfl

theorem quotA_apply (o : FVec Ideal S80x512 .f32) (k : Vec Ideal S1x1x512 .f32) (m : FVec Ideal S1x512 .f32) (d : Fin 64) (j : Fin 512) :
    quotA o k m (ix2 d j) = o (ix2 ⟨d.val, by omega⟩ j) * Ideal.div 1 (o (ix2 64 j) + Ideal.exp2 (k (ix3 0 0 j) * lg - m (ix2 0 j))) := by
  rw [← log2e_eq]
  pointwise [quotA, sinkA]
  rfl

theorem gainA_apply (y : FVec Ideal S64x128 .f32) (g : Vec Ideal S64x128 .f32) (d : Fin 64) (c : Fin 128) :
    gainA y g (ix2 d c) = y (ix2 d c) * g (ix2 d c) := by
  pointwise [gainA]

theorem colsA_apply (g : Fin 4) (h : S64x512.Slices ![0, 128 * g.val] S64x128) (y : FVec Ideal S64x512 .f32) (d : Fin 64) (c : Fin 128) :
    colsA (128 * g.val) h y (ix2 d c) = y (ix2 d (col g c)) := by
  pointwise [colsA, col]

theorem sqA_apply (s : FVec Ideal S8x128 .f32) (y : FVec Ideal S64x128 .f32) (r : Fin 8) (c : Fin 128) :
    sqA s y (ix2 r c) = s (ix2 r c) + ∑ x : Fin 8, y (ix2 ⟨x.val * 8 + r.val, by omega⟩ c) * y (ix2 ⟨x.val * 8 + r.val, by omega⟩ c) := by
  pointwise [sqA]

theorem normA_apply (kept : Vec Ideal S512x128 .f32) (s : FVec Ideal S8x128 .f32) (d : Fin 512) (c : Fin 128) :
    normA kept s (ix3 0 d c) = kept (ix2 d c) * Ideal.rsqrt (Ideal.div (∑ x : Fin 8, s (ix2 x c)) (Ideal.ofBits .f32 0x44000000#32) + Ideal.ofBits .f32 0x358637BD#32) := by
  pointwise [normA]

/-- The eight heads' sums of squares, added up. -/
theorem squaresA_sum (Y : Fin 8 → FVec Ideal S64x128 .f32) (c : Fin 128) :
    ∑ r : Fin 8, squaresA Y (ix2 r c) = ∑ n : Fin 8, ∑ d : Fin 64, Y n (ix2 d c) * Y n (ix2 d c) := by
  unfold squaresA
  simp only [sqA_apply]
  have z : ∀ r : Fin 8, (broadcast S8x128 (Scalar.ofBits (F := Ideal) .f32 0x00000000#32)) (ix2 r c) = (0 : EReal) := fun r => by pointwise
  simp only [z, zero_add, Finset.sum_add_distrib]
  rw [Fin.sum_univ_eight (fun n => ∑ d : Fin 64, Y n (ix2 d c) * Y n (ix2 d c))]
  have key := fun n => sum_rows fun d => Y n (ix2 d c) * Y n (ix2 d c)
  simp only [key]

/-- In the sequence's first step the earlier keys' scores are lost. -/
theorem maskA_apply (i : grid0.Coords) (s : FVec Ideal S128x512 .f32) (x : Fin 128) (j : Fin 512) :
    maskA i s (ix2 x j) = if (i 1).val ≠ 0 then s (ix2 x j) else (⊥ : EReal) := by
  have h8 : (i 1).val < 8 := (i 1).isLt
  have hb : Scalar.cmpi .sge (BitVec.ofNat 32 (i 1).val) 1#32 = if (i 1).val = 0 then 0#1 else 1#1 := by
    generalize (i 1).val = n at h8
    interval_cases n <;> rfl
  have hp : k0_pay6 (F := Ideal) i = if (i 1).val = 0 then (⊥ : EReal) else 0 := by
    unfold k0_pay6
    simp only []
    rw [hb, mask_eq]
    by_cases h : (i 1).val = 0
    · rw [if_pos h, if_pos h]; rfl
    · rw [if_neg h, if_neg h]; exact Ideal.ofBits_zero_f32
  have e : maskA i s (ix2 x j) = s (ix2 x j) + k0_pay6 (F := Ideal) i := by
    unfold maskA
    generalize k0_pay6 (F := Ideal) i = z
    pointwise
  rw [e, hp]
  by_cases h : (i 1).val = 0
  · rw [if_pos h, if_neg (by simp [h])]; exact EReal.add_bot _
  · rw [if_neg h, if_pos h]; exact add_zero _

/-- Two halves of keys and a sink, to base two against a common maximum: the softmax, the sink counting in the weights'
    sum only. -/
theorem two_halves (s0 s1 v0 v1 : Fin 128 → EReal) (z : ℝ) (m : ℝ) (h0 : ∀ k, s0 k ≠ ⊤) (h1 : ∀ k, s1 k ≠ ⊤) :
    ((∑ x, v0 x * Ideal.exp2 (s0 x * lg - m)) + ∑ x, v1 x * Ideal.exp2 (s1 x * lg - m))
      * Ideal.div 1 (((∑ x, 1 * Ideal.exp2 (s0 x * lg - m)) + ∑ x, 1 * Ideal.exp2 (s1 x * lg - m)) + Ideal.exp2 ((z : EReal) * lg - m))
      = share (total s0 v0 + total s1 v1) (mass s0 + mass s1 + Ideal.exp z) := by
  have p : (0 : ℝ) < Real.rpow 2 (-m) := Real.rpow_pos_of_pos (by norm_num) _
  have hb : ∀ (s v : Fin 128 → EReal), (∀ k, s k ≠ ⊤) → ∑ x, v x * Ideal.exp2 (s x * lg - m) = ((Real.rpow 2 (-m) : ℝ) : EReal) * total s v := by
    intro s v hs
    unfold total
    rw [coe_mul_sum _ _ p.le]
    refine Finset.sum_congr rfl fun x _ => ?_
    rw [weight_eq _ (hs x)]
    ac_rfl
  have ho : ∀ (s : Fin 128 → EReal), total s (fun _ => 1) = mass s := fun s => by unfold mass total; simp
  rw [hb s0 v0 h0, hb s1 v1 h1, hb s0 (fun _ => 1) h0, hb s1 (fun _ => 1) h1, weight_eq _ (EReal.coe_ne_top z), ho, ho,
    ← coe_mul_add _ p.le, ← coe_mul_add _ p.le, ← coe_mul_add _ p.le]
  refine share_scale _ p _ _ ?_
  exact ((mass_nonNeg _ h0).add (mass_nonNeg _ h1)).add_pos (exp_pos (EReal.coe_ne_bot z) (EReal.coe_ne_top z))

/-- The first half's scores, lost where masked. -/
def maskedA (L : Prop) [Decidable L] (s : Fin 256 → EReal) (x : Fin 128) : EReal := if L then s ⟨x.val, by omega⟩ else ⊥

/-- Head `g`'s result at a feature and a query of the tile. -/
theorem quadA_apply (v : Fin 2) (w : FVec Ideal S256x256 .bf16) (q : Fin 4 → Vec Ideal S1x64x128 .bf16) (b : Vec Ideal S1x256x512 .f32)
    (k : Vec Ideal S1x1x512 .f32) (m : FVec Ideal S128x512 .f32 → FVec Ideal S128x512 .f32) (L : Prop) [Decidable L]
    (hm : ∀ s x j, m s (ix2 x j) = if L then s (ix2 x j) else (⊥ : EReal)) (g : Fin 4) (d : Fin 64) (c : Fin 128)
    (hs : ∀ x, rawA v w q b g c x ≠ ⊤) (z : ℝ) (hz : k (ix3 0 0 (col g c)) = (z : EReal)) :
    quadA (v.val == 0) w (q 0) (q 1) (q 2) (q 3) b k m (ix2 d (col g c))
      = share (total (maskedA L (rawA v w q b g c)) (fun x => w (ix2 ⟨128 + 64 * v.val + d.val, by omega⟩ ⟨x.val, by omega⟩))
          + total (fun x : Fin 128 => rawA v w q b g c ⟨128 + x.val, by omega⟩) (fun x => w (ix2 ⟨128 + 64 * v.val + d.val, by omega⟩ ⟨128 + x.val, by omega⟩)))
        (mass (maskedA L (rawA v w q b g c)) + mass (fun x : Fin 128 => rawA v w q b g c ⟨128 + x.val, by omega⟩) + Ideal.exp (z : EReal)) := by
  have e0 : ∀ x : Fin 128, m (upperA (scoresA (v.val == 0) w (q 0) (q 1) (q 2) (q 3) b)) (ix2 x (col g c)) = maskedA L (rawA v w q b g c) x * lg := by
    intro x
    rw [hm, upperA_apply, scoresA_apply]
    unfold maskedA
    by_cases h : L
    · rw [if_pos h, if_pos h]
    · rw [if_neg h, if_neg h]; unfold lg; rw [EReal.bot_mul_coe_of_pos lg_pos]
  have e1 : ∀ x : Fin 128, lowerA (scoresA (v.val == 0) w (q 0) (q 1) (q 2) (q 3) b) (ix2 x (col g c)) = rawA v w q b g c ⟨128 + x.val, by omega⟩ * lg := by
    intro x
    rw [lowerA_apply, scoresA_apply]
  have n0 : ∀ x, maskedA L (rawA v w q b g c) x ≠ ⊤ := by
    intro x; unfold maskedA; split_ifs
    · exact hs _
    · exact bot_ne_top
  unfold quadA
  obtain ⟨μ, hμ⟩ : ∃ μ : ℝ, topA (m (upperA (scoresA (v.val == 0) w (q 0) (q 1) (q 2) (q 3) b))) (lowerA (scoresA (v.val == 0) w (q 0) (q 1) (q 2) (q 3) b)) k
      (ix2 0 (col g c)) = μ := by
    rw [topA_apply, hz]
    refine real_of_ne (max_ne_bot_right (mul_lg_ne_bot (EReal.coe_ne_bot z) (EReal.coe_ne_top z))) (max_ne_top ?_ (mul_lg_ne_top (EReal.coe_ne_top z)))
    have : (Finset.univ : Finset (Fin 128)).sup (fun x : Fin 128 => max (m (upperA (scoresA (v.val == 0) w (q 0) (q 1) (q 2) (q 3) b)) (ix2 x (col g c)))
        (lowerA (scoresA (v.val == 0) w (q 0) (q 1) (q 2) (q 3) b) (ix2 x (col g c)))) < ⊤ := by
      refine (Finset.sup_lt_iff (by simp)).mpr fun x _ => lt_of_le_of_ne le_top ?_
      rw [e0, e1]
      exact max_ne_top (mul_lg_ne_top (n0 x)) (mul_lg_ne_top (hs _))
    exact this.ne
  rw [quotA_apply, accA_apply, accA_apply, hμ, hz]
  simp only [e0, e1, valsA_val, valsA_ones]
  exact two_halves _ _ _ _ z μ n0 fun x => hs _

end Cert.Attn

end
-- ==== Proof.AttnBlock.lean ====
/-
  The block the body leaves at a grid point: each head's rows times the gains, kept in scratch, over the root mean square of the group.
-/
module

public import proofs.«01_k».proof.Proof.AttnStores
public import proofs.«01_k».proof.Proof.AttnReadA
public import proofs.«01_k».proof.Proof.AttnReadB
public import proofs.«01_k».proof.Proof.AttnSpec
public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Cert.KernelIdeal.Value
open Idealize.ShloMosaic Idealize.ShloMosaic.TcCoe Idealize.SL.Sem

variable (m : (ℓ : Loc nD τ sig) → Buf (Elt Ideal) ℓ)

/-- Group A's kept rows by feature and column. -/
def storedA (x8 : Vec Ideal S512x128 .f32) (Y : Fin 4 → Fin 8 → FVec Ideal S64x128 .f32) (d q : Fin 512) : EReal :=
  Y ⟨q / 128, by omega⟩ ⟨d / 64, by omega⟩ (ix2 ⟨d % 64, by omega⟩ ⟨q % 128, by omega⟩) * x8 (ix2 d ⟨q % 128, by omega⟩)

/-- Group B's kept rows by feature and column. -/
def storedB (x9 : Vec Ideal S512x256 .f32) (Y : Fin 2 → Fin 8 → FVec Ideal S64x256 .f32) (d q : Fin 512) : EReal :=
  Y ⟨q / 256, by omega⟩ ⟨d / 64, by omega⟩ (ix2 ⟨d % 64, by omega⟩ ⟨q % 256, by omega⟩) * x9 (ix2 d ⟨q % 256, by omega⟩)

/-- A piece of scratch holds the values `G` gives by row and column. -/
def Agrees (G : Fin 512 → Fin 512 → EReal) (p : View.Piece (Elt Ideal) S512x512 .f32) : Prop :=
  ∀ x, p.2 x = G (p.1.emb x 0) (p.1.emb x 1)

theorem pieceA_agrees (x8 : Vec Ideal S512x128 .f32) (Y : Fin 4 → Fin 8 → FVec Ideal S64x128 .f32) (r : Fin 4) (t : ℕ) (ht : t ≤ 384)
    (hr : t = 128 * r) (n : Fin 8) : Agrees (storedA x8 Y) (pieceA x8 t ht (Y r) n) := by
  intro x
  obtain ⟨d, c, rfl⟩ : ∃ (d : Fin 64) (c : Fin 128), x = ix2 d c := ⟨x 0, x 1, eq_ix2 x⟩
  have e0 : (pieceA x8 t ht (Y r) n).1.emb (ix2 d c) 0 = (⟨64 * n + d, by omega⟩ : Fin 512) := by
    apply Fin.ext; show 64 * n.val + 1 * d.val = 64 * n + d; omega
  have e1 : (pieceA x8 t ht (Y r) n).1.emb (ix2 d c) 1 = (⟨128 * r + c, by omega⟩ : Fin 512) := by
    apply Fin.ext; show t + 1 * c.val = 128 * r + c; omega
  rw [e0, e1]
  refine (gainA_apply (Y r n) _ d c).trans ?_
  have q0 : (⟨(128 * r.val + c.val) / 128, by omega⟩ : Fin 4) = r := by apply Fin.ext; show _ = _; dsimp only; omega
  have q1 : (⟨(64 * n.val + d.val) / 64, by omega⟩ : Fin 8) = n := by apply Fin.ext; dsimp only; omega
  have q2 : (⟨(64 * n.val + d.val) % 64, by omega⟩ : Fin 64) = d := by apply Fin.ext; dsimp only; omega
  have q3 : (⟨(128 * r.val + c.val) % 128, by omega⟩ : Fin 128) = c := by apply Fin.ext; dsimp only; omega
  unfold storedA
  dsimp only
  rw [q0, q1, q2, q3]
  congr 1
  refine congrArg x8 ?_
  funext a; apply Fin.ext
  fin_cases a
  · show 64 * n.val + 1 * d.val = 64 * n + d; omega
  · show 0 + 1 * c.val = c; omega

theorem pieceB_agrees (x9 : Vec Ideal S512x256 .f32) (Y : Fin 2 → Fin 8 → FVec Ideal S64x256 .f32) (r : Fin 2) (t : ℕ) (ht : t ≤ 256)
    (hr : t = 256 * r) (n : Fin 8) : Agrees (storedB x9 Y) (pieceB x9 t ht (Y r) n) := by
  intro x
  obtain ⟨d, c, rfl⟩ : ∃ (d : Fin 64) (c : Fin 256), x = ix2 d c := ⟨x 0, x 1, eq_ix2 x⟩
  have e0 : (pieceB x9 t ht (Y r) n).1.emb (ix2 d c) 0 = (⟨64 * n + d, by omega⟩ : Fin 512) := by
    apply Fin.ext; show 64 * n.val + 1 * d.val = 64 * n + d; omega
  have e1 : (pieceB x9 t ht (Y r) n).1.emb (ix2 d c) 1 = (⟨256 * r + c, by omega⟩ : Fin 512) := by
    apply Fin.ext; show t + 1 * c.val = 256 * r + c; omega
  rw [e0, e1]
  refine (gainB_apply (Y r n) _ d c).trans ?_
  have q0 : (⟨(256 * r.val + c.val) / 256, by omega⟩ : Fin 2) = r := by apply Fin.ext; dsimp only; omega
  have q1 : (⟨(64 * n.val + d.val) / 64, by omega⟩ : Fin 8) = n := by apply Fin.ext; dsimp only; omega
  have q2 : (⟨(64 * n.val + d.val) % 64, by omega⟩ : Fin 64) = d := by apply Fin.ext; dsimp only; omega
  have q3 : (⟨(256 * r.val + c.val) % 256, by omega⟩ : Fin 256) = c := by apply Fin.ext; dsimp only; omega
  unfold storedB
  dsimp only
  rw [q0, q1, q2, q3]
  congr 1
  refine congrArg x9 ?_
  funext a; apply Fin.ext
  fin_cases a
  · show 64 * n.val + 1 * d.val = 64 * n + d; omega
  · show 0 + 1 * c.val = c; omega

theorem keepA_agrees (x8 : Vec Ideal S512x128 .f32) (Y : Fin 4 → Fin 8 → FVec Ideal S64x128 .f32) (r : Fin 4) (t : ℕ) (ht : t ≤ 384)
    (hr : t = 128 * r) (L : List (View.Piece (Elt Ideal) S512x512 .f32)) (hL : ∀ p ∈ L, Agrees (storedA x8 Y) p) :
    ∀ p ∈ keepA x8 t ht (Y r) L, Agrees (storedA x8 Y) p := by
  unfold keepA
  simp only [List.forall_mem_cons]
  exact ⟨pieceA_agrees x8 Y r t ht hr _, pieceA_agrees x8 Y r t ht hr _, pieceA_agrees x8 Y r t ht hr _, pieceA_agrees x8 Y r t ht hr _,
    pieceA_agrees x8 Y r t ht hr _, pieceA_agrees x8 Y r t ht hr _, pieceA_agrees x8 Y r t ht hr _, pieceA_agrees x8 Y r t ht hr _, hL⟩

theorem keepB_agrees (x9 : Vec Ideal S512x256 .f32) (Y : Fin 2 → Fin 8 → FVec Ideal S64x256 .f32) (r : Fin 2) (t : ℕ) (ht : t ≤ 256)
    (hr : t = 256 * r) (L : List (View.Piece (Elt Ideal) S512x512 .f32)) (hL : ∀ p ∈ L, Agrees (storedB x9 Y) p) :
    ∀ p ∈ keepB x9 t ht (Y r) L, Agrees (storedB x9 Y) p := by
  unfold keepB
  simp only [List.forall_mem_cons]
  exact ⟨pieceB_agrees x9 Y r t ht hr _, pieceB_agrees x9 Y r t ht hr _, pieceB_agrees x9 Y r t ht hr _, pieceB_agrees x9 Y r t ht hr _,
    pieceB_agrees x9 Y r t ht hr _, pieceB_agrees x9 Y r t ht hr _, pieceB_agrees x9 Y r t ht hr _, pieceB_agrees x9 Y r t ht hr _, hL⟩

theorem nothing_agrees (G : Fin 512 → Fin 512 → EReal) : ∀ p ∈ ([] : List (View.Piece (Elt Ideal) S512x512 .f32)), Agrees G p :=
  fun _ h => absurd h List.not_mem_nil

theorem keptA_agrees (x8 : Vec Ideal S512x128 .f32) (Y : Fin 4 → Fin 8 → FVec Ideal S64x128 .f32) (r : Fin 4) :
    ∀ p ∈ keptA x8 Y r, Agrees (storedA x8 Y) p := by
  have a0 := keepA_agrees x8 Y 0 0 (by omega) rfl _ (nothing_agrees _)
  have a1 := keepA_agrees x8 Y 1 128 (by omega) rfl _ a0
  have a2 := keepA_agrees x8 Y 2 256 (by omega) rfl _ a1
  match r with
  | 0 => exact a0
  | 1 => exact a1
  | 2 => exact a2
  | 3 => exact keepA_agrees x8 Y 3 384 (by omega) rfl _ a2

theorem keptB_agrees (x9 : Vec Ideal S512x256 .f32) (Y : Fin 2 → Fin 8 → FVec Ideal S64x256 .f32) (r : Fin 2) :
    ∀ p ∈ keptB x9 Y r, Agrees (storedB x9 Y) p := by
  have a0 := keepB_agrees x9 Y 0 0 (by omega) rfl _ (nothing_agrees _)
  match r with
  | 0 => exact a0
  | 1 => exact keepB_agrees x9 Y 1 256 (by omega) rfl _ a0

theorem mem_keepA (x8 : Vec Ideal S512x128 .f32) (t : ℕ) (ht : t ≤ 384) (Y : Fin 8 → FVec Ideal S64x128 .f32)
    (L : List (View.Piece (Elt Ideal) S512x512 .f32)) (n : Fin 8) : pieceA x8 t ht Y n ∈ keepA x8 t ht Y L := by
  unfold keepA
  fin_cases n <;> simp only [List.mem_cons] <;> tauto

theorem mem_keepB (x9 : Vec Ideal S512x256 .f32) (t : ℕ) (ht : t ≤ 256) (Y : Fin 8 → FVec Ideal S64x256 .f32)
    (L : List (View.Piece (Elt Ideal) S512x512 .f32)) (n : Fin 8) : pieceB x9 t ht Y n ∈ keepB x9 t ht Y L := by
  unfold keepB
  fin_cases n <;> simp only [List.mem_cons] <;> tauto

theorem mem_keptA (x8 : Vec Ideal S512x128 .f32) (Y : Fin 4 → Fin 8 → FVec Ideal S64x128 .f32) (r : Fin 4) (n : Fin 8) :
    pieceA x8 (128 * r.val) (by omega) (Y r) n ∈ keptA x8 Y r := by
  match r with
  | 0 => exact mem_keepA _ _ _ _ _ n
  | 1 => exact mem_keepA _ _ _ _ _ n
  | 2 => exact mem_keepA _ _ _ _ _ n
  | 3 => exact mem_keepA _ _ _ _ _ n

theorem mem_keptB (x9 : Vec Ideal S512x256 .f32) (Y : Fin 2 → Fin 8 → FVec Ideal S64x256 .f32) (r : Fin 2) (n : Fin 8) :
    pieceB x9 (256 * r.val) (by omega) (Y r) n ∈ keptB x9 Y r := by
  match r with
  | 0 => exact mem_keepB _ _ _ _ _ n
  | 1 => exact mem_keepB _ _ _ _ _ n

/-- Scratch whose pieces all agree with `G`, read where a piece lies. -/
theorem canon_agrees (G : Fin 512 → Fin 512 → EReal) (L : List (View.Piece (Elt Ideal) S512x512 .f32)) (hL : ∀ p ∈ L, Agrees G p)
    (d q : Fin 512) (h : ∃ p ∈ L, (ix2 d q : S512x512.Idx) ∈ p.1.set) : View.canon L (ix2 d q) = G d q :=
  View.canon_apply_of_pieces (fun i : S512x512.Idx => G (i 0) (i 1)) L (fun p hp x => hL p hp x) (ix2 d q) h

/-- Group A's scratch read back on the tile just kept. -/
theorem readA (v : View sig .tc .vmem S512x512 .f32) (x8 : Vec Ideal S512x128 .f32) (Y : Fin 4 → Fin 8 → FVec Ideal S64x128 .f32) (r : Fin 4)
    (d : Fin 512) (c : Fin 128) :
    v.readCov (keptA x8 Y r) (Rect.unit (s := S512x512) ![0, 128 * r.val] S512x128.size (inb_rowsA _ (by omega))).toLoadRect (ix2 d c)
      = storedA x8 Y d ⟨128 * r + c, by omega⟩ := by
  rw [View.readCov_eq_canon']
  have e : (Rect.unit (s := S512x512) ![0, 128 * r.val] S512x128.size (inb_rowsA _ (by omega))).toLoadRect.idx (ix2 d c)
      = (ix2 d ⟨128 * r + c, by omega⟩ : S512x512.Idx) := by
    funext a; apply Fin.ext
    fin_cases a
    · show 0 + 1 * d.val = d; omega
    · show 128 * r.val + 1 * c.val = 128 * r + c; omega
  show View.canon (keptA x8 Y r) _ = _
  rw [e]
  refine canon_agrees _ _ (keptA_agrees x8 Y r) _ _ ⟨_, mem_keptA x8 Y r ⟨d / 64, by omega⟩, ?_⟩
  show _ ∈ (Rect.unit (s := S512x512) ![64 * (d.val / 64), 128 * r.val] S64x128.size (inb_keptA _ _ (by omega) (by omega))).set
  rw [Rect.mem_set_unit]
  intro a
  fin_cases a
  · show 64 * (d.val / 64) ≤ d.val ∧ d.val < 64 * (d.val / 64) + 64; omega
  · show 128 * r.val ≤ 128 * r.val + c.val ∧ 128 * r.val + c.val < 128 * r.val + 128; omega

/-- Group B's scratch read back on the tile just kept. -/
theorem readB (v : View sig .tc .vmem S512x512 .f32) (x9 : Vec Ideal S512x256 .f32) (Y : Fin 2 → Fin 8 → FVec Ideal S64x256 .f32) (r : Fin 2)
    (d : Fin 512) (c : Fin 256) :
    v.readCov (keptB x9 Y r) (Rect.unit (s := S512x512) ![0, 256 * r.val] S512x256.size (inb_rowsB _ (by omega))).toLoadRect (ix2 d c)
      = storedB x9 Y d ⟨256 * r + c, by omega⟩ := by
  rw [View.readCov_eq_canon']
  have e : (Rect.unit (s := S512x512) ![0, 256 * r.val] S512x256.size (inb_rowsB _ (by omega))).toLoadRect.idx (ix2 d c)
      = (ix2 d ⟨256 * r + c, by omega⟩ : S512x512.Idx) := by
    funext a; apply Fin.ext
    fin_cases a
    · show 0 + 1 * d.val = d; omega
    · show 256 * r.val + 1 * c.val = 256 * r + c; omega
  show View.canon (keptB x9 Y r) _ = _
  rw [e]
  refine canon_agrees _ _ (keptB_agrees x9 Y r) _ _ ⟨_, mem_keptB x9 Y r ⟨d / 64, by omega⟩, ?_⟩
  show _ ∈ (Rect.unit (s := S512x512) ![64 * (d.val / 64), 256 * r.val] S64x256.size (inb_keptB _ _ (by omega) (by omega))).set
  rw [Rect.mem_set_unit]
  intro a
  fin_cases a
  · show 64 * (d.val / 64) ≤ d.val ∧ d.val < 64 * (d.val / 64) + 64; omega
  · show 256 * r.val ≤ 256 * r.val + c.val ∧ 256 * r.val + c.val < 256 * r.val + 256; omega

/-- The features of group A at column `q`: eight heads of 64. -/
def heapA (Y : Fin 4 → Fin 8 → FVec Ideal S64x128 .f32) (q d : Fin 512) : EReal :=
  Y ⟨q / 128, by omega⟩ ⟨d / 64, by omega⟩ (ix2 ⟨d % 64, by omega⟩ ⟨q % 128, by omega⟩)

/-- The features of group B at column `q`: eight heads of 64. -/
def heapB (Y : Fin 2 → Fin 8 → FVec Ideal S64x256 .f32) (q d : Fin 512) : EReal :=
  Y ⟨q / 256, by omega⟩ ⟨d / 64, by omega⟩ (ix2 ⟨d % 64, by omega⟩ ⟨q % 256, by omega⟩)

/-- The block the body leaves, by feature and column. -/
def block (x8 : Vec Ideal S512x128 .f32) (x9 : Vec Ideal S512x256 .f32) (YA : Fin 4 → Fin 8 → FVec Ideal S64x128 .f32)
    (YB : Fin 2 → Fin 8 → FVec Ideal S64x256 .f32) (r : Fin 1024) (q : Fin 512) : EReal :=
  if h : r.val < 512 then Mixer.rms (heapA YA q) (fun d => x8 (ix2 d ⟨q % 128, by omega⟩)) ⟨r, h⟩
  else Mixer.rms (heapB YB q) (fun d => x9 (ix2 d ⟨q % 256, by omega⟩)) ⟨r - 512, by omega⟩

/-- Group A's stored tile is its part of the block. -/
theorem outA_block (v : View sig .tc .vmem S512x512 .f32) (x8 : Vec Ideal S512x128 .f32) (x9 : Vec Ideal S512x256 .f32)
    (YA : Fin 4 → Fin 8 → FVec Ideal S64x128 .f32) (YB : Fin 2 → Fin 8 → FVec Ideal S64x256 .f32) (r : Fin 4) (x : S1x512x128.Idx) :
    (outA v x8 YA r).2 x = block x8 x9 YA YB ((outA v x8 YA r).1.emb x 1) ((outA v x8 YA r).1.emb x 2) := by
  obtain ⟨u, d, c, rfl⟩ : ∃ (u : Fin 1) (d : Fin 512) (c : Fin 128), x = ix3 u d c := ⟨x 0, x 1, x 2, eq_ix3 x⟩
  obtain rfl : u = 0 := Subsingleton.elim _ _
  have e1 : (outA v x8 YA r).1.emb (ix3 0 d c) 1 = (⟨d, by omega⟩ : Fin 1024) := by
    apply Fin.ext; show 0 + 1 * d.val = d; omega
  have e2 : (outA v x8 YA r).1.emb (ix3 0 d c) 2 = (⟨128 * r + c, by omega⟩ : Fin 512) := by
    apply Fin.ext; show 128 * r.val + 1 * c.val = 128 * r + c; omega
  rw [e1, e2]
  refine (normA_apply _ _ d c).trans ?_
  rw [readA, squaresA_sum]
  have hs : ∑ n : Fin 8, ∑ k : Fin 64, YA r n (ix2 k c) * YA r n (ix2 k c)
      = ∑ k, heapA YA ⟨128 * r + c, by omega⟩ k * heapA YA ⟨128 * r + c, by omega⟩ k := by
    rw [Mixer.sum_heads]
    refine Finset.sum_congr rfl fun n _ => Finset.sum_congr rfl fun k _ => ?_
    have e : heapA YA ⟨128 * r + c, by omega⟩ ⟨64 * n + k, by omega⟩ = YA r n (ix2 k c) := by
      have q0 : (⟨(128 * r.val + c.val) / 128, by omega⟩ : Fin 4) = r := by apply Fin.ext; dsimp only; omega
      have q1 : (⟨(64 * n.val + k.val) / 64, by omega⟩ : Fin 8) = n := by apply Fin.ext; dsimp only; omega
      have q2 : (⟨(64 * n.val + k.val) % 64, by omega⟩ : Fin 64) = k := by apply Fin.ext; dsimp only; omega
      have q3 : (⟨(128 * r.val + c.val) % 128, by omega⟩ : Fin 128) = c := by apply Fin.ext; dsimp only; omega
      unfold heapA
      dsimp only
      rw [q0, q1, q2, q3]
    rw [e]
  rw [hs]
  unfold block
  rw [dif_pos (show d.val < 512 from d.isLt)]
  show heapA YA ⟨128 * r + c, _⟩ d * x8 _ * _ = heapA YA ⟨128 * r + c, _⟩ d * _ * x8 _
  exact mul_right_comm _ _ _

/-- Group B's stored tile is its part of the block. -/
theorem outB_block (v : View sig .tc .vmem S512x512 .f32) (x8 : Vec Ideal S512x128 .f32) (x9 : Vec Ideal S512x256 .f32)
    (YA : Fin 4 → Fin 8 → FVec Ideal S64x128 .f32) (YB : Fin 2 → Fin 8 → FVec Ideal S64x256 .f32) (r : Fin 2) (x : S1x512x256.Idx) :
    (outB v x9 YB r).2 x = block x8 x9 YA YB ((outB v x9 YB r).1.emb x 1) ((outB v x9 YB r).1.emb x 2) := by
  obtain ⟨u, d, c, rfl⟩ : ∃ (u : Fin 1) (d : Fin 512) (c : Fin 256), x = ix3 u d c := ⟨x 0, x 1, x 2, eq_ix3 x⟩
  obtain rfl : u = 0 := Subsingleton.elim _ _
  have e1 : (outB v x9 YB r).1.emb (ix3 0 d c) 1 = (⟨512 + d, by omega⟩ : Fin 1024) := by
    apply Fin.ext; show 512 + 1 * d.val = 512 + d; omega
  have e2 : (outB v x9 YB r).1.emb (ix3 0 d c) 2 = (⟨256 * r + c, by omega⟩ : Fin 512) := by
    apply Fin.ext; show 256 * r.val + 1 * c.val = 256 * r + c; omega
  rw [e1, e2]
  refine (normB_apply _ _ d c).trans ?_
  rw [readB, squaresB_sum]
  have hs : ∑ n : Fin 8, ∑ k : Fin 64, YB r n (ix2 k c) * YB r n (ix2 k c)
      = ∑ k, heapB YB ⟨256 * r + c, by omega⟩ k * heapB YB ⟨256 * r + c, by omega⟩ k := by
    rw [Mixer.sum_heads]
    refine Finset.sum_congr rfl fun n _ => Finset.sum_congr rfl fun k _ => ?_
    have e : heapB YB ⟨256 * r + c, by omega⟩ ⟨64 * n + k, by omega⟩ = YB r n (ix2 k c) := by
      have q0 : (⟨(256 * r.val + c.val) / 256, by omega⟩ : Fin 2) = r := by apply Fin.ext; dsimp only; omega
      have q1 : (⟨(64 * n.val + k.val) / 64, by omega⟩ : Fin 8) = n := by apply Fin.ext; dsimp only; omega
      have q2 : (⟨(64 * n.val + k.val) % 64, by omega⟩ : Fin 64) = k := by apply Fin.ext; dsimp only; omega
      have q3 : (⟨(256 * r.val + c.val) % 256, by omega⟩ : Fin 256) = c := by apply Fin.ext; dsimp only; omega
      unfold heapB
      dsimp only
      rw [q0, q1, q2, q3]
    rw [e]
  rw [hs]
  unfold block
  have q : (⟨512 + d.val - 512, by omega⟩ : Fin 512) = d := by apply Fin.ext; dsimp only; omega
  rw [dif_neg (show ¬ 512 + d.val < 512 by omega)]
  dsimp only
  rw [q]
  show heapB YB ⟨256 * r + c, _⟩ d * x9 _ * _ = heapB YB ⟨256 * r + c, _⟩ d * _ * x9 _
  exact mul_right_comm _ _ _

set_option maxHeartbeats 4000000 in
/-- What the body leaves in the result's staging buffer at a grid point. -/
theorem outs (c : Dev nD) (t : Fin cfg0.N) (y : S1x1024x512.Idx) :
    outsAt0 m c t y = block (iblk m c 8 t) (iblk m c 9 t)
      (queryAt (grid0.coords t) (iblk m c 0 t) (iblk m c 4 t) (iblk m c 5 t) (iblk m c 6 t))
      (headAt (grid0.coords t) (iblk m c 0 t) (iblk m c 1 t) (iblk m c 2 t) (X0_3 m c t) (iblk m c 7 t)) (y 1) (y 2) := by
  have hc := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (X0_3 m c t) (iblk m c 4 t) (iblk m c 5 t) (iblk m c 6 t) (iblk m c 7 t) (iblk m c 8 t) (iblk m c 9 t)
  have hs := stores (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (X0_3 m c t) (iblk m c 4 t) (iblk m c 5 t) (iblk m c 6 t) (iblk m c 7 t) (iblk m c 8 t) (iblk m c 9 t)
    _ _ _ _ _ _ _ _ _ _ ((hs0_0 t).read_unread _).symm ((hs0_1 t).read_unread _).symm ((hs0_2 t).read_unread _).symm ((hs0_3 t).read_unread _).symm ((hs0_4 t).read_unread _).symm
    ((hs0_5 t).read_unread _).symm ((hs0_6 t).read_unread _).symm ((hs0_7 t).read_unread _).symm ((hs0_8 t).read_unread _).symm ((hs0_9 t).read_unread _).symm
  unfold outsAt0 out0_A_10
  rw [View.read_writes_eq_canon _ _ _ hc]
  refine View.canon_apply_of_pieces (fun i : S1x1024x512.Idx => block (iblk m c 8 t) (iblk m c 9 t)
      (queryAt (grid0.coords t) (iblk m c 0 t) (iblk m c 4 t) (iblk m c 5 t) (iblk m c 6 t))
      (headAt (grid0.coords t) (iblk m c 0 t) (iblk m c 1 t) (iblk m c 2 t) (X0_3 m c t) (iblk m c 7 t)) (i 1) (i 2)) _ ?_ y (hc y)
  rw [hs]
  simp only [List.forall_mem_cons, List.not_mem_nil, false_imp_iff, implies_true, and_true]
  exact ⟨outA_block _ _ _ _ _ 3, outA_block _ _ _ _ _ 2, outB_block _ _ _ _ _ 1, outA_block _ _ _ _ _ 1, outA_block _ _ _ _ _ 0, outB_block _ _ _ _ _ 0⟩

end Cert.Attn
-- ==== Proof.AttnHeads.lean ====
/-
  One head of the body against one head of the formulas: on key blocks that hold the projections of their tokens, the body's head is
  `Mixer.headB` (group B) or `Mixer.headA` (group A) of the query's token.
-/
module

public import proofs.«01_k».proof.Proof.AttnReadA
public import proofs.«01_k».proof.Proof.AttnReadB
public import proofs.«01_k».proof.Proof.AttnSpec

@[expose] public section

set_option maxRecDepth 16384

noncomputable section

namespace Cert.Attn

open Cert.KernelIdeal Cert.KernelIdeal.Gen
open Idealize.ShloMosaic Idealize.ShloMosaic.TcCoe Idealize.SL.Sem
open Cert.Mixer (IsReal Near eighth)

variable {P : Fin 8 → Fin 4096 → Fin 2304 → EReal} {rb : Fin 8 → Fin 257 → EReal}

/-- The weights' sum is a weighted sum of ones. -/
theorem mass_ones {ι : Type} [Fintype ι] (s : ι → EReal) : mass s = total s fun _ => 1 := by
  unfold mass total; simp

/-- Products with scaled queries add up to the scaled sum of the products. -/
theorem sum_scaled (f g : Fin 64 → EReal) : ∑ x, g x * (f x * eighth) = (∑ x, f x * g x) * eighth := by
  rw [Mixer.eighth_eq, mul_comm (∑ x, f x * g x), coe_mul_sum _ _ (by norm_num)]
  refine Finset.sum_congr rfl fun x _ => ?_
  ac_rfl

theorem sum_real (f g : Fin 64 → EReal) (hf : ∀ x, IsReal (f x)) (hg : ∀ x, IsReal (g x)) : IsReal ((∑ x, f x * g x) * eighth) :=
  (IsReal.sum _ _ fun x => (hf x).mul (hg x)).mul Mixer.eighth_real

/-! ## Group B -/

/-- A block's scores: within the band the scaled product plus the table's entry, outside it minus infinity. -/
theorem scoreB_form (b n : Fin 8) (p : Fin 3) (T U : ℕ) (hT : T < 16) (hU : U < 16) (kp : Vec Ideal S1x256x128 .bf16) (qt : Vec Ideal S1x64x256 .bf16)
    (x7 : Vec Ideal S8x768x256 .f32)
    (hk : ∀ (k : Fin 256) (j : Fin 128), kp (ix3 0 k j) = P b ⟨256 * U + k, by omega⟩ ⟨1280 + 128 * (n / 2) + j, by omega⟩)
    (hq : ∀ (x : Fin 64) (c : Fin 256), qt (ix3 0 x c) = P b ⟨256 * T + c, by omega⟩ ⟨768 + 64 * n + x, by omega⟩ * eighth)
    (h7 : ∀ (r : Fin 768) (j : Fin 256), x7 (ix3 n r j) = if j.val / 64 ≤ r.val / 64 ∧ r.val / 64 ≤ j.val / 64 + 8 then rb n (Mixer.relIx (512 + (j : ℤ) - r)) else ⊥)
    (k c : Fin 256) :
    scoreB (rawB kp (padB (n.val % 2 == 0) qt)) x7 n p k c =
      if c.val / 64 ≤ (256 * p.val + k.val) / 64 ∧ (256 * p.val + k.val) / 64 ≤ c.val / 64 + 8 then
        (∑ x : Fin 64, P b ⟨256 * T + c, by omega⟩ ⟨768 + 64 * n + x, by omega⟩ * P b ⟨256 * U + k, by omega⟩ ⟨1280 + 64 * n + x, by omega⟩) * eighth
          + rb n (Mixer.relIx (512 + (c : ℤ) - (256 * p.val + k.val : ℕ)))
      else ⊥ := by
  unfold scoreB
  rw [dif_pos ⟨k.isLt, c.isLt⟩]
  by_cases hd : (p.val = 0 ∧ k.val < 128 ∧ 128 ≤ c.val) ∨ (p.val = 2 ∧ 128 ≤ k.val ∧ c.val < 128)
  · rw [if_pos hd, if_neg (by omega)]
  · rw [if_neg hd, h7]
    show rawB kp (padB (n.val % 2 == 0) qt) (ix2 k c) + (if c.val / 64 ≤ (256 * p.val + k.val) / 64 ∧ (256 * p.val + k.val) / 64 ≤ c.val / 64 + 8
      then rb n (Mixer.relIx (512 + (c : ℤ) - (256 * p.val + k.val : ℕ))) else ⊥) = _
    by_cases hn : c.val / 64 ≤ (256 * p.val + k.val) / 64 ∧ (256 * p.val + k.val) / 64 ≤ c.val / 64 + 8
    · rw [if_pos hn, if_pos hn, rawB_apply, ← sum_scaled]
      refine congrArg (· + _) (Finset.sum_congr rfl fun x _ => ?_)
      rw [hk, hq]
      refine congrArg (· * _) (congrArg (P b _) (Fin.ext ?_))
      show 1280 + 128 * (n.val / 2) + (64 * (n.val % 2) + x.val) = 1280 + 64 * n.val + x.val
      omega
    · rw [if_neg hn, if_neg hn, EReal.add_bot]

/-- A block two before, one before or at the query's holds the formulas' scores. -/
theorem scoreB_spec (b n : Fin 8) (p : Fin 3) (T U : ℕ) (hT : T < 16) (hU : U < 16) (h : U + 2 = T + p.val) (k c : Fin 256) :
    (if c.val / 64 ≤ (256 * p.val + k.val) / 64 ∧ (256 * p.val + k.val) / 64 ≤ c.val / 64 + 8 then
        (∑ x : Fin 64, P b ⟨256 * T + c, by omega⟩ ⟨768 + 64 * n + x, by omega⟩ * P b ⟨256 * U + k, by omega⟩ ⟨1280 + 64 * n + x, by omega⟩) * eighth
          + rb n (Mixer.relIx (512 + (c : ℤ) - (256 * p.val + k.val : ℕ)))
      else ⊥) = Mixer.scoreB P rb b n ⟨256 * T + c, by omega⟩ ⟨256 * U + k, by omega⟩ := by
  unfold Mixer.scoreB
  have hz : (512 + (c : ℤ) - (256 * p.val + k.val : ℕ)) = ((256 * T + c.val : ℕ) : ℤ) - (256 * U + k.val : ℕ) := by omega
  rw [hz]
  refine if_congr ?_ rfl rfl
  show _ ↔ (256 * U + k.val) / 64 ≤ (256 * T + c.val) / 64 ∧ (256 * T + c.val) / 64 ≤ (256 * U + k.val) / 64 + 8
  omega

/-- A head's sum over all tokens is the sum over its three blocks. -/
theorem totalB (b n : Fin 8) (T U0 U1 U2 : ℕ) (hT : T < 16) (h0 : U0 < 16) (h1 : U1 < 16) (h2 : U2 < 16) (c : Fin 256)
    (L0 L1 : Prop) [Decidable L0] [Decidable L1]
    (e0 : L0 ↔ 2 ≤ T) (e1 : L1 ↔ 1 ≤ T) (u0 : 2 ≤ T → U0 = T - 2) (u1 : 1 ≤ T → U1 = T - 1) (u2 : U2 = T) (s0 s1 s2 : Fin 256 → EReal)
    (hs0 : 2 ≤ T → ∀ k, s0 k = Mixer.scoreB P rb b n ⟨256 * T + c, by omega⟩ ⟨256 * U0 + k, by omega⟩)
    (hs1 : 1 ≤ T → ∀ k, s1 k = Mixer.scoreB P rb b n ⟨256 * T + c, by omega⟩ ⟨256 * U1 + k, by omega⟩)
    (hs2 : ∀ k, s2 k = Mixer.scoreB P rb b n ⟨256 * T + c, by omega⟩ ⟨256 * U2 + k, by omega⟩) (v : Fin 4096 → EReal) :
    total (Mixer.scoreB P rb b n ⟨256 * T + c, by omega⟩) v =
      total (masked L0 s0) (fun k => v ⟨256 * U0 + k, by omega⟩) + total (masked L1 s1) (fun k => v ⟨256 * U1 + k, by omega⟩)
        + total s2 (fun k => v ⟨256 * U2 + k, by omega⟩) := by
  have hf : ∀ k : Fin 4096, (k.val / 256 + 2 < T ∨ T < k.val / 256) → Ideal.exp (Mixer.scoreB P rb b n ⟨256 * T + c, by omega⟩ k) * v k = 0 := by
    intro k hk
    unfold Mixer.scoreB
    rw [if_neg (by unfold Near; dsimp only; omega), Ideal.exp_bot, zero_mul]
  have z : ∀ w : Fin 256 → EReal, total (fun _ => (⊥ : EReal)) w = 0 := total_bot
  rw [show total (Mixer.scoreB P rb b n ⟨256 * T + c, by omega⟩) v = ∑ k, Ideal.exp (Mixer.scoreB P rb b n ⟨256 * T + c, by omega⟩ k) * v k from rfl,
    Mixer.sum_three _ T hT hf]
  congr 1
  · congr 1
    · by_cases h : 2 ≤ T
      · obtain rfl := u0 h
        rw [dif_pos h]
        have e : masked L0 s0 = s0 := by funext k; simp [masked, e0, h]
        rw [e]
        exact Finset.sum_congr rfl fun k _ => by rw [hs0 h]
      · rw [dif_neg h]
        have e : masked L0 s0 = fun _ => (⊥ : EReal) := by funext k; simp [masked, e0, h]
        rw [e, z]
    · by_cases h : 1 ≤ T
      · obtain rfl := u1 h
        rw [dif_pos h]
        have e : masked L1 s1 = s1 := by funext k; simp [masked, e1, h]
        rw [e]
        exact Finset.sum_congr rfl fun k _ => by rw [hs1 h]
      · rw [dif_neg h]
        have e : masked L1 s1 = fun _ => (⊥ : EReal) := by funext k; simp [masked, e1, h]
        rw [e, z]
  · subst u2
    exact Finset.sum_congr rfl fun k _ => by rw [hs2]

/-- Group B's head on key blocks `U0`, `U1`, `U2` and the query tile `T`. -/
theorem headOn_eq (hP : ∀ b q x, IsReal (P b q x)) (hr : ∀ h j, IsReal (rb h j)) (b n : Fin 8)
    (x0 : Vec Ideal S1x1792x512 .bf16) (x7 : Vec Ideal S8x768x256 .f32) (t : ℕ) (ht : t ≤ 256)
    (k0 k1 k2 : Vec Ideal S1x256x128 .bf16) (v0 v1 v2 : Vec Ideal S1x64x256 .bf16) (g0 g1 : FVec Ideal S1x256 .f32 → FVec Ideal S1x256 .f32)
    (L0 L1 : Prop) [Decidable L0] [Decidable L1] (hg0 : ∀ M c, g0 M (ix2 0 c) = if L0 then M (ix2 0 c) else (⊥ : EReal))
    (hg1 : ∀ M c, g1 M (ix2 0 c) = if L1 then M (ix2 0 c) else (⊥ : EReal))
    (T U0 U1 U2 : ℕ) (hT : T < 16) (h0 : U0 < 16) (h1 : U1 < 16) (h2 : U2 < 16)
    (e0 : L0 ↔ 2 ≤ T) (e1 : L1 ↔ 1 ≤ T) (u0 : 2 ≤ T → U0 = T - 2) (u1 : 1 ≤ T → U1 = T - 1) (u2 : U2 = T)
    (hk0 : ∀ (k : Fin 256) (j : Fin 128), k0 (ix3 0 k j) = P b ⟨256 * U0 + k, by omega⟩ ⟨1280 + 128 * (n / 2) + j, by omega⟩)
    (hk1 : ∀ (k : Fin 256) (j : Fin 128), k1 (ix3 0 k j) = P b ⟨256 * U1 + k, by omega⟩ ⟨1280 + 128 * (n / 2) + j, by omega⟩)
    (hk2 : ∀ (k : Fin 256) (j : Fin 128), k2 (ix3 0 k j) = P b ⟨256 * U2 + k, by omega⟩ ⟨1280 + 128 * (n / 2) + j, by omega⟩)
    (hv0 : ∀ (d : Fin 64) (k : Fin 256), v0 (ix3 0 d k) = P b ⟨256 * U0 + k, by omega⟩ ⟨1792 + 64 * n + d, by omega⟩)
    (hv1 : ∀ (d : Fin 64) (k : Fin 256), v1 (ix3 0 d k) = P b ⟨256 * U1 + k, by omega⟩ ⟨1792 + 64 * n + d, by omega⟩)
    (hv2 : ∀ (d : Fin 64) (k : Fin 256), v2 (ix3 0 d k) = P b ⟨256 * U2 + k, by omega⟩ ⟨1792 + 64 * n + d, by omega⟩)
    (hq : ∀ (x : Fin 64) (c : Fin 256), featB x0 (512 + 64 * n.val) t (inb_feat _ _ (by omega) ht) (ix3 0 x c)
      = P b ⟨256 * T + c, by omega⟩ ⟨768 + 64 * n + x, by omega⟩ * eighth)
    (h7 : ∀ (r : Fin 768) (j : Fin 256), x7 (ix3 n r j) = if j.val / 64 ≤ r.val / 64 ∧ r.val / 64 ≤ j.val / 64 + 8 then rb n (Mixer.relIx (512 + (j : ℤ) - r)) else ⊥)
    (d : Fin 64) (c : Fin 256) :
    headOn x0 x7 n t ht k0 k1 k2 v0 v1 v2 g0 g1 (ix2 d c) = Mixer.headB P rb b n ⟨256 * T + c, by omega⟩ d := by
  have f0 := fun k => scoreB_form b n 0 T U0 hT h0 k0 _ x7 hk0 hq h7 k c
  have f1 := fun k => scoreB_form b n 1 T U1 hT h1 k1 _ x7 hk1 hq h7 k c
  have f2 := fun k => scoreB_form b n 2 T U2 hT h2 k2 _ x7 hk2 hq h7 k c
  have top : ∀ (p : Fin 3) (U : ℕ) (hU : U < 16) (k : Fin 256),
      (if c.val / 64 ≤ (256 * p.val + k.val) / 64 ∧ (256 * p.val + k.val) / 64 ≤ c.val / 64 + 8 then
        (∑ x : Fin 64, P b ⟨256 * T + c, by omega⟩ ⟨768 + 64 * n + x, by omega⟩ * P b ⟨256 * U + k, by omega⟩ ⟨1280 + 64 * n + x, by omega⟩) * eighth
          + rb n (Mixer.relIx (512 + (c : ℤ) - (256 * p.val + k.val : ℕ)))
      else ⊥) ≠ ⊤ := by
    intro p U hU k
    split
    · exact ((sum_real _ _ (fun _ => hP _ _ _) (fun _ => hP _ _ _)).add (hr _ _)).ne_top
    · exact bot_ne_top
  have bot : ∀ (p : Fin 3) (U : ℕ) (hU : U < 16),
      (if c.val / 64 ≤ (256 * p.val + c.val) / 64 ∧ (256 * p.val + c.val) / 64 ≤ c.val / 64 + 8 then
        (∑ x : Fin 64, P b ⟨256 * T + c, by omega⟩ ⟨768 + 64 * n + x, by omega⟩ * P b ⟨256 * U + c, by omega⟩ ⟨1280 + 64 * n + x, by omega⟩) * eighth
          + rb n (Mixer.relIx (512 + (c : ℤ) - (256 * p.val + c.val : ℕ)))
      else ⊥) ≠ ⊥ := by
    intro p U hU
    rw [if_pos (by omega)]
    exact ((sum_real _ _ (fun _ => hP _ _ _) (fun _ => hP _ _ _)).add (hr _ _)).ne_bot
  rw [headOn_apply x0 x7 n t ht k0 k1 k2 v0 v1 v2 g0 g1 L0 L1 hg0 hg1 _ _ _ rfl rfl rfl d c
    (fun k => by rw [f0]; exact top 0 U0 h0 k) (fun k => by rw [f1]; exact top 1 U1 h1 k) (fun k => by rw [f2]; exact top 2 U2 h2 k)
    ⟨c, by rw [f0]; exact bot 0 U0 h0⟩ ⟨c, by rw [f1]; exact bot 1 U1 h1⟩ ⟨c, by rw [f2]; exact bot 2 U2 h2⟩]
  have key := totalB (P := P) (rb := rb) b n T U0 U1 U2 hT h0 h1 h2 c L0 L1 e0 e1 u0 u1 u2 _ _ _
    (fun h k => (f0 k).trans (scoreB_spec b n 0 T U0 hT h0 (by have := u0 h; show U0 + 2 = T + 0; omega) k c))
    (fun h k => (f1 k).trans (scoreB_spec b n 1 T U1 hT h1 (by have := u1 h; show U1 + 2 = T + 1; omega) k c))
    (fun k => (f2 k).trans (scoreB_spec b n 2 T U2 hT h2 (by show U2 + 2 = T + 2; omega) k c))
  unfold Mixer.headB
  rw [mass_ones (Mixer.scoreB P rb b n _), key, key, mass_ones, mass_ones, mass_ones]
  simp only [hv0, hv1, hv2]

/-! ## Group A -/

/-- A window's scores: within the band the scaled product minus the penalty, outside it minus infinity. -/
theorem rawA_form (b : Fin 8) (v : Fin 2) (g : Fin 4) (R U : ℕ) (hR : R < 32) (hU : U < 32) (w : FVec Ideal S256x256 .bf16) (q : Fin 4 → Vec Ideal S1x64x128 .bf16)
    (y : Vec Ideal S1x256x512 .f32) (o : ℕ) (ho : o ≤ 128)
    (hw : ∀ (a : Fin 256) (k : Fin 128), w (ix2 a ⟨o + k, by omega⟩) = P b ⟨128 * U + k, by omega⟩ ⟨512 + a, by omega⟩)
    (hq : ∀ (x : Fin 64) (c : Fin 128), q g (ix3 0 x c) = P b ⟨128 * R + c, by omega⟩ ⟨64 * (v * 4 + g) + x, by omega⟩ * eighth)
    (hy : ∀ (k : Fin 256) (j : Fin 512), y (ix3 0 k j) = if j % 128 / 64 ≤ k.val / 64 ∧ k.val / 64 ≤ j % 128 / 64 + 2
      then -(Mixer.slope (v * 4 + j / 128)) * Mixer.dist (128 + j % 128) k else ⊥) (c k : Fin 128) :
    rawA v w q y g c ⟨o + k, by omega⟩ =
      if c.val / 64 ≤ (o + k.val) / 64 ∧ (o + k.val) / 64 ≤ c.val / 64 + 2 then
        (∑ x : Fin 64, P b ⟨128 * R + c, by omega⟩ ⟨64 * (v * 4 + g) + x, by omega⟩ * P b ⟨128 * U + k, by omega⟩ ⟨512 + 64 * v + x, by omega⟩) * eighth
          - Mixer.slope (v * 4 + g) * Mixer.dist (128 + c) (o + k)
      else ⊥ := by
  unfold rawA
  have c0 : (col g c).val % 128 = c.val := by show (128 * g.val + c.val) % 128 = c.val; omega
  have c1 : (col g c).val / 128 = g.val := by show (128 * g.val + c.val) / 128 = g.val; omega
  rw [hy, c0, c1]
  dsimp only
  by_cases hn : c.val / 64 ≤ (o + k.val) / 64 ∧ (o + k.val) / 64 ≤ c.val / 64 + 2
  · rw [if_pos hn, if_pos hn, ← sum_scaled, sub_eq_add_neg, neg_mul]
    refine congrArg (· + _) (Finset.sum_congr rfl fun x _ => ?_)
    rw [hw, hq]
    refine congrArg (· * _) (congrArg (P b _) (Fin.ext ?_))
    show 512 + (64 * v.val + x.val) = 512 + 64 * v.val + x.val
    omega
  · rw [if_neg hn, if_neg hn, EReal.add_bot]

/-- The half window before the query's tile, or the tile itself, holds the formulas' scores. -/
theorem rawA_spec (b : Fin 8) (v : Fin 2) (g : Fin 4) (R U : ℕ) (hR : R < 32) (hU : U < 32) (o : ℕ) (h : 128 * U + 128 = 128 * R + o) (c k : Fin 128) :
    (if c.val / 64 ≤ (o + k.val) / 64 ∧ (o + k.val) / 64 ≤ c.val / 64 + 2 then
        (∑ x : Fin 64, P b ⟨128 * R + c, by omega⟩ ⟨64 * (v * 4 + g) + x, by omega⟩ * P b ⟨128 * U + k, by omega⟩ ⟨512 + 64 * v + x, by omega⟩) * eighth
          - Mixer.slope (v * 4 + g) * Mixer.dist (128 + c) (o + k)
      else ⊥) = Mixer.scoreA P b ⟨v * 4 + g, by omega⟩ ⟨128 * R + c, by omega⟩ ⟨128 * U + k, by omega⟩ := by
  unfold Mixer.scoreA
  have hd : Mixer.dist (128 + c) (o + k) = Mixer.dist (128 * R + c) (128 * U + k) := by
    unfold Mixer.dist
    rw [show (((128 + c.val : ℕ) : ℤ) - (o + k.val : ℕ)) = ((128 * R + c.val : ℕ) : ℤ) - (128 * U + k.val : ℕ) by omega]
  rw [hd]
  refine if_congr ?_ ?_ rfl
  · show _ ↔ (128 * U + k.val) / 64 ≤ (128 * R + c.val) / 64 ∧ (128 * R + c.val) / 64 ≤ (128 * U + k.val) / 64 + 2
    omega
  · have hx : ∀ x : Fin 64, (⟨512 + 64 * v + x, by omega⟩ : Fin 2304) = ⟨512 + 64 * ((v.val * 4 + g.val) / 4) + x, by omega⟩ := fun x => by
      apply Fin.ext; dsimp only; omega
    simp only [hx]

/-- A head's sum over all tokens is the sum over the two halves of its window. -/
theorem totalA (b h : Fin 8) (R U : ℕ) (hR : R < 32) (hU : U < 32) (c : Fin 128) (L : Prop) [Decidable L]
    (e : L ↔ 1 ≤ R) (u : 1 ≤ R → U = R - 1) (s : Fin 256 → EReal)
    (hs0 : 1 ≤ R → ∀ k : Fin 128, s ⟨k, by omega⟩ = Mixer.scoreA P b h ⟨128 * R + c, by omega⟩ ⟨128 * U + k, by omega⟩)
    (hs1 : ∀ k : Fin 128, s ⟨128 + k, by omega⟩ = Mixer.scoreA P b h ⟨128 * R + c, by omega⟩ ⟨128 * R + k, by omega⟩) (v : Fin 4096 → EReal) :
    total (Mixer.scoreA P b h ⟨128 * R + c, by omega⟩) v =
      total (maskedA L s) (fun k => v ⟨128 * U + k, by omega⟩) + total (fun k : Fin 128 => s ⟨128 + k, by omega⟩) (fun k => v ⟨128 * R + k, by omega⟩) := by
  have hf : ∀ k : Fin 4096, (k.val / 128 + 1 < R ∨ R < k.val / 128) → Ideal.exp (Mixer.scoreA P b h ⟨128 * R + c, by omega⟩ k) * v k = 0 := by
    intro k hk
    unfold Mixer.scoreA
    rw [if_neg (by unfold Near; dsimp only; omega), Ideal.exp_bot, zero_mul]
  rw [show total (Mixer.scoreA P b h ⟨128 * R + c, by omega⟩) v = ∑ k, Ideal.exp (Mixer.scoreA P b h ⟨128 * R + c, by omega⟩ k) * v k from rfl,
    Mixer.sum_two _ R hR hf]
  congr 1
  · by_cases h1 : 1 ≤ R
    · obtain rfl := u h1
      rw [dif_pos h1]
      refine Finset.sum_congr rfl fun k _ => ?_
      rw [show maskedA L s k = s ⟨k, by omega⟩ by simp [maskedA, e, h1], hs0 h1]
    · rw [dif_neg h1]
      refine (Finset.sum_eq_zero fun k _ => ?_).symm
      rw [show maskedA L s k = ⊥ by simp [maskedA, e, h1], Ideal.exp_bot, zero_mul]
  · exact Finset.sum_congr rfl fun k _ => by dsimp only; rw [hs1]

/-- Group A's head `4 v + g` on the query tile `R`, the half window before it at block `U`. -/
theorem quadA_eq (hP : ∀ b q x, IsReal (P b q x)) (sink : Fin 8 → EReal) (hsink : ∀ h, IsReal (sink h)) (b : Fin 8) (v : Fin 2) (g : Fin 4)
    (w : FVec Ideal S256x256 .bf16) (q : Fin 4 → Vec Ideal S1x64x128 .bf16) (y : Vec Ideal S1x256x512 .f32) (z : Vec Ideal S1x1x512 .f32)
    (m : FVec Ideal S128x512 .f32 → FVec Ideal S128x512 .f32) (L : Prop) [Decidable L]
    (hm : ∀ s x j, m s (ix2 x j) = if L then s (ix2 x j) else (⊥ : EReal)) (R U : ℕ) (hR : R < 32) (hU : U < 32) (e : L ↔ 1 ≤ R) (u : 1 ≤ R → U = R - 1)
    (hw0 : ∀ (a : Fin 256) (k : Fin 128), w (ix2 a ⟨0 + k, by omega⟩) = P b ⟨128 * U + k, by omega⟩ ⟨512 + a, by omega⟩)
    (hw1 : ∀ (a : Fin 256) (k : Fin 128), w (ix2 a ⟨128 + k, by omega⟩) = P b ⟨128 * R + k, by omega⟩ ⟨512 + a, by omega⟩)
    (hq : ∀ (x : Fin 64) (c : Fin 128), q g (ix3 0 x c) = P b ⟨128 * R + c, by omega⟩ ⟨64 * (v * 4 + g) + x, by omega⟩ * eighth)
    (hy : ∀ (k : Fin 256) (j : Fin 512), y (ix3 0 k j) = if j % 128 / 64 ≤ k.val / 64 ∧ k.val / 64 ≤ j % 128 / 64 + 2
      then -(Mixer.slope (v * 4 + j / 128)) * Mixer.dist (128 + j % 128) k else ⊥)
    (hz : ∀ j : Fin 512, z (ix3 0 0 j) = sink ⟨v * 4 + j / 128, by omega⟩) (d : Fin 64) (c : Fin 128) :
    quadA (v.val == 0) w (q 0) (q 1) (q 2) (q 3) y z m (ix2 d (col g c)) = Mixer.headA P sink b ⟨v * 4 + g, by omega⟩ ⟨128 * R + c, by omega⟩ d := by
  have f0 := fun k => rawA_form b v g R U hR hU w q y 0 (by omega) hw0 hq hy c k
  have f1 := fun k => rawA_form b v g R R hR hR w q y 128 (by omega) hw1 hq hy c k
  have top : ∀ (o U : ℕ) (hU : U < 32) (k : Fin 128),
      (if c.val / 64 ≤ (o + k.val) / 64 ∧ (o + k.val) / 64 ≤ c.val / 64 + 2 then
        (∑ x : Fin 64, P b ⟨128 * R + c, by omega⟩ ⟨64 * (v * 4 + g) + x, by omega⟩ * P b ⟨128 * U + k, by omega⟩ ⟨512 + 64 * v + x, by omega⟩) * eighth
          - Mixer.slope (v * 4 + g) * Mixer.dist (128 + c) (o + k)
      else ⊥) ≠ ⊤ := by
    intro o U hU k
    split
    · exact ((sum_real _ _ (fun _ => hP _ _ _) (fun _ => hP _ _ _)).sub ((Mixer.slope_real _).mul ⟨_, rfl⟩)).ne_top
    · exact bot_ne_top
  have hs : ∀ x, rawA v w q y g c x ≠ ⊤ := by
    intro x
    by_cases hx : x.val < 128
    · rw [show x = ⟨0 + (⟨x.val, hx⟩ : Fin 128).val, by dsimp only; omega⟩ from Fin.ext (by dsimp only; omega), f0]
      exact top 0 U hU _
    · rw [show x = ⟨128 + (⟨x.val - 128, by omega⟩ : Fin 128).val, by dsimp only; omega⟩ from Fin.ext (by dsimp only; omega), f1]
      exact top 128 R hR _
  have hz' : z (ix3 0 0 (col g c)) = sink ⟨v * 4 + g, by omega⟩ := by
    rw [hz]
    refine congrArg sink (Fin.ext ?_)
    show v.val * 4 + (128 * g.val + c.val) / 128 = v * 4 + g
    omega
  obtain ⟨ζ, hζ⟩ := hsink ⟨v * 4 + g, by omega⟩
  rw [quadA_apply v w q y z m L hm g d c hs ζ (hz'.trans hζ)]
  have g0 : ∀ k : Fin 128, rawA v w q y g c ⟨k, by omega⟩ = rawA v w q y g c ⟨0 + k, by omega⟩ := fun k =>
    congrArg (rawA v w q y g c) (Fin.ext (by dsimp only; omega))
  have key := totalA (P := P) b ⟨v * 4 + g, by omega⟩ R U hR hU c L e u (rawA v w q y g c)
    (fun h k => (g0 k).trans ((f0 k).trans (rawA_spec b v g R U hR hU 0 (by have := u h; omega) c k)))
    (fun k => (f1 k).trans (rawA_spec b v g R R hR hR 128 rfl c k))
  unfold Mixer.headA
  rw [mass_ones (Mixer.scoreA P b _ _), key, key, mass_ones, mass_ones, hζ]
  have w0 : ∀ k : Fin 128, w (ix2 ⟨128 + 64 * v.val + d.val, by omega⟩ ⟨k, by omega⟩)
      = P b ⟨128 * U + k, by omega⟩ ⟨640 + 64 * ((v.val * 4 + g.val) / 4) + d, by omega⟩ := fun k => by
    refine Eq.trans (congrArg w ?_) ((hw0 ⟨128 + 64 * v.val + d.val, by omega⟩ k).trans (congrArg (P b _) (Fin.ext ?_)))
    · exact congrArg (ix2 _) (Fin.ext (by dsimp only; omega))
    · dsimp only; omega
  have w1 : ∀ k : Fin 128, w (ix2 ⟨128 + 64 * v.val + d.val, by omega⟩ ⟨128 + k, by omega⟩)
      = P b ⟨128 * R + k, by omega⟩ ⟨640 + 64 * ((v.val * 4 + g.val) / 4) + d, by omega⟩ := fun k =>
    (hw1 ⟨128 + 64 * v.val + d.val, by omega⟩ k).trans (congrArg (P b _) (Fin.ext (by dsimp only; omega)))
  simp only [w0, w1]

end Cert.Attn
-- ==== Proof.AttnWords.lean ====
/-
  The positions of queries and keys are words in both programs: here the words' chunk numbers, differences and comparisons are read as
  the natural numbers' own.
-/
module

public import proofs.«01_k».proof.Proof.AttnSpec
public import Idealize.ShloMosaic.Lib.WordArith
public import Idealize.ShloMosaic.Lib.SortNet.Extract

@[expose] public section

namespace Cert.Words

open Idealize.ShloMosaic

/-- The word of a small number, read signed. -/
theorem toInt_ofNat (n : ℕ) (h : n < 2 ^ 31) : (BitVec.ofNat 32 n).toInt = n :=
  WordArith.toInt_ofNat_small n h

/-- A position's chunk number. -/
theorem chunk (n : ℕ) (h : n < 4096) :
    IntOp.divsi ArithUnit.host (BitVec.ofNat 32 n) 64#32 = BitVec.ofNat 32 (n / 64) :=
  (by decide +kernel : ∀ n : Fin 4096,
    IntOp.divsi ArithUnit.host (BitVec.ofNat 32 n.val) 64#32 = BitVec.ofNat 32 (n.val / 64)) ⟨n, h⟩

/-- The kernel's band: a key's chunk is at least the query's and at most `w` further on. -/
theorem band_ahead (a b w : ℕ) (w' : BitVec 32) (ha : a < 64) (hb : b < 64) (hw : w < 64) {α : Type} (x y : α)
    (hadd : IntOp.subi (IntOp.addi (BitVec.ofNat 32 b) w') 1#32 = BitVec.ofNat 32 (b + w)) :
    Scalar.select (IntOp.andi (IntOp.cmpi .sge (BitVec.ofNat 32 a) (BitVec.ofNat 32 b))
      (IntOp.cmpi .sle (BitVec.ofNat 32 a) (IntOp.subi (IntOp.addi (BitVec.ofNat 32 b) w') 1#32))) x y
      = if b ≤ a ∧ a ≤ b + w then x else y := by
  have c1 : ((b : ℤ) ≤ a) ↔ b ≤ a := by omega
  have c2 : ((a : ℤ) ≤ (b + w : ℕ)) ↔ a ≤ b + w := by omega
  rw [hadd]
  unfold Scalar.select IntOp.andi IntOp.cmpi BitVec.sle
  simp only []
  rw [toInt_ofNat a (by omega), toInt_ofNat b (by omega), toInt_ofNat (b + w) (by omega)]
  simp only [c1, c2]
  by_cases h1 : b ≤ a <;> by_cases h2 : a ≤ b + w <;> simp only [h1, h2] <;> rfl

/-- The band of three chunks. -/
theorem band_three (a b : ℕ) (ha : a < 64) (hb : b < 64) {α : Type} (x y : α) :
    Scalar.select (IntOp.andi (IntOp.cmpi .sge (BitVec.ofNat 32 a) (BitVec.ofNat 32 b))
      (IntOp.cmpi .sle (BitVec.ofNat 32 a) (IntOp.subi (IntOp.addi (BitVec.ofNat 32 b) 3#32) 1#32))) x y
      = if b ≤ a ∧ a ≤ b + 2 then x else y :=
  band_ahead a b 2 3#32 ha hb (by decide) x y
    ((by decide +kernel : ∀ b : Fin 64, IntOp.subi (IntOp.addi (BitVec.ofNat 32 b.val) 3#32) 1#32 = BitVec.ofNat 32 (b.val + 2)) ⟨b, hb⟩)

/-- The band of nine chunks. -/
theorem band_nine (a b : ℕ) (ha : a < 64) (hb : b < 64) {α : Type} (x y : α) :
    Scalar.select (IntOp.andi (IntOp.cmpi .sge (BitVec.ofNat 32 a) (BitVec.ofNat 32 b))
      (IntOp.cmpi .sle (BitVec.ofNat 32 a) (IntOp.subi (IntOp.addi (BitVec.ofNat 32 b) 9#32) 1#32))) x y
      = if b ≤ a ∧ a ≤ b + 8 then x else y :=
  band_ahead a b 8 9#32 ha hb (by decide) x y
    ((by decide +kernel : ∀ b : Fin 64, IntOp.subi (IntOp.addi (BitVec.ofNat 32 b.val) 9#32) 1#32 = BitVec.ofNat 32 (b.val + 8)) ⟨b, hb⟩)

/-- The reference's band: a key's chunk is at most the query's and at least the query's less `w`. -/
theorem band_behind (a b w : ℕ) (ha : a < 64) (hb : b < 64) (hw : w < 64) {α : Type} (x y : α) :
    Scalar.select (IntOp.andi (IntOp.cmpi .sle (BitVec.ofNat 32 a) (BitVec.ofNat 32 b))
      (IntOp.cmpi .sge (BitVec.ofNat 32 a)
        (IntOp.subi (BitVec.ofNat 32 b) (BitVec.ofNat 32 w)))) x y
      = if a ≤ b ∧ b ≤ a + w then x else y := by
  have hs : (IntOp.subi (BitVec.ofNat 32 b) (BitVec.ofNat 32 w)).toInt = (b : ℤ) - w := by
    rw [WordArith.toInt_subi_of_nonneg _ _ (by rw [toInt_ofNat _ (by omega)]; omega)
      (by rw [toInt_ofNat _ (by omega)]; omega), toInt_ofNat b (by omega), toInt_ofNat w (by omega)]
  unfold Scalar.select IntOp.andi IntOp.cmpi BitVec.sle
  simp only []
  rw [hs, toInt_ofNat a (by omega), toInt_ofNat b (by omega)]
  by_cases h1 : a ≤ b <;> by_cases h2 : b ≤ a + w
  · have : (b : ℤ) - w ≤ a := by omega
    simp [h1, h2, this]
  · have : ¬ (b : ℤ) - w ≤ a := by omega
    simp [h1, h2, this]
  · have : (b : ℤ) - w ≤ a := by omega
    simp [h1, h2, this]
  · have : ¬ (b : ℤ) - w ≤ a := by omega
    simp [h1, h2, this]

/-- The difference of two positions, read signed. -/
theorem toInt_diff (q k : ℕ) (hq : q < 2 ^ 31) (hk : k < 2 ^ 31) :
    (IntOp.subi (BitVec.ofNat 32 q) (BitVec.ofNat 32 k)).toInt = (q : ℤ) - k := by
  rw [WordArith.toInt_subi_of_nonneg _ _ (by rw [toInt_ofNat _ hq]; omega)
    (by rw [toInt_ofNat _ hk]; omega), toInt_ofNat q hq, toInt_ofNat k hk]

/-- A word well inside the range, made positive. -/
theorem toInt_absi (w : BitVec 32) (h : -2 ^ 31 < w.toInt) : (IntOp.absi w).toInt = |w.toInt| := by
  unfold IntOp.absi
  by_cases hm : w.msb = true
  · rw [if_pos hm]
    have h0 : w.toInt < 0 := by
      rw [BitVec.msb_eq_toInt] at hm; simpa using hm
    rw [BitVec.toInt_neg_of_ne_intMin, abs_of_neg h0]
    intro he
    rw [he] at h
    revert h
    decide
  · rw [if_neg hm]
    have h0 : 0 ≤ w.toInt := by
      rw [BitVec.msb_eq_toInt] at hm; simpa using hm
    rw [abs_of_nonneg h0]

/-- The distance of two positions, as a value. -/
theorem dist_eq (q k : ℕ) (hq : q < 2 ^ 31) (hk : k < 2 ^ 31) :
    FloatOps.sitofp (F := Ideal) .f32 (IntOp.absi (IntOp.subi (BitVec.ofNat 32 q) (BitVec.ofNat 32 k)))
      = ((|((q : ℤ) - k)| : ℤ) : ℝ) := by
  show (((IntOp.absi (IntOp.subi (BitVec.ofNat 32 q) (BitVec.ofNat 32 k))).toInt : ℝ) : EReal) = _
  rw [toInt_absi _ (by rw [toInt_diff q k hq hk]; omega), toInt_diff q k hq hk]

/-- A small number's word, as a value. -/
theorem value_ofNat (n : ℕ) (h : n < 2 ^ 31) :
    FloatOps.sitofp (F := Ideal) .f32 (BitVec.ofNat 32 n) = ((n : ℝ) : EReal) := by
  show (((BitVec.ofNat 32 n).toInt : ℝ) : EReal) = _
  rw [toInt_ofNat n h]
  simp

/-- A difference kept between -128 and 128, plus 128: the row of the bias table. -/
theorem table_word (d o : BitVec 32) :
    (Scalar.select (IntOp.cmpi .slt (IntOp.addi (IntOp.minsi 128#32 (IntOp.maxsi 4294967168#32 d)) 128#32) 0#32) o
      (IntOp.addi (IntOp.minsi 128#32 (IntOp.maxsi 4294967168#32 d)) 128#32)).toInt = max (-128) (min 128 d.toInt) + 128 := by
  have h1 : (IntOp.minsi 128#32 (IntOp.maxsi 4294967168#32 d)).toInt = min 128 (max (-128) d.toInt) := by
    rw [SortNet.toInt_minsi, SortNet.toInt_maxsi]
    rfl
  have h2 : (IntOp.addi (IntOp.minsi 128#32 (IntOp.maxsi 4294967168#32 d)) 128#32).toInt = min 128 (max (-128) d.toInt) + 128 := by
    have e : (128#32 : BitVec 32).toInt = 128 := rfl
    have := WordArith.toInt_add_of_bounds (IntOp.minsi 128#32 (IntOp.maxsi 4294967168#32 d)) 128#32 (by rw [h1, e]; omega) (by rw [h1, e]; omega)
    rw [h1, e] at this
    exact this
  generalize hw : IntOp.addi (IntOp.minsi 128#32 (IntOp.maxsi 4294967168#32 d)) 128#32 = w at h2
  have hn : IntOp.cmpi .slt w 0#32 = 0#1 := by
    unfold IntOp.cmpi BitVec.slt
    simp only []
    rw [decide_eq_false (by rw [h2]; show ¬ _ < (0 : ℤ); omega)]
    rfl
  rw [hn]
  show w.toInt = _
  rw [h2]; omega

/-- The row of the bias table two positions ask for. -/
theorem table_row (q k : ℕ) (hq : q < 2 ^ 31) (hk : k < 2 ^ 31) (o : BitVec 32) :
    min (Scalar.select (IntOp.cmpi .slt (IntOp.addi (IntOp.minsi 128#32 (IntOp.maxsi 4294967168#32
        (IntOp.subi (BitVec.ofNat 32 q) (BitVec.ofNat 32 k)))) 128#32) 0#32) o
      (IntOp.addi (IntOp.minsi 128#32 (IntOp.maxsi 4294967168#32
        (IntOp.subi (BitVec.ofNat 32 q) (BitVec.ofNat 32 k)))) 128#32)).toInt.toNat 256 = (Mixer.relIx ((q : ℤ) - k)).val := by
  rw [table_word, toInt_diff q k hq hk]
  unfold Mixer.relIx
  simp only []
  omega

end Cert.Words
-- ==== Proof.AttnHost.lean ====
/-
  The arrays the kernel's program prepares before the call, read at one index: the cast projections, the transposed rows, the two
  groups' bias arrays, the sinks and the gains, in terms of the arguments.
-/
module

public import proofs.«01_k».proof.Proof.AttnWords
public import proofs.«01_k».proof.Proof.Gen.KernelIdeal.Value
public import Idealize.ShloMosaic.Lib.StableHlo.ReadAt

@[expose] public section
set_option maxRecDepth 16384

noncomputable section

namespace Cert.AttnHost

open Cert.KernelIdeal Cert.KernelIdeal.Gen Cert.KernelIdeal.Value Idealize.ShloMosaic Idealize.ShloMosaic.TcCoe Idealize.SL.Sem
open Idealize.ShloMosaic.Tactic

variable (m : (ℓ : Loc nD τ sig) → Buf (Elt Ideal) ℓ)

/-- The projections by batch, token and feature. -/
abbrev proj (c : Dev nD) : Fin 8 → Fin 4096 → Fin 2304 → EReal := fun b s j => (m (c, Proc.tc.devRef main_arg0) : Vec Ideal S8x4096x2304 .f32) (ix3 b s j)
/-- The sinks by head. -/
abbrev sinks (c : Dev nD) : Fin 8 → EReal := fun h => (m (c, Proc.tc.devRef main_arg1) : Vec Ideal S1x8 .f32) (ix2 0 h)
/-- The bias table by head and row. -/
abbrev table (c : Dev nD) : Fin 8 → Fin 257 → EReal := fun h j => (m (c, Proc.tc.devRef main_arg2) : Vec Ideal S1x8x257 .f32) (ix3 0 h j)

theorem sign_ofBits : Ideal.ofBits .f32 0xFF800000#32 = ⊥ := by simp [Ideal.ofBits, Ideal.ieee]
theorem one_ofBits : Ideal.ofBits .f32 0x3F800000#32 = 1 := by
  simp [Ideal.ofBits, Ideal.ieee]; rw [← EReal.coe_mul]; norm_num

theorem keys_apply (c : Dev nD) (b : Fin 8) (s : Fin 4096) (j : Fin 512) :
    (V m c main_v1 : Vec Ideal S8x4096x512 .bf16) (ix3 b s j) = proj m c b s ⟨1280 + j, by omega⟩ := by
  unfold V
  after_reads_at

/-- The transposed rows: group A's scaled queries, group B's scaled queries, group B's values, then group A's keys and values. -/
theorem rows_apply (c : Dev nD) (b : Fin 8) (r : Fin 1792) (s : Fin 4096) :
    (V m c main_v12 : Vec Ideal S8x1792x4096 .bf16) (ix3 b r s) =
      if h0 : r.val < 512 then proj m c b s ⟨r, by omega⟩ * Mixer.eighth
      else if h1 : r.val < 1024 then proj m c b s ⟨r + 256, by omega⟩ * Mixer.eighth
      else if h2 : r.val < 1536 then proj m c b s ⟨r + 768, by omega⟩
      else proj m c b s ⟨r - 1024, by omega⟩ := by
  unfold V
  after_reads_at
  by_cases h0 : r.val < 512
  · simp only [h0, dif_pos]
    after_reads_at
    rfl
  by_cases h1 : r.val < 1024
  · have e1 : r.val - 512 < 512 := by omega
    simp only [h0, h1, e1, dif_pos, dif_neg, not_false_eq_true]
    after_reads_at
    refine congrArg (fun z : Fin 2304 => proj m c b s z * Mixer.eighth) (Fin.ext ?_)
    show 768 + (r.val - 512) = r + 256; omega
  have e1 : ¬ r.val - 512 < 512 := by omega
  by_cases h2 : r.val < 1536
  · have e2 : r.val - 512 - 512 < 512 := by omega
    simp only [h0, h1, h2, e1, e2, dif_pos, dif_neg, not_false_eq_true]
    after_reads_at
    refine congrArg (fun z : Fin 2304 => proj m c b s z) (Fin.ext ?_)
    show 1792 + (r.val - 512 - 512) = r + 768; omega
  · have e2 : ¬ r.val - 512 - 512 < 512 := by omega
    simp only [h0, h1, h2, e1, e2, dif_neg, not_false_eq_true]
    after_reads_at
    refine congrArg (fun z : Fin 2304 => proj m c b s z) (Fin.ext ?_)
    show 512 + (r.val - 512 - 512 - 512) = r - 1024; omega

/-- Group A's bias: the window's keys start one block of 128 before the queries. -/
theorem biasA_apply (c : Dev nD) (v : Fin 2) (k : Fin 256) (j : Fin 512) :
    (V m c main_v60 : Vec Ideal S2x256x512 .f32) (ix3 v k j) =
      if j % 128 / 64 ≤ k.val / 64 ∧ k.val / 64 ≤ j % 128 / 64 + 2
      then -(Mixer.slope (v * 4 + j / 128)) * Mixer.dist (128 + j % 128) k else ⊥ := by
  have e : (V m c main_v60 : Vec Ideal S2x256x512 .f32) (ix3 v k j) = Scalar.select
      (IntOp.andi (IntOp.cmpi .sge (IntOp.divsi ArithUnit.host (BitVec.ofNat 32 k) 64#32) (IntOp.divsi ArithUnit.host (BitVec.ofNat 32 (j % 128)) 64#32))
        (IntOp.cmpi .sle (IntOp.divsi ArithUnit.host (BitVec.ofNat 32 k) 64#32)
          (IntOp.subi (IntOp.addi (IntOp.divsi ArithUnit.host (BitVec.ofNat 32 (j % 128)) 64#32) 3#32) 1#32)))
      (-Ideal.exp (Ideal.ofBits .f32 0x3F317218#32 *
          Ideal.div (Ideal.ofBits .f32 0xC1000000#32 * (FloatOps.sitofp (F := Ideal) .f32 (BitVec.ofNat 32 (v * 4 + j / 128)) + 1)) (Ideal.ofBits .f32 0x41000000#32))
        * FloatOps.sitofp (F := Ideal) .f32 (IntOp.absi (IntOp.subi (IntOp.addi 128#32 (BitVec.ofNat 32 (j % 128))) (BitVec.ofNat 32 k))))
      (id (constant (F := Ideal) S_ .f32 0xFF800000#32) ix0) := by
    unfold V
    after_reads_at
  have e1 : IntOp.addi 128#32 (BitVec.ofNat 32 (j % 128)) = BitVec.ofNat 32 (128 + j % 128) := by
    rw [BitVec.ofNat_add]; rfl
  rw [e, e1, Words.dist_eq _ _ (by omega) (by omega), Words.value_ofNat _ (by omega), Words.chunk _ (by omega), Words.chunk _ (by omega),
    Words.band_three _ _ (by omega) (by omega), ← one_ofBits]
  refine if_congr Iff.rfl rfl ?_
  exact sign_ofBits

/-- The sinks, one column of 128 queries per head. -/
theorem sinks_apply (c : Dev nD) (v : Fin 2) (j : Fin 512) :
    (V m c main_v63 : Vec Ideal S2x1x512 .f32) (ix3 v 0 j) = sinks m c ⟨v * 4 + j / 128, by omega⟩ := by
  unfold V
  after_reads_at

theorem gainA_apply (c : Dev nD) (r : Fin 512) (j : Fin 128) :
    (V m c main_v183 : Vec Ideal S512x128 .f32) (ix2 r j) = (m (c, Proc.tc.devRef main_arg3) : Vec Ideal S1x512 .f32) (ix2 0 r) := by
  unfold V
  after_reads_at

theorem gainB_apply (c : Dev nD) (r : Fin 512) (j : Fin 256) :
    (V m c main_v186 : Vec Ideal S512x256 .f32) (ix2 r j) = (m (c, Proc.tc.devRef main_arg4) : Vec Ideal S1x512 .f32) (ix2 0 r) := by
  unfold V
  after_reads_at

end Cert.AttnHost
-- ==== Proof.AttnBias.lean ====
/-
  Group B's bias array, read at one index: the table's entry at the difference of the two positions, within the band. The program builds
  it in tiles of 128 by 128, each a diagonal pattern of one gathered row of the table or the table's last column repeated.
-/
module

public import proofs.«01_k».proof.Proof.AttnHost
public import proofs.«01_k».proof.Proof.Gen.KernelIdeal.Value
public import Idealize.ShloMosaic.Lib.StableHlo.ReadAt

@[expose] public section
set_option maxRecDepth 16384

noncomputable section

namespace Cert.AttnHost

open Cert.KernelIdeal Cert.KernelIdeal.Gen Cert.KernelIdeal.Value Idealize.ShloMosaic Idealize.ShloMosaic.TcCoe Idealize.SL.Sem
open Idealize.ShloMosaic.Tactic

variable (m : (ℓ : Loc nD τ sig) → Buf (Elt Ideal) ℓ)

/-- The start indices of one gathered row: 256 differences around `K`, the upper half negative. -/
abbrev starts (K : BitVec 32) : IVec S256x1 32 :=
  broadcastInDim S256x1 ![0] bcast_S256_S256x1_0
    (select
      (cmpi .slt
        (addi
          (minsi (broadcastInDim S256 ![] bcast_S_S256 (id (constantI S_ 32 128#32)))
            (maxsi (broadcastInDim S256 ![] bcast_S_S256 (id (constantI S_ 32 4294967168#32)))
              (addi (broadcastInDim S256 ![] bcast_S_S256 (constantI S_ 32 K))
                (select
                  (cmpi .sge (iotaInDim S256 32 0) (broadcastInDim S256 ![] bcast_S_S256 (constantI S_ 32 128#32)))
                  (subi (iotaInDim S256 32 0) (broadcastInDim S256 ![] bcast_S_S256 (constantI S_ 32 256#32)))
                  (iotaInDim S256 32 0)))))
          (broadcastInDim S256 ![] bcast_S_S256 (constantI S_ 32 128#32)))
        (broadcastInDim S256 ![] bcast_S_S256 (constantI S_ 32 0#32)))
      (addi
        (addi
          (minsi (broadcastInDim S256 ![] bcast_S_S256 (id (constantI S_ 32 128#32)))
            (maxsi (broadcastInDim S256 ![] bcast_S_S256 (id (constantI S_ 32 4294967168#32)))
              (addi (broadcastInDim S256 ![] bcast_S_S256 (constantI S_ 32 K))
                (select
                  (cmpi .sge (iotaInDim S256 32 0) (broadcastInDim S256 ![] bcast_S_S256 (constantI S_ 32 128#32)))
                  (subi (iotaInDim S256 32 0) (broadcastInDim S256 ![] bcast_S_S256 (constantI S_ 32 256#32)))
                  (iotaInDim S256 32 0)))))
          (broadcastInDim S256 ![] bcast_S_S256 (constantI S_ 32 128#32)))
        (broadcastInDim S256 ![] bcast_S_S256 (constantI S_ 32 257#32)))
      (addi
        (minsi (broadcastInDim S256 ![] bcast_S_S256 (id (constantI S_ 32 128#32)))
          (maxsi (broadcastInDim S256 ![] bcast_S_S256 (id (constantI S_ 32 4294967168#32)))
            (addi (broadcastInDim S256 ![] bcast_S_S256 (constantI S_ 32 K))
              (select
                (cmpi .sge (iotaInDim S256 32 0) (broadcastInDim S256 ![] bcast_S_S256 (constantI S_ 32 128#32)))
                (subi (iotaInDim S256 32 0) (broadcastInDim S256 ![] bcast_S_S256 (constantI S_ 32 256#32)))
                (iotaInDim S256 32 0)))))
        (broadcastInDim S256 ![] bcast_S_S256 (constantI S_ 32 128#32))))

/-- One start index, as a word of its position. -/
abbrev start (K : BitVec 32) (p : ℕ) : BitVec 32 :=
  Scalar.select
    (IntOp.cmpi .slt (IntOp.addi (IntOp.minsi 128#32 (IntOp.maxsi 4294967168#32 (IntOp.addi K
      (Scalar.select (IntOp.cmpi .sge (BitVec.ofNat 32 p) 128#32) (IntOp.subi (BitVec.ofNat 32 p) 256#32) (BitVec.ofNat 32 p))))) 128#32) 0#32)
    (IntOp.addi (IntOp.addi (IntOp.minsi 128#32 (IntOp.maxsi 4294967168#32 (IntOp.addi K
      (Scalar.select (IntOp.cmpi .sge (BitVec.ofNat 32 p) 128#32) (IntOp.subi (BitVec.ofNat 32 p) 256#32) (BitVec.ofNat 32 p))))) 128#32) 257#32)
    (IntOp.addi (IntOp.minsi 128#32 (IntOp.maxsi 4294967168#32 (IntOp.addi K
      (Scalar.select (IntOp.cmpi .sge (BitVec.ofNat 32 p) 128#32) (IntOp.subi (BitVec.ofNat 32 p) 256#32) (BitVec.ofNat 32 p))))) 128#32)

theorem starts_apply (K : BitVec 32) (p : Fin 256) : starts K (ix2 p 0) = start K p := rfl

/-- The difference a position of a gathered row stands for. -/
def around (p : ℕ) : ℤ := if p < 128 then p else (p : ℤ) - 256

/-- The table's row a start index asks for. -/
theorem start_row (p : Fin 256) :
    (min (start 0#32 p).toInt.toNat 256 = (Mixer.relIx (0 + around p)).val ∧
      min (start 128#32 p).toInt.toNat 256 = (Mixer.relIx (128 + around p)).val) ∧
      min (start 4294967168#32 p).toInt.toNat 256 = (Mixer.relIx (-128 + around p)).val :=
  (by decide +kernel : ∀ p : Fin 256, (min (start 0#32 p).toInt.toNat 256 = (Mixer.relIx (0 + around p)).val ∧
      min (start 128#32 p).toInt.toNat 256 = (Mixer.relIx (128 + around p)).val) ∧
      min (start 4294967168#32 p).toInt.toNat 256 = (Mixer.relIx (-128 + around p)).val) p

/-- A gathered row read at one position. -/
theorem gather_apply (T : Vec Ideal S8x257 .f32) (idx : IVec S256x1 32) (h : Fin 8) (p : Fin 256) :
    Host.gather gather_S8x257_S256x1_S8x256_0_1_n_n_1_1_81 T idx (ix2 h p) = T (ix2 h ⟨min (idx (ix2 p 0)).toInt.toNat 256, by omega⟩) := by
  unfold Host.gather
  congr 1
  funext a
  apply Fin.ext
  match a with
  | ⟨0, _⟩ =>
    show GatherDims.start _ _ idx 0 + GatherDims.batchCoord _ _ 0 + GatherDims.offCoord _ _ 0 = h.val
    have hm : (0 : Fin 2) ∉ gather_S8x257_S256x1_S8x256_0_1_n_n_1_1_81.startIndexMap := by
      show (0 : Fin 2) ∉ [(1 : Fin 2)]
      decide
    have hk : (0 : Fin 2) ∈ gather_S8x257_S256x1_S8x256_0_1_n_n_1_1_81.sKept :=
      (GatherDims.mem_sKept _ _).mpr ⟨by show (0 : Fin 2) ∉ [(1 : Fin 2)]; decide, List.not_mem_nil⟩
    rw [GatherDims.batchCoord_eq_zero _ _ _ List.not_mem_nil]
    unfold GatherDims.start GatherDims.offCoord
    rw [dif_neg hm, dif_pos hk, Nat.zero_add]
    rfl
  | ⟨1, _⟩ =>
    show GatherDims.start _ _ idx 1 + GatherDims.batchCoord _ _ 1 + GatherDims.offCoord _ _ 1 = min (idx (ix2 p 0)).toInt.toNat 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S8x257_S256x1_S8x256_0_1_n_n_1_1_81.startIndexMap from List.mem_singleton.mpr rfl)]
    refine congrArg (fun z => min (idx z).toInt.toNat 256) ?_
    funext d
    apply Fin.ext
    match d with
    | ⟨0, _⟩ => rfl
    | ⟨1, _⟩ => rfl

/-- A gathered row around `K` holds, at position `p`, the table's entry for the difference `p` stands for. -/
theorem gathered (T : Vec Ideal S8x257 .f32) (K : BitVec 32) (z : ℤ) (h : Fin 8) (p : Fin 256)
    (hz : min (start K p).toInt.toNat 256 = (Mixer.relIx (z + around p)).val) (q : ℤ) (hq : z + around p = q) :
    Host.gather gather_S8x257_S256x1_S8x256_0_1_n_n_1_1_81 T (starts K) (ix2 h p) = T (ix2 h (Mixer.relIx q)) := by
  rw [gather_apply, ← hq]
  refine congrArg (fun j => T (ix2 h j)) (Fin.ext ?_)
  exact hz

/-- The flat position of row `a`, column `b` of a tile stands for the difference of column and row. -/
theorem around_flat (a b : ℕ) (ha : a < 128) (hb : b < 128) : around ((a * 255 + b) % 256) = (b : ℤ) - a := by
  unfold around
  split <;> omega

/-- Within the band the entry, outside it minus infinity. -/
theorem within (c : Dev nD) (h : Fin 8) (r : Fin 768) (j : Fin 256) (x : EReal)
    (hx : x = table m c h (Mixer.relIx (512 + (j : ℤ) - r))) :
    Scalar.select
      (IntOp.andi (IntOp.cmpi .sge (IntOp.divsi ArithUnit.host (BitVec.ofNat 32 r) 64#32) (IntOp.divsi ArithUnit.host (BitVec.ofNat 32 j) 64#32))
        (IntOp.cmpi .sle (IntOp.divsi ArithUnit.host (BitVec.ofNat 32 r) 64#32)
          (IntOp.subi (IntOp.addi (IntOp.divsi ArithUnit.host (BitVec.ofNat 32 j) 64#32) 9#32) 1#32)))
      x (id (constant (F := Ideal) S_ .f32 0xFF800000#32) ix0) =
      if j.val / 64 ≤ r.val / 64 ∧ r.val / 64 ≤ j.val / 64 + 8
      then table m c h (Mixer.relIx (512 + (j : ℤ) - r)) else ⊥ := by
  rw [hx, Words.chunk _ (by omega), Words.chunk _ (by omega), Words.band_nine _ _ (by omega) (by omega)]
  refine if_congr Iff.rfl rfl ?_
  show Ideal.ofBits .f32 0xFF800000#32 = ⊥
  simp [Ideal.ofBits, Ideal.ieee]

/-- Differences of 128 and more read the table's last entry. -/
theorem last (d : ℤ) (hd : 128 ≤ d) : Mixer.relIx d = 256 := by
  apply Fin.ext
  unfold Mixer.relIx
  show (max (-128) (min 128 d) + 128).toNat = 256
  omega

set_option maxHeartbeats 4000000 in
/-- Group B's bias: the window's keys start 512 before the queries. -/
theorem biasB_apply (c : Dev nD) (h : Fin 8) (r : Fin 768) (j : Fin 256) :
    (V m c main_v180 : Vec Ideal S8x768x256 .f32) (ix3 h r j) =
      if j.val / 64 ≤ r.val / 64 ∧ r.val / 64 ≤ j.val / 64 + 8
      then table m c h (Mixer.relIx (512 + (j : ℤ) - r)) else ⊥ := by
  unfold V
  after_reads_at
  refine within m c h r j _ ?_
  by_cases h0 : r.val < 128
  · simp only [h0, dif_pos]
    after_reads_at
    by_cases hj : j.val < 128 <;> simp only [hj, dif_pos, dif_neg, not_false_eq_true] <;> rw [last _ (by omega)]
  by_cases h1 : r.val - 128 < 128
  · simp only [h0, h1, dif_pos, dif_neg, not_false_eq_true]
    after_reads_at
    by_cases hj : j.val < 128 <;> simp only [hj, dif_pos, dif_neg, not_false_eq_true] <;> rw [last _ (by omega)]
  by_cases h2 : r.val - 128 - 128 < 128
  · simp only [h0, h1, h2, dif_pos, dif_neg, not_false_eq_true]
    after_reads_at
    by_cases hj : j.val < 128 <;> simp only [hj, dif_pos, dif_neg, not_false_eq_true] <;> rw [last _ (by omega)]
  by_cases h3 : r.val - 128 - 128 - 128 < 128
  · simp only [h0, h1, h2, h3, dif_pos, dif_neg, not_false_eq_true]
    after_reads_at
    by_cases hj : j.val < 128
    · simp only [hj, dif_pos]
      exact gathered _ 128#32 128 h _ (start_row _).1.2 _ (by rw [around_flat _ _ (by omega) (by omega)]; omega)
    · simp only [hj, dif_neg, not_false_eq_true]
      rw [last _ (by omega)]
  by_cases h4 : r.val - 128 - 128 - 128 - 128 < 128
  · simp only [h0, h1, h2, h3, h4, dif_pos, dif_neg, not_false_eq_true]
    after_reads_at
    by_cases hj : j.val < 128
    · simp only [hj, dif_pos]
      exact gathered _ 0#32 0 h _ (start_row _).1.1 _ (by rw [around_flat _ _ (by omega) (by omega)]; omega)
    · simp only [hj, dif_neg, not_false_eq_true]
      exact gathered _ 128#32 128 h _ (start_row _).1.2 _ (by rw [around_flat _ _ (by omega) (by omega)]; omega)
  · simp only [h0, h1, h2, h3, h4, dif_neg, not_false_eq_true]
    after_reads_at
    by_cases hj : j.val < 128
    · simp only [hj, dif_pos]
      exact gathered _ 4294967168#32 (-128) h _ (start_row _).2 _ (by rw [around_flat _ _ (by omega) (by omega)]; omega)
    · simp only [hj, dif_neg, not_false_eq_true]
      exact gathered _ 0#32 0 h _ (start_row _).1.1 _ (by rw [around_flat _ _ (by omega) (by omega)]; omega)

end Cert.AttnHost
-- ==== Proof.AttnWindow.lean ====
/-
  The blocks a grid point sees, read at one index: point `8 b + s` works on the 512 tokens of step `s` of sequence `b`, with the 512 tokens
  (group B) or the 128 tokens (group A) before them.
-/
module

public import proofs.«01_k».proof.Proof.AttnBias
public import proofs.«01_k».proof.Proof.Gen.KernelIdeal.Value

@[expose] public section

set_option maxRecDepth 16384

noncomputable section

namespace Cert.AttnKernel

open Cert.KernelIdeal Cert.KernelIdeal.Gen Cert.KernelIdeal.Value Idealize.ShloMosaic Idealize.ShloMosaic.TcCoe Idealize.SL.Sem
open Idealize.ShloMosaic.Tactic
open Cert.AttnHost (proj sinks table)
open Cert.Mixer (eighth)

variable (m : (ℓ : Loc nD τ sig) → Buf (Elt Ideal) ℓ)

theorem points : cfg0.N = 64 := N_0

/-- The sequence of a point. -/
abbrev sq (t : Fin cfg0.N) : Fin 8 := ⟨t.val / 8, by have := t.isLt; have := points; omega⟩

/-- Where the blocks of a grid point lie: the token blocks, … -/
theorem idx_facts : ∀ t : Fin cfg0.N,
    win0_0.index t (0 : Fin 3) = t.val / 8 ∧ win0_0.index t (1 : Fin 3) = 0 ∧ win0_0.index t (2 : Fin 3) = t.val % 8 ∧
    win0_1.index t (0 : Fin 3) = t.val / 8 ∧ win0_1.index t (1 : Fin 3) = t.val % 8 - 1 ∧ win0_1.index t (2 : Fin 3) = 0 ∧
    win0_2.index t (0 : Fin 3) = t.val / 8 ∧ win0_2.index t (1 : Fin 3) = t.val % 8 ∧ win0_2.index t (2 : Fin 3) = 0 ∧
    win0_3.index t (0 : Fin 3) = t.val / 8 ∧ win0_3.index t (1 : Fin 3) = 2 ∧ win0_3.index t (2 : Fin 3) = t.val % 8 - 1 ∧
    win0_4.index t (0 : Fin 3) = t.val / 8 ∧ win0_4.index t (1 : Fin 3) = 6 ∧ win0_4.index t (2 : Fin 3) = 4 * (t.val % 8) - 1 ∧
    win0_10.index t (0 : Fin 3) = t.val / 8 ∧ win0_10.index t (1 : Fin 3) = 0 ∧ win0_10.index t (2 : Fin 3) = t.val % 8 :=
  (by decide +kernel : ∀ t : Fin grid0.N, _)

/-- … and the constant blocks. -/
theorem const_facts : ∀ t : Fin cfg0.N,
    win0_5.index t (0 : Fin 3) = 0 ∧ win0_5.index t (1 : Fin 3) = 0 ∧ win0_5.index t (2 : Fin 3) = 0 ∧
    win0_6.index t (0 : Fin 3) = 0 ∧ win0_6.index t (1 : Fin 3) = 0 ∧ win0_6.index t (2 : Fin 3) = 0 ∧
    win0_7.index t (0 : Fin 3) = 0 ∧ win0_7.index t (1 : Fin 3) = 0 ∧ win0_7.index t (2 : Fin 3) = 0 ∧
    win0_8.index t (0 : Fin 2) = 0 ∧ win0_8.index t (1 : Fin 2) = 0 ∧ win0_9.index t (0 : Fin 2) = 0 ∧ win0_9.index t (1 : Fin 2) = 0 :=
  (by decide +kernel : ∀ t : Fin grid0.N, _)

/-- The second grid coordinate is the step. -/
theorem step_eq : ∀ t : Fin cfg0.N, (grid0.coords t 1).val = t.val % 8 := (by decide +kernel : ∀ t : Fin grid0.N, (grid0.coords t 1).val = t.val % 8)

/-- Every point writes its block back. -/
theorem flushes : ∀ t : Fin cfg0.N, (cfg0.win 10).flush t = true := (by decide +kernel : ∀ t : Fin grid0.N, win0_10.flush t = true)

theorem rows_blk (c : Dev nD) (t : Fin cfg0.N) (r : Fin 1792) (q : Fin 512) :
    (iblk m c 0 t : Vec Ideal S1x1792x512 .bf16) (ix3 0 r q) =
      (V m c main_v12 : Vec Ideal S8x1792x4096 .bf16) (ix3 (sq t) r ⟨512 * (t.val % 8) + q, by omega⟩) := by
  have hi := idx_facts t
  have e : ((cfg0.win 0).blk t).view.emb (ix3 0 r q) = (ix3 (sq t) r ⟨512 * (t.val % 8) + q, by omega⟩ : S8x1792x4096.Idx) := by
    funext a; apply Fin.ext
    refine (Pipeline.Window.rect_emb_val win0_0 t (ix3 0 r q) a).trans ?_
    fin_cases a
    · show win0_0.index t (0 : Fin 3) * 1 + 0 = t.val / 8; omega
    · show win0_0.index t (1 : Fin 3) * 1792 + r.val = r.val; omega
    · show win0_0.index t (2 : Fin 3) * 512 + q.val = 512 * (t.val % 8) + q.val; omega
  show (V m c main_v12 : Vec Ideal S8x1792x4096 .bf16) (((cfg0.win 0).blk t).view.emb (ix3 0 r q)) = _
  rw [e]

/-- Group A's scaled queries. -/
theorem queriesA (c : Dev nD) (t : Fin cfg0.N) (r : Fin 512) (q : Fin 512) :
    (iblk m c 0 t : Vec Ideal S1x1792x512 .bf16) (ix3 0 ⟨r, by omega⟩ q) = proj m c (sq t) ⟨512 * (t.val % 8) + q, by omega⟩ ⟨r, by omega⟩ * eighth := by
  rw [rows_blk, AttnHost.rows_apply, dif_pos r.isLt]

/-- Group B's scaled queries. -/
theorem queriesB (c : Dev nD) (t : Fin cfg0.N) (r : Fin 512) (q : Fin 512) :
    (iblk m c 0 t : Vec Ideal S1x1792x512 .bf16) (ix3 0 ⟨512 + r, by omega⟩ q)
      = proj m c (sq t) ⟨512 * (t.val % 8) + q, by omega⟩ ⟨768 + r, by omega⟩ * eighth := by
  rw [rows_blk, AttnHost.rows_apply, dif_neg (show ¬ 512 + r.val < 512 by omega), dif_pos (show 512 + r.val < 1024 by omega)]
  refine congrArg (fun z : Fin 2304 => proj m c (sq t) _ z * eighth) (Fin.ext ?_)
  show 512 + r.val + 256 = 768 + r.val; omega

/-- Group B's values. -/
theorem valuesB (c : Dev nD) (t : Fin cfg0.N) (r : Fin 512) (q : Fin 512) :
    (iblk m c 0 t : Vec Ideal S1x1792x512 .bf16) (ix3 0 ⟨1024 + r, by omega⟩ q) = proj m c (sq t) ⟨512 * (t.val % 8) + q, by omega⟩ ⟨1792 + r, by omega⟩ := by
  rw [rows_blk, AttnHost.rows_apply, dif_neg (show ¬ 1024 + r.val < 512 by omega), dif_neg (show ¬ 1024 + r.val < 1024 by omega),
    dif_pos (show 1024 + r.val < 1536 by omega)]
  refine congrArg (fun z : Fin 2304 => proj m c (sq t) _ z) (Fin.ext ?_)
  show 1024 + r.val + 768 = 1792 + r.val; omega

/-- Group A's keys and values. -/
theorem keysA (c : Dev nD) (t : Fin cfg0.N) (r : Fin 256) (q : Fin 512) :
    (iblk m c 0 t : Vec Ideal S1x1792x512 .bf16) (ix3 0 ⟨1536 + r, by omega⟩ q) = proj m c (sq t) ⟨512 * (t.val % 8) + q, by omega⟩ ⟨512 + r, by omega⟩ := by
  rw [rows_blk, AttnHost.rows_apply, dif_neg (show ¬ 1536 + r.val < 512 by omega), dif_neg (show ¬ 1536 + r.val < 1024 by omega),
    dif_neg (show ¬ 1536 + r.val < 1536 by omega)]
  refine congrArg (fun z : Fin 2304 => proj m c (sq t) _ z) (Fin.ext ?_)
  show 1536 + r.val - 1024 = 512 + r.val; omega

/-- Group B's keys of the step before (of the first step, at the first step). -/
theorem keysBefore (c : Dev nD) (t : Fin cfg0.N) (k j : Fin 512) :
    (iblk m c 1 t : Vec Ideal S1x512x512 .bf16) (ix3 0 k j) = proj m c (sq t) ⟨512 * (t.val % 8 - 1) + k, by omega⟩ ⟨1280 + j, by omega⟩ := by
  have hi := idx_facts t
  have e : ((cfg0.win 1).blk t).view.emb (ix3 0 k j) = (ix3 (sq t) ⟨512 * (t.val % 8 - 1) + k, by omega⟩ j : S8x4096x512.Idx) := by
    funext a; apply Fin.ext
    refine (Pipeline.Window.rect_emb_val win0_1 t (ix3 0 k j) a).trans ?_
    fin_cases a
    · show win0_1.index t (0 : Fin 3) * 1 + 0 = t.val / 8; omega
    · show win0_1.index t (1 : Fin 3) * 512 + k.val = 512 * (t.val % 8 - 1) + k.val; omega
    · show win0_1.index t (2 : Fin 3) * 512 + j.val = j.val; omega
  show (V m c main_v1 : Vec Ideal S8x4096x512 .bf16) (((cfg0.win 1).blk t).view.emb (ix3 0 k j)) = _
  rw [e, AttnHost.keys_apply]

/-- Group B's keys of the step. -/
theorem keysHere (c : Dev nD) (t : Fin cfg0.N) (k j : Fin 512) :
    (iblk m c 2 t : Vec Ideal S1x512x512 .bf16) (ix3 0 k j) = proj m c (sq t) ⟨512 * (t.val % 8) + k, by omega⟩ ⟨1280 + j, by omega⟩ := by
  have hi := idx_facts t
  have e : ((cfg0.win 2).blk t).view.emb (ix3 0 k j) = (ix3 (sq t) ⟨512 * (t.val % 8) + k, by omega⟩ j : S8x4096x512.Idx) := by
    funext a; apply Fin.ext
    refine (Pipeline.Window.rect_emb_val win0_2 t (ix3 0 k j) a).trans ?_
    fin_cases a
    · show win0_2.index t (0 : Fin 3) * 1 + 0 = t.val / 8; omega
    · show win0_2.index t (1 : Fin 3) * 512 + k.val = 512 * (t.val % 8) + k.val; omega
    · show win0_2.index t (2 : Fin 3) * 512 + j.val = j.val; omega
  show (V m c main_v1 : Vec Ideal S8x4096x512 .bf16) (((cfg0.win 2).blk t).view.emb (ix3 0 k j)) = _
  rw [e, AttnHost.keys_apply]

/-- Group B's values of the step before (of the first step, at the first step). -/
theorem valuesBefore (c : Dev nD) (t : Fin cfg0.N) (r k : Fin 512) :
    (X0_3 m c t : Vec Ideal S1x512x512 .bf16) (ix3 0 r k) = proj m c (sq t) ⟨512 * (t.val % 8 - 1) + k, by omega⟩ ⟨1792 + r, by omega⟩ := by
  have hi := idx_facts t
  have moved := ((cfg0.win 3).moved_iff (cfg0.grid.coords t) (ix3 0 r k)).mp (moved0_3 t (ix3 0 r k))
  have e : ((cfg0.win 3).blk t).view.emb (fun a => ⟨((ix3 0 r k : S1x512x512.Idx) a).val, moved a⟩)
      = (ix3 (sq t) ⟨1024 + r, by omega⟩ ⟨512 * (t.val % 8 - 1) + k, by omega⟩ : S8x1792x4096.Idx) := by
    funext a; apply Fin.ext
    refine (Pipeline.Window.rect_emb_val win0_3 t (fun a => ⟨((ix3 0 r k : S1x512x512.Idx) a).val, moved a⟩) a).trans ?_
    fin_cases a
    · show win0_3.index t (0 : Fin 3) * 1 + 0 = t.val / 8; omega
    · show win0_3.index t (1 : Fin 3) * 512 + r.val = 1024 + r.val; omega
    · show win0_3.index t (2 : Fin 3) * 512 + k.val = 512 * (t.val % 8 - 1) + k.val; omega
  have ef : (X0_3 m c t : Vec Ideal S1x512x512 .bf16) (ix3 0 r k)
      = (V m c main_v12 : Vec Ideal S8x1792x4096 .bf16) (((cfg0.win 3).blk t).view.emb (fun a => ⟨((ix3 0 r k : S1x512x512.Idx) a).val, moved a⟩)) := by
    unfold X0_3 Pipeline.Window.fill
    rw [dif_pos (moved0_3 t _)]
    rfl
  rw [ef, e, AttnHost.rows_apply, dif_neg (show ¬ 1024 + r.val < 512 by omega), dif_neg (show ¬ 1024 + r.val < 1024 by omega),
    dif_pos (show 1024 + r.val < 1536 by omega)]
  refine congrArg (fun z : Fin 2304 => proj m c (sq t) _ z) (Fin.ext ?_)
  show 1024 + r.val + 768 = 1792 + r.val; omega

/-- Group A's keys and values of the 128 tokens before the step (of the first 128, at the first step). -/
theorem keysBeforeA (c : Dev nD) (t : Fin cfg0.N) (r : Fin 256) (k : Fin 128) :
    (iblk m c 4 t : Vec Ideal S1x256x128 .bf16) (ix3 0 r k) = proj m c (sq t) ⟨128 * (4 * (t.val % 8) - 1) + k, by omega⟩ ⟨512 + r, by omega⟩ := by
  have hi := idx_facts t
  have e : ((cfg0.win 4).blk t).view.emb (ix3 0 r k) = (ix3 (sq t) ⟨1536 + r, by omega⟩ ⟨128 * (4 * (t.val % 8) - 1) + k, by omega⟩ : S8x1792x4096.Idx) := by
    funext a; apply Fin.ext
    refine (Pipeline.Window.rect_emb_val win0_4 t (ix3 0 r k) a).trans ?_
    fin_cases a
    · show win0_4.index t (0 : Fin 3) * 1 + 0 = t.val / 8; omega
    · show win0_4.index t (1 : Fin 3) * 256 + r.val = 1536 + r.val; omega
    · show win0_4.index t (2 : Fin 3) * 128 + k.val = 128 * (4 * (t.val % 8) - 1) + k.val; omega
  show (V m c main_v12 : Vec Ideal S8x1792x4096 .bf16) (((cfg0.win 4).blk t).view.emb (ix3 0 r k)) = _
  rw [e, AttnHost.rows_apply, dif_neg (show ¬ 1536 + r.val < 512 by omega), dif_neg (show ¬ 1536 + r.val < 1024 by omega),
    dif_neg (show ¬ 1536 + r.val < 1536 by omega)]
  refine congrArg (fun z : Fin 2304 => proj m c (sq t) _ z) (Fin.ext ?_)
  show 1536 + r.val - 1024 = 512 + r.val; omega

theorem biasA_blk (c : Dev nD) (t : Fin cfg0.N) (v : Fin 2) (k : Fin 256) (j : Fin 512) :
    (iblk m c 5 t : Vec Ideal S2x256x512 .f32) (ix3 v k j) = if j % 128 / 64 ≤ k.val / 64 ∧ k.val / 64 ≤ j % 128 / 64 + 2
      then -(Mixer.slope (v * 4 + j / 128)) * Mixer.dist (128 + j % 128) k else ⊥ := by
  have hi := const_facts t
  have e : ((cfg0.win 5).blk t).view.emb (ix3 v k j) = (ix3 v k j : S2x256x512.Idx) := by
    funext a; apply Fin.ext
    refine (Pipeline.Window.rect_emb_val win0_5 t (ix3 v k j) a).trans ?_
    fin_cases a
    · show win0_5.index t (0 : Fin 3) * 2 + v.val = v.val; omega
    · show win0_5.index t (1 : Fin 3) * 256 + k.val = k.val; omega
    · show win0_5.index t (2 : Fin 3) * 512 + j.val = j.val; omega
  show (V m c main_v60 : Vec Ideal S2x256x512 .f32) (((cfg0.win 5).blk t).view.emb (ix3 v k j)) = _
  rw [e, AttnHost.biasA_apply]

theorem sinks_blk (c : Dev nD) (t : Fin cfg0.N) (v : Fin 2) (j : Fin 512) :
    (iblk m c 6 t : Vec Ideal S2x1x512 .f32) (ix3 v 0 j) = sinks m c ⟨v * 4 + j / 128, by omega⟩ := by
  have hi := const_facts t
  have e : ((cfg0.win 6).blk t).view.emb (ix3 v 0 j) = (ix3 v 0 j : S2x1x512.Idx) := by
    funext a; apply Fin.ext
    refine (Pipeline.Window.rect_emb_val win0_6 t (ix3 v 0 j) a).trans ?_
    fin_cases a
    · show win0_6.index t (0 : Fin 3) * 2 + v.val = v.val; omega
    · show win0_6.index t (1 : Fin 3) * 1 + 0 = 0; omega
    · show win0_6.index t (2 : Fin 3) * 512 + j.val = j.val; omega
  show (V m c main_v63 : Vec Ideal S2x1x512 .f32) (((cfg0.win 6).blk t).view.emb (ix3 v 0 j)) = _
  rw [e, AttnHost.sinks_apply]

theorem biasB_blk (c : Dev nD) (t : Fin cfg0.N) (h : Fin 8) (r : Fin 768) (j : Fin 256) :
    (iblk m c 7 t : Vec Ideal S8x768x256 .f32) (ix3 h r j) = if j.val / 64 ≤ r.val / 64 ∧ r.val / 64 ≤ j.val / 64 + 8
      then table m c h (Mixer.relIx (512 + (j : ℤ) - r)) else ⊥ := by
  have hi := const_facts t
  have e : ((cfg0.win 7).blk t).view.emb (ix3 h r j) = (ix3 h r j : S8x768x256.Idx) := by
    funext a; apply Fin.ext
    refine (Pipeline.Window.rect_emb_val win0_7 t (ix3 h r j) a).trans ?_
    fin_cases a
    · show win0_7.index t (0 : Fin 3) * 8 + h.val = h.val; omega
    · show win0_7.index t (1 : Fin 3) * 768 + r.val = r.val; omega
    · show win0_7.index t (2 : Fin 3) * 256 + j.val = j.val; omega
  show (V m c main_v180 : Vec Ideal S8x768x256 .f32) (((cfg0.win 7).blk t).view.emb (ix3 h r j)) = _
  rw [e, AttnHost.biasB_apply]

theorem gainA_blk (c : Dev nD) (t : Fin cfg0.N) (r : Fin 512) (j : Fin 128) :
    (iblk m c 8 t : Vec Ideal S512x128 .f32) (ix2 r j) = (m (c, Proc.tc.devRef main_arg3) : Vec Ideal S1x512 .f32) (ix2 0 r) := by
  have hi := const_facts t
  have e : ((cfg0.win 8).blk t).view.emb (ix2 r j) = (ix2 r j : S512x128.Idx) := by
    funext a; apply Fin.ext
    refine (Pipeline.Window.rect_emb_val win0_8 t (ix2 r j) a).trans ?_
    fin_cases a
    · show win0_8.index t (0 : Fin 2) * 512 + r.val = r.val; omega
    · show win0_8.index t (1 : Fin 2) * 128 + j.val = j.val; omega
  show (V m c main_v183 : Vec Ideal S512x128 .f32) (((cfg0.win 8).blk t).view.emb (ix2 r j)) = _
  rw [e, AttnHost.gainA_apply]

theorem gainB_blk (c : Dev nD) (t : Fin cfg0.N) (r : Fin 512) (j : Fin 256) :
    (iblk m c 9 t : Vec Ideal S512x256 .f32) (ix2 r j) = (m (c, Proc.tc.devRef main_arg4) : Vec Ideal S1x512 .f32) (ix2 0 r) := by
  have hi := const_facts t
  have e : ((cfg0.win 9).blk t).view.emb (ix2 r j) = (ix2 r j : S512x256.Idx) := by
    funext a; apply Fin.ext
    refine (Pipeline.Window.rect_emb_val win0_9 t (ix2 r j) a).trans ?_
    fin_cases a
    · show win0_9.index t (0 : Fin 2) * 512 + r.val = r.val; omega
    · show win0_9.index t (1 : Fin 2) * 256 + j.val = j.val; omega
  show (V m c main_v186 : Vec Ideal S512x256 .f32) (((cfg0.win 9).blk t).view.emb (ix2 r j)) = _
  rw [e, AttnHost.gainB_apply]

end Cert.AttnKernel
-- ==== Proof.AttnKernel.lean ====
/-
  The attention call: the array it ends with, index by index, as `Mixer.result` of the argument arrays. Each grid point writes the 1024
  features of 512 tokens of one sequence; the blocks tile the result.
-/
module

public import proofs.«01_k».proof.Proof.AttnBlock
public import proofs.«01_k».proof.Proof.AttnHeads
public import proofs.«01_k».proof.Proof.AttnWindow

@[expose] public section

set_option maxRecDepth 16384

noncomputable section

namespace Cert.AttnKernel

open Cert.KernelIdeal Cert.KernelIdeal.Gen Cert.KernelIdeal.Value Idealize.ShloMosaic Idealize.ShloMosaic.TcCoe Idealize.SL.Sem
open Idealize.ShloMosaic.Tactic
open Idealize.ShloMosaic.Pipeline (Dat)
open Cert.AttnHost (proj sinks table)
open Cert.Mixer (IsReal eighth)
open Cert.Attn

variable (m : (ℓ : Loc nD τ sig) → Buf (Elt Ideal) ℓ)

/-! ## Loads, read at one index -/

theorem featB_apply (x : Vec Ideal S1x1792x512 .bf16) (o t : ℕ) (h : ∀ a, (![0, o, t] : Fin 3 → ℕ) a + S1x64x256.size a ≤ S1x1792x512.size a)
    (ho : o ≤ 1728) (ht : t ≤ 256) (a : Fin 64) (k : Fin 256) : featB x o t h (ix3 0 a k) = x (ix3 0 ⟨o + a, by omega⟩ ⟨t + k, by omega⟩) := by
  refine congrArg x ?_
  funext i; apply Fin.ext
  fin_cases i
  · rfl
  · show o + 1 * a.val = o + a.val; omega
  · show t + 1 * k.val = t + k.val; omega

theorem keysB_apply (x : Vec Ideal S1x512x512 .bf16) (o t : ℕ) (h : ∀ a, (![0, o, t] : Fin 3 → ℕ) a + S1x256x128.size a ≤ S1x512x512.size a)
    (ho : o ≤ 256) (ht : t ≤ 384) (k : Fin 256) (j : Fin 128) : keysB x o t h (ix3 0 k j) = x (ix3 0 ⟨o + k, by omega⟩ ⟨t + j, by omega⟩) := by
  refine congrArg x ?_
  funext i; apply Fin.ext
  fin_cases i
  · rfl
  · show o + 1 * k.val = o + k.val; omega
  · show t + 1 * j.val = t + j.val; omega

theorem valsB_apply (x : Vec Ideal S1x512x512 .bf16) (o t : ℕ) (h : ∀ a, (![0, o, t] : Fin 3 → ℕ) a + S1x64x256.size a ≤ S1x512x512.size a)
    (ho : o ≤ 448) (ht : t ≤ 256) (d : Fin 64) (k : Fin 256) : valsB x o t h (ix3 0 d k) = x (ix3 0 ⟨o + d, by omega⟩ ⟨t + k, by omega⟩) := by
  refine congrArg x ?_
  funext i; apply Fin.ext
  fin_cases i
  · rfl
  · show o + 1 * d.val = o + d.val; omega
  · show t + 1 * k.val = t + k.val; omega

theorem featA_apply (x : Vec Ideal S1x1792x512 .bf16) (o t : ℕ) (h : ∀ a, (![0, o, t] : Fin 3 → ℕ) a + S1x64x128.size a ≤ S1x1792x512.size a)
    (ho : o ≤ 1728) (ht : t ≤ 384) (a : Fin 64) (k : Fin 128) : featA x o t h (ix3 0 a k) = x (ix3 0 ⟨o + a, by omega⟩ ⟨t + k, by omega⟩) := by
  refine congrArg x ?_
  funext i; apply Fin.ext
  fin_cases i
  · rfl
  · show o + 1 * a.val = o + a.val; omega
  · show t + 1 * k.val = t + k.val; omega

theorem winFst_before (p x : Vec Ideal S1x256x128 .bf16) (a : Fin 256) (k : Fin 128) : winFst p x (ix2 a ⟨0 + k, by omega⟩) = p (ix3 0 a k) := by
  have hk : 0 + k.val < 128 := by omega
  pointwise [winFst]

theorem winFst_here (p x : Vec Ideal S1x256x128 .bf16) (a : Fin 256) (k : Fin 128) : winFst p x (ix2 a ⟨128 + k, by omega⟩) = x (ix3 0 a k) := by
  have hk : ¬ 128 + k.val < 128 := by omega
  pointwise [winFst]

theorem winIn_apply (x : Vec Ideal S1x256x256 .bf16) (a k : Fin 256) : winIn x (ix2 a k) = x (ix3 0 a k) := by
  pointwise [winIn]

/-- The half window before the tile. -/
theorem winAt_before (x0 : Vec Ideal S1x1792x512 .bf16) (x4 : Vec Ideal S1x256x128 .bf16) (r : Fin 4) (a : Fin 256) (k : Fin 128) :
    winAt x0 x4 r (ix2 a ⟨0 + k, by omega⟩) = if r.val = 0 then x4 (ix3 0 a k) else x0 (ix3 0 ⟨1536 + a, by omega⟩ ⟨128 * (r - 1) + k, by omega⟩) := by
  match r with
  | 0 =>
    refine (winFst_before _ _ a k).trans ((congrArg x4 ?_).trans (if_pos rfl).symm)
    funext i; apply Fin.ext
    fin_cases i
    · rfl
    · show 0 + 1 * a.val = a.val; omega
    · show 0 + 1 * k.val = k.val; omega
  | 1 =>
    refine (winIn_apply _ a _).trans ((congrArg x0 ?_).trans (if_neg (by decide)).symm)
    funext i; apply Fin.ext
    fin_cases i
    · rfl
    · show 1536 + 1 * a.val = 1536 + a.val; omega
    · show 0 + 1 * (0 + k.val) = 128 * (1 - 1) + k.val; omega
  | 2 =>
    refine (winIn_apply _ a _).trans ((congrArg x0 ?_).trans (if_neg (by decide)).symm)
    funext i; apply Fin.ext
    fin_cases i
    · rfl
    · show 1536 + 1 * a.val = 1536 + a.val; omega
    · show 128 + 1 * (0 + k.val) = 128 * (2 - 1) + k.val; omega
  | 3 =>
    refine (winIn_apply _ a _).trans ((congrArg x0 ?_).trans (if_neg (by decide)).symm)
    funext i; apply Fin.ext
    fin_cases i
    · rfl
    · show 1536 + 1 * a.val = 1536 + a.val; omega
    · show 256 + 1 * (0 + k.val) = 128 * (3 - 1) + k.val; omega

/-- The window's part on the tile itself. -/
theorem winAt_here (x0 : Vec Ideal S1x1792x512 .bf16) (x4 : Vec Ideal S1x256x128 .bf16) (r : Fin 4) (a : Fin 256) (k : Fin 128) :
    winAt x0 x4 r (ix2 a ⟨128 + k, by omega⟩) = x0 (ix3 0 ⟨1536 + a, by omega⟩ ⟨128 * r + k, by omega⟩) := by
  match r with
  | 0 =>
    refine (winFst_here _ _ a k).trans (congrArg x0 ?_)
    funext i; apply Fin.ext
    fin_cases i
    · rfl
    · show 1536 + 1 * a.val = 1536 + a.val; omega
    · show 0 + 1 * k.val = 128 * 0 + k.val; omega
  | 1 =>
    refine (winIn_apply _ a _).trans (congrArg x0 ?_)
    funext i; apply Fin.ext
    fin_cases i
    · rfl
    · show 1536 + 1 * a.val = 1536 + a.val; omega
    · show 0 + 1 * (128 + k.val) = 128 * 1 + k.val; omega
  | 2 =>
    refine (winIn_apply _ a _).trans (congrArg x0 ?_)
    funext i; apply Fin.ext
    fin_cases i
    · rfl
    · show 1536 + 1 * a.val = 1536 + a.val; omega
    · show 128 + 1 * (128 + k.val) = 128 * 2 + k.val; omega
  | 3 =>
    refine (winIn_apply _ a _).trans (congrArg x0 ?_)
    funext i; apply Fin.ext
    fin_cases i
    · rfl
    · show 1536 + 1 * a.val = 1536 + a.val; omega
    · show 256 + 1 * (128 + k.val) = 128 * 3 + k.val; omega

/-- Only the step's first tile, and only at the first step, masks the half window before it. -/
theorem maskAt_apply (i : grid0.Coords) (r : Fin 4) (s : FVec Ideal S128x512 .f32) (x : Fin 128) (j : Fin 512) :
    maskAt i r s (ix2 x j) = if r.val ≠ 0 ∨ (i 1).val ≠ 0 then s (ix2 x j) else (⊥ : EReal) := by
  match r with
  | 0 => exact (maskA_apply i s x j).trans (if_congr (by simp) rfl rfl)
  | 1 => exact (if_pos (Or.inl (by decide))).symm
  | 2 => exact (if_pos (Or.inl (by decide))).symm
  | 3 => exact (if_pos (Or.inl (by decide))).symm

/-! ## The heads of a grid point -/

section
variable (hP : ∀ (c : Dev nD) (b : Fin 8) (q : Fin 4096) (x : Fin 2304), IsReal (proj m c b q x)) (hs : ∀ (c : Dev nD) (h : Fin 8), IsReal (sinks m c h))
  (hr : ∀ (c : Dev nD) (h : Fin 8) (j : Fin 257), IsReal (table m c h j))
include hP

include hs in
/-- Group A's head `n` on the step's tile `r`. -/
theorem queryAt_eq (c : Dev nD) (t : Fin cfg0.N) (r : Fin 4) (n : Fin 8) (d : Fin 64) (k : Fin 128) :
    queryAt (F := Ideal) (grid0.coords t) (iblk m c 0 t) (iblk m c 4 t) (iblk m c 5 t) (iblk m c 6 t) r n (ix2 d k)
      = Mixer.headA (proj m c) (sinks m c) (sq t) n ⟨128 * (4 * (t.val % 8) + r) + k, by omega⟩ d := by
  refine (colsA_apply ⟨n.val % 4, by omega⟩ _ _ d k).trans ?_
  have key := quadA_eq (hP c) (sinks m c) (hs c) (sq t) ⟨n.val / 4, by omega⟩ ⟨n.val % 4, by omega⟩
    (winAt (iblk m c 0 t) (iblk m c 4 t) r)
    (fun g => featA (iblk m c 0 t) (256 * (n.val / 4) + 64 * g.val) (128 * r.val) (inb_featA _ _ (by omega) (by omega)))
    (View.ld (iblk m c 5 t) (Rect.unit (s := S2x256x512) ![n.val / 4, 0, 0] S1x256x512.size (inb_biasA _ (by omega))))
    (View.ld (iblk m c 6 t) (Rect.unit (s := S2x1x512) ![n.val / 4, 0, 0] S1x1x512.size (inb_sinkA _ (by omega))))
    (maskAt (grid0.coords t) r) (r.val ≠ 0 ∨ (grid0.coords t 1).val ≠ 0) (maskAt_apply (grid0.coords t) r)
    (4 * (t.val % 8) + r) (4 * (t.val % 8) + r - 1) (by omega) (by omega) (by rw [step_eq]; omega) (fun _ => rfl)
    (fun a k => by
      rw [winAt_before]
      by_cases h0 : r.val = 0
      · rw [if_pos h0]
        refine (keysBeforeA m c t a k).trans ?_
        refine congrArg (fun z : Fin 4096 => proj m c (sq t) z _) (Fin.ext ?_)
        show 128 * (4 * (t.val % 8) - 1) + k.val = 128 * (4 * (t.val % 8) + r.val - 1) + k.val
        rw [h0]; rfl
      · rw [if_neg h0]
        refine (keysA m c t a ⟨128 * (r - 1) + k, by omega⟩).trans ?_
        refine congrArg (fun z : Fin 4096 => proj m c (sq t) z _) (Fin.ext ?_)
        show 512 * (t.val % 8) + (128 * (r.val - 1) + k.val) = 128 * (4 * (t.val % 8) + r.val - 1) + k.val
        omega)
    (fun a k => by
      rw [winAt_here]
      refine (keysA m c t a ⟨128 * r + k, by omega⟩).trans ?_
      refine congrArg (fun z : Fin 4096 => proj m c (sq t) z _) (Fin.ext ?_)
      show 512 * (t.val % 8) + (128 * r.val + k.val) = 128 * (4 * (t.val % 8) + r.val) + k.val
      omega)
    (fun x k => by
      refine (featA_apply _ _ _ _ (by dsimp only; omega) (by omega) x k).trans ?_
      have e : (⟨256 * (n.val / 4) + 64 * (n.val % 4) + x.val, by omega⟩ : Fin 1792) = ⟨(⟨64 * (n.val / 4 * 4 + n.val % 4) + x.val, by omega⟩ : Fin 512).val, by dsimp only; omega⟩ := by
        apply Fin.ext; dsimp only; omega
      dsimp only
      rw [e]
      refine (queriesA m c t ⟨64 * (n.val / 4 * 4 + n.val % 4) + x.val, by omega⟩ ⟨128 * r + k, by omega⟩).trans ?_
      refine congrArg (fun z : Fin 4096 => proj m c (sq t) z _ * eighth) (Fin.ext ?_)
      show 512 * (t.val % 8) + (128 * r.val + k.val) = 128 * (4 * (t.val % 8) + r.val) + k.val
      omega)
    (fun k j => by
      refine Eq.trans ?_ (biasA_blk m c t ⟨n.val / 4, by omega⟩ k j)
      refine congrArg (iblk m c 5 t : Vec Ideal S2x256x512 .f32) ?_
      funext i; apply Fin.ext
      fin_cases i
      · show n.val / 4 + 1 * 0 = n.val / 4; omega
      · show 0 + 1 * k.val = k.val; omega
      · show 0 + 1 * j.val = j.val; omega)
    (fun j => by
      refine Eq.trans ?_ (sinks_blk m c t ⟨n.val / 4, by omega⟩ j)
      refine congrArg (iblk m c 6 t : Vec Ideal S2x1x512 .f32) ?_
      funext i; apply Fin.ext
      fin_cases i
      · show n.val / 4 + 1 * 0 = n.val / 4; omega
      · rfl
      · show 0 + 1 * j.val = j.val; omega)
    d k
  have hn : (⟨n.val / 4 * 4 + n.val % 4, by omega⟩ : Fin 8) = n := Fin.ext (by dsimp only; omega)
  dsimp only at key
  rw [hn] at key
  exact key

include hr in
/-- Group B's head `n` on the step's tile `q`. -/
theorem headAt_eq (c : Dev nD) (t : Fin cfg0.N) (q : Fin 2) (n : Fin 8) (d : Fin 64) (k : Fin 256) :
    headAt (F := Ideal) (grid0.coords t) (iblk m c 0 t) (iblk m c 1 t) (iblk m c 2 t) (X0_3 m c t) (iblk m c 7 t) q n (ix2 d k)
      = Mixer.headB (proj m c) (table m c) (sq t) n ⟨256 * (2 * (t.val % 8) + q) + k, by omega⟩ d := by
  have kb : ∀ (o : ℕ) (ho : o ≤ 256) (U : ℕ) (hU : U < 16) (e : 512 * (t.val % 8 - 1) + o = 256 * U) (k : Fin 256) (j : Fin 128),
      keysB (F := Ideal) (iblk m c 1 t) o (128 * (n.val / 2)) (inb_keys _ _ ho (by omega)) (ix3 0 k j)
        = proj m c (sq t) ⟨256 * U + k, by omega⟩ ⟨1280 + 128 * (n / 2) + j, by omega⟩ := by
    intro o ho U hU e k j
    refine (keysB_apply _ _ _ _ ho (by omega) k j).trans ((keysBefore m c t _ _).trans ?_)
    refine congrArg₂ (proj m c (sq t)) (Fin.ext ?_) (Fin.ext ?_) <;> dsimp only <;> omega
  have kh : ∀ (o : ℕ) (ho : o ≤ 256) (U : ℕ) (hU : U < 16) (e : 512 * (t.val % 8) + o = 256 * U) (k : Fin 256) (j : Fin 128),
      keysB (F := Ideal) (iblk m c 2 t) o (128 * (n.val / 2)) (inb_keys _ _ ho (by omega)) (ix3 0 k j)
        = proj m c (sq t) ⟨256 * U + k, by omega⟩ ⟨1280 + 128 * (n / 2) + j, by omega⟩ := by
    intro o ho U hU e k j
    refine (keysB_apply _ _ _ _ ho (by omega) k j).trans ((keysHere m c t _ _).trans ?_)
    refine congrArg₂ (proj m c (sq t)) (Fin.ext ?_) (Fin.ext ?_) <;> dsimp only <;> omega
  have vb : ∀ (o : ℕ) (ho : o ≤ 256) (U : ℕ) (hU : U < 16) (e : 512 * (t.val % 8 - 1) + o = 256 * U) (d : Fin 64) (k : Fin 256),
      valsB (F := Ideal) (X0_3 m c t) (64 * n.val) o (inb_vals _ _ (by omega) ho) (ix3 0 d k)
        = proj m c (sq t) ⟨256 * U + k, by omega⟩ ⟨1792 + 64 * n + d, by omega⟩ := by
    intro o ho U hU e d k
    refine (valsB_apply _ _ _ _ (by omega) ho d k).trans ((valuesBefore m c t _ _).trans ?_)
    refine congrArg₂ (proj m c (sq t)) (Fin.ext ?_) (Fin.ext ?_) <;> dsimp only <;> omega
  have vh : ∀ (o : ℕ) (ho : o ≤ 256) (U : ℕ) (hU : U < 16) (e : 512 * (t.val % 8) + o = 256 * U) (d : Fin 64) (k : Fin 256),
      featB (F := Ideal) (iblk m c 0 t) (1024 + 64 * n.val) o (inb_feat _ _ (by omega) ho) (ix3 0 d k)
        = proj m c (sq t) ⟨256 * U + k, by omega⟩ ⟨1792 + 64 * n + d, by omega⟩ := by
    intro o ho U hU e d k
    refine (featB_apply _ _ _ _ (by omega) ho d k).trans ?_
    have e' : (⟨1024 + 64 * n.val + d.val, by omega⟩ : Fin 1792) = ⟨1024 + (⟨64 * n.val + d.val, by omega⟩ : Fin 512).val, by dsimp only; omega⟩ := by
      apply Fin.ext; dsimp only; omega
    rw [e']
    refine (valuesB m c t _ _).trans ?_
    refine congrArg₂ (proj m c (sq t)) (Fin.ext ?_) (Fin.ext ?_) <;> dsimp only <;> omega
  have qh : ∀ (o : ℕ) (ho : o ≤ 256) (U : ℕ) (hU : U < 16) (e : 512 * (t.val % 8) + o = 256 * U) (x : Fin 64) (k : Fin 256),
      featB (F := Ideal) (iblk m c 0 t) (512 + 64 * n.val) o (inb_feat _ _ (by omega) ho) (ix3 0 x k)
        = proj m c (sq t) ⟨256 * U + k, by omega⟩ ⟨768 + 64 * n + x, by omega⟩ * eighth := by
    intro o ho U hU e x k
    refine (featB_apply _ _ _ _ (by omega) ho x k).trans ?_
    have e' : (⟨512 + 64 * n.val + x.val, by omega⟩ : Fin 1792) = ⟨512 + (⟨64 * n.val + x.val, by omega⟩ : Fin 512).val, by dsimp only; omega⟩ := by
      apply Fin.ext; dsimp only; omega
    rw [e']
    refine (queriesB m c t _ _).trans ?_
    refine congrArg (· * eighth) (congrArg₂ (proj m c (sq t)) (Fin.ext ?_) (Fin.ext ?_)) <;> dsimp only <;> omega
  match q with
  | 0 =>
    exact headOn_eq (hP c) (hr c) (sq t) n (iblk m c 0 t) (iblk m c 7 t) 0 (by omega) _ _ _ _ _ _ _ _
      ((grid0.coords t 1).val ≠ 0) ((grid0.coords t 1).val ≠ 0) (maskB_apply _) (maskB_apply _)
      (2 * (t.val % 8) + 0) (2 * (t.val % 8 - 1)) (2 * (t.val % 8 - 1) + 1) (2 * (t.val % 8)) (by omega) (by omega) (by omega) (by omega)
      (by rw [step_eq]; omega) (by rw [step_eq]; omega) (by omega) (by omega) (by omega)
      (kb 0 (by omega) _ (by omega) (by omega)) (kb 256 (by omega) _ (by omega) (by omega)) (kh 0 (by omega) _ (by omega) (by omega))
      (vb 0 (by omega) _ (by omega) (by omega)) (vb 256 (by omega) _ (by omega) (by omega)) (vh 0 (by omega) _ (by omega) (by omega))
      (qh 0 (by omega) _ (by omega) (by omega)) (biasB_blk m c t n) d k
  | 1 =>
    exact headOn_eq (hP c) (hr c) (sq t) n (iblk m c 0 t) (iblk m c 7 t) 256 (by omega) _ _ _ _ _ _ _ _
      ((grid0.coords t 1).val ≠ 0) True (maskB_apply _) (fun M k => (if_pos trivial).symm)
      (2 * (t.val % 8) + 1) (2 * (t.val % 8 - 1) + 1) (2 * (t.val % 8)) (2 * (t.val % 8) + 1) (by omega) (by omega) (by omega) (by omega)
      (by rw [step_eq]; omega) (by simp) (by omega) (by omega) (by omega)
      (kb 256 (by omega) _ (by omega) (by omega)) (kh 0 (by omega) _ (by omega) (by omega)) (kh 256 (by omega) _ (by omega) (by omega))
      (vb 256 (by omega) _ (by omega) (by omega)) (vh 0 (by omega) _ (by omega) (by omega)) (vh 256 (by omega) _ (by omega) (by omega))
      (qh 256 (by omega) _ (by omega) (by omega)) (biasB_blk m c t n) d k

/-! ## The array -/

end

/-- The array the call ends with, as a function of the argument arrays. -/
def result (c : Dev nD) : Vec Ideal S8x1024x4096 .bf16 := fun i =>
  Mixer.result (proj m c) (sinks m c) (table m c) (fun k => (m (c, Proc.tc.devRef main_arg3) : Vec Ideal S1x512 .f32) (ix2 0 k))
    (fun k => (m (c, Proc.tc.devRef main_arg4) : Vec Ideal S1x512 .f32) (ix2 0 k)) (i 0) (i 1) (i 2)

section
variable (hP : ∀ (c : Dev nD) (b : Fin 8) (q : Fin 4096) (x : Fin 2304), IsReal (proj m c b q x)) (hs : ∀ (c : Dev nD) (h : Fin 8), IsReal (sinks m c h))
  (hr : ∀ (c : Dev nD) (h : Fin 8) (j : Fin 257), IsReal (table m c h j))
include hP hs hr

/-- What point `t` writes back is its block of `result`. -/
theorem flushed_eq (c : Dev nD) (t : Fin cfg0.N) (r : Fin 1024) (q : Fin 512) :
    outsAt0 m c t (ix3 0 r q) = result m c (ix3 (sq t) r ⟨512 * (t.val % 8) + q, by omega⟩) := by
  refine (outs m c t (ix3 0 r q)).trans ?_
  show block _ _ _ _ r q = Mixer.result _ _ _ _ _ (sq t) r ⟨512 * (t.val % 8) + q, by omega⟩
  unfold block Mixer.result
  by_cases h : r.val < 512
  · rw [dif_pos h, dif_pos h]
    have e : heapA (queryAt (F := Ideal) (grid0.coords t) (iblk m c 0 t) (iblk m c 4 t) (iblk m c 5 t) (iblk m c 6 t)) q
        = Mixer.rowA (proj m c) (sinks m c) (sq t) ⟨512 * (t.val % 8) + q, by omega⟩ := by
      funext d
      refine (queryAt_eq m hP hs c t _ _ _ _).trans ?_
      refine congrArg (fun z : Fin 4096 => Mixer.headA (proj m c) (sinks m c) (sq t) _ z _) (Fin.ext ?_)
      show 128 * (4 * (t.val % 8) + q.val / 128) + q.val % 128 = 512 * (t.val % 8) + q.val
      omega
    rw [e]
    refine congrArg (fun g => Mixer.rms _ g _) ?_
    funext d
    exact gainA_blk m c t d _
  · rw [dif_neg h, dif_neg h]
    have e : heapB (headAt (F := Ideal) (grid0.coords t) (iblk m c 0 t) (iblk m c 1 t) (iblk m c 2 t) (X0_3 m c t) (iblk m c 7 t)) q
        = Mixer.rowB (proj m c) (table m c) (sq t) ⟨512 * (t.val % 8) + q, by omega⟩ := by
      funext d
      refine (headAt_eq m hP hr c t _ _ _ _).trans ?_
      refine congrArg (fun z : Fin 4096 => Mixer.headB (proj m c) (table m c) (sq t) _ z _) (Fin.ext ?_)
      show 256 * (2 * (t.val % 8) + q.val / 256) + q.val % 256 = 512 * (t.val % 8) + q.val
      omega
    rw [e]
    refine congrArg (fun g => Mixer.rms _ g _) ?_
    funext d
    exact gainB_blk m c t d _

omit hP hs hr in
/-- An index of the result lies in the block of a point. -/
theorem mem_blk (t : Fin cfg0.N) (i : S8x1024x4096.Idx) (h0 : (i 0).val = t.val / 8)
    (h2 : t.val % 8 * 512 ≤ (i 2).val) (h2' : (i 2).val < t.val % 8 * 512 + 512) :
    i ∈ ((cfg0.win 10).blk t).view.set := by
  have hi := idx_facts t
  show i ∈ ((View.whole main_v187).slice (win0_10.rect t)).set
  rw [View.set_slice_whole, Rect.mem_set_unit]
  intro a
  fin_cases a
  · show win0_10.index t (0 : Fin 3) * 1 ≤ (i 0).val ∧ (i 0).val < win0_10.index t (0 : Fin 3) * 1 + 1; omega
  · have h : (i 1).val < 1024 := (i 1).isLt
    show win0_10.index t (1 : Fin 3) * 1024 ≤ (i 1).val ∧ (i 1).val < win0_10.index t (1 : Fin 3) * 1024 + 1024
    omega
  · show win0_10.index t (2 : Fin 3) * 512 ≤ (i 2).val ∧ (i 2).val < win0_10.index t (2 : Fin 3) * 512 + 512; omega

omit hP hs hr in
theorem out_emb (t : Fin cfg0.N) (r : Fin 1024) (q : Fin 512) :
    ((cfg0.win 10).blk t).view.emb (ix3 0 r q) = (ix3 (sq t) r ⟨512 * (t.val % 8) + q, by omega⟩ : S8x1024x4096.Idx) := by
  have hi := idx_facts t
  funext a; apply Fin.ext
  refine (Pipeline.Window.rect_emb_val win0_10 t (ix3 0 r q) a).trans ?_
  fin_cases a
  · show win0_10.index t (0 : Fin 3) * 1 + 0 = t.val / 8; omega
  · show win0_10.index t (1 : Fin 3) * 1024 + r.val = r.val; omega
  · show win0_10.index t (2 : Fin 3) * 512 + q.val = 512 * (t.val % 8) + q.val; omega

/-- The array the call ends with. -/
theorem arr_eq (c : Dev nD) : (dats m 0 c).arrAt 10 cfg0.N = result m c := by
  refine (dats m 0 c).arrAt_eq_of_cover 10 (result m c) ?_ ?_
  · intro t _
    rw [flushed10 m c t]
    funext y
    obtain ⟨r, q, rfl⟩ : ∃ (r : Fin 1024) (q : Fin 512), y = ix3 0 r q := by
      refine ⟨y 1, y 2, ?_⟩
      refine (eq_ix3 y).trans ?_
      congr 1
      exact Subsingleton.elim (α := Fin 1) _ _
    refine (flushed_eq m hP hs hr c t r q).trans ?_
    show _ = result m c (((cfg0.win 10).blk t).view.emb (ix3 0 r q))
    rw [out_emb]
  · intro i
    have h0 : (i 0).val < 8 := (i 0).isLt
    have h2 : (i 2).val < 4096 := (i 2).isLt
    refine ⟨⟨(i 0).val * 8 + (i 2).val / 512, by rw [points]; omega⟩, flushes _, mem_blk _ i ?_ ?_ ?_⟩ <;> dsimp only <;> omega

end

end Cert.AttnKernel
-- ==== Proof.AttnReference.lean ====
/-
  The reference of the second call, read at one index: the same formula of the argument arrays, `Cert.Mixer.result`.
-/
module

public import proofs.«01_k».proof.Proof.AttnWords
public import proofs.«01_k».proof.Proof.Gen.ReferenceIdeal.Read
public import Idealize.ShloMosaic.Lib.Pointwise
public import Idealize.ShloMosaic.PureOps.Reduce
public import Idealize.ShloMosaic.PureOps.Ideal.Laws

@[expose] public section

set_option maxRecDepth 16384

noncomputable section

namespace Cert.AttnReference

open Cert.Attn Cert.ReferenceIdeal Cert.ReferenceIdeal.Gen Cert.ReferenceIdeal.Read Idealize.ShloMosaic Idealize.ShloMosaic.TcCoe

variable (x0 : Vec Ideal S8x4096x2304 .f32) (x1 : Vec Ideal S1x8 .f32) (x2 : Vec Ideal S1x8x257 .f32) (x3 x4 : Vec Ideal S1x512 .f32)

/-- The projections by batch, token and feature. -/
abbrev proj : Fin 8 → Fin 4096 → Fin 2304 → EReal := fun b s j => x0 (ix3 b s j)
/-- The sinks by head. -/
abbrev sinks : Fin 8 → EReal := fun h => x1 (ix2 0 h)
/-- The bias table by head and row. -/
abbrev table : Fin 8 → Fin 257 → EReal := fun h j => x2 (ix3 0 h j)

/-- Head `h` of key head `g`. -/
abbrev headOf (g : Fin 2) (h : Fin 4) : Fin 8 := ⟨4 * g + h, by omega⟩

theorem sign_ofBits : Ideal.ofBits .f32 0xFF800000#32 = ⊥ := by simp [Ideal.ofBits, Ideal.ieee]
theorem one_ofBits : Ideal.ofBits .f32 0x3F800000#32 = 1 := by
  simp [Ideal.ofBits, Ideal.ieee]; rw [← EReal.coe_mul]; norm_num

/-! ## Group A -/

theorem prod_apply (b : Fin 8) (g : Fin 2) (h : Fin 4) (q k : Fin 4096) : val_main_v12 (F := Ideal) x0 (ix5 b g h q k) =
    ∑ x : Fin 64, proj x0 b q ⟨64 * (headOf g h : Fin 8) + x, by omega⟩ * proj x0 b k ⟨512 + 64 * ((headOf g h : Fin 8) / 4) + x, by omega⟩ := by
  have e : val_main_v12 (F := Ideal) x0 (ix5 b g h q k) =
      ∑ x : Fin 64, x0 (ix3 b k ⟨512 + (g * 64 + x), by omega⟩) * x0 (ix3 b q ⟨g * 256 + h * 64 + x, by omega⟩) := by
    unfold val_main_v12 val_main_v11 val_main_v7 val_main_v1 val_main_v10 val_main_v6 val_main_v0
    pointwise
  rw [e]
  refine Finset.sum_congr rfl fun x _ => ?_
  rw [mul_comm]
  refine congrArg₂ (fun u v : Fin 2304 => x0 (ix3 b q u) * x0 (ix3 b k v)) (Fin.ext ?_) (Fin.ext ?_)
  · show g.val * 256 + h * 64 + x = 64 * (4 * g + h) + x; omega
  · show 512 + (g.val * 64 + x) = 512 + 64 * ((4 * g + h) / 4) + x; omega

theorem penalty_apply (b : Fin 8) (g : Fin 2) (h : Fin 4) (q k : Fin 4096) : val_main_v41 (F := Ideal) (ix5 b g h q k) = Mixer.slope (headOf g h : Fin 8) * Mixer.dist q k := by
  have e : val_main_v41 (F := Ideal) (ix5 b g h q k) = Ideal.exp (Ideal.ofBits .f32 0x3F317218#32 *
      Ideal.div (Ideal.ofBits .f32 0xC1000000#32 * (FloatOps.sitofp (F := Ideal) .f32 (BitVec.ofNat 32 (g.val * 4 + h.val)) + 1)) (Ideal.ofBits .f32 0x41000000#32))
      * FloatOps.sitofp (F := Ideal) .f32 (IntOp.absi (IntOp.subi (BitVec.ofNat 32 q.val) (BitVec.ofNat 32 k.val))) := by
    unfold val_main_v41 val_main_v40 val_main_v39 val_main_v37 val_main_v26 val_main_v25 val_main_v24 val_main_v23 val_main_v22 val_main_cst_3
      val_main_v21 val_main_v19 val_main_v18 val_main_cst_1 val_main_v17 val_main_v15 val_main_v16 val_main_cst_0 val_main_v20 val_main_cst_2
      val_main_v38 val_main_v36 val_main_v35 val_main_v34 val_main_v33 val_main_v31 val_main_v28 val_main_v27 val_main_v32 val_main_v30
      val_main_v29
    pointwise
  rw [e, Words.dist_eq _ _ (by omega) (by omega), Words.value_ofNat _ (by omega), ← one_ofBits]
  unfold Mixer.slope Mixer.dist
  rw [show ((headOf g h : Fin 8) : ℕ) = g.val * 4 + h.val from by show 4 * g.val + h.val = _; omega]

theorem bandA_apply (b : Fin 8) (g : Fin 2) (h : Fin 4) (q k : Fin 4096) : val_main_v60 (F := Ideal) x0 (ix5 b g h q k) =
    if Mixer.Near 2 q k then val_main_v42 (F := Ideal) x0 (ix5 b g h q k) else ⊥ := by
  have e : val_main_v60 (F := Ideal) x0 (ix5 b g h q k) = Scalar.select
      (IntOp.andi
        (IntOp.cmpi .sle (val_main_v50 (F := Ideal) (ix2 0 k)) (val_main_v46 (F := Ideal) (ix2 q 0)))
        (IntOp.cmpi .sge (val_main_v50 (F := Ideal) (ix2 0 k)) (IntOp.subi (val_main_v46 (F := Ideal) (ix2 q 0)) 2#32)))
      (val_main_v42 (F := Ideal) x0 (ix5 b g h q k)) (id (constant (F := Ideal) S_ .f32 0xFF800000#32) ix0) := by
    unfold val_main_v60 val_main_call0_v1 val_main_v59 val_main_v53 val_main_v51 val_main_v52 val_main_v58 val_main_v56 val_main_v57 val_main_v55 val_main_v54 val_main_c_5 val_main_call0_v2 val_main_call0_v0 val_main_cst_6
    generalize val_main_v50 (F := Ideal) = u
    generalize val_main_v46 (F := Ideal) = v
    generalize val_main_v42 (F := Ideal) x0 = z
    pointwise
  have e1 : val_main_v50 (F := Ideal) (ix2 0 k) = IntOp.divsi ArithUnit.host (BitVec.ofNat 32 k.val) 64#32 := by
    unfold val_main_v50 val_main_v49 val_main_v47 val_main_v48 val_main_c_4
    pointwise
  have e2 : val_main_v46 (F := Ideal) (ix2 q 0) = IntOp.divsi ArithUnit.host (BitVec.ofNat 32 q.val) 64#32 := by
    unfold val_main_v46 val_main_v45 val_main_v43 val_main_v44 val_main_c
    pointwise
  have e3 : id (constant (F := Ideal) S_ .f32 0xFF800000#32) ix0 = (⊥ : EReal) := sign_ofBits
  rw [e, e1, e2, Words.chunk _ k.isLt, Words.chunk _ q.isLt, Words.band_behind _ _ 2 (by omega) (by omega) (by omega), e3]
  rfl

/-- Group A's masked score. -/
theorem scoreA_apply (b : Fin 8) (g : Fin 2) (h : Fin 4) (q k : Fin 4096) : val_main_v60 (F := Ideal) x0 (ix5 b g h q k) = Mixer.scoreA (proj x0) b (headOf g h) q k := by
  rw [bandA_apply]
  unfold Mixer.scoreA
  refine if_congr Iff.rfl ?_ rfl
  rw [val_main_v42_apply, val_main_v14_apply, prod_apply, penalty_apply]
  rfl

theorem greatestA_apply (b : Fin 8) (g : Fin 2) (h : Fin 4) (q : Fin 4096) : val_main_v63 (F := Ideal) x0 (ix4 b g h q) =
    Finset.univ.fold max ⊥ (Mixer.scoreA (proj x0) b (headOf g h) q) := by
  have hr : S8x2x4x4096x4096.Reduces [4] S8x2x4x4096 := by decide
  have e : (val_main_v60 (F := Ideal) x0) ∘ hr.lift (ix4 b g h q) = fun k : Fin 4096 => Mixer.scoreA (proj x0) b (headOf g h) q k := by
    funext k
    have ek : hr.lift (ix4 b g h q) k = ix5 b g h q (⟨k.val, k.isLt⟩ : Fin 4096) := by
      funext a; apply Fin.ext
      fin_cases a <;> rfl
    show val_main_v60 (F := Ideal) x0 (hr.lift (ix4 b g h q) k) = _
    rw [ek, scoreA_apply]
    rfl
  unfold val_main_v63
  rw [Host.reduce_eq_fold_single FloatOps.maximumf _ _ _ hr, e]
  show Finset.fold max (Ideal.ofBits .f32 0xFF800000#32) _ _ = _
  rw [sign_ofBits]
  rfl

theorem boundA_apply (b : Fin 8) (g : Fin 2) (h : Fin 4) (q : Fin 4096) : val_main_v66 (F := Ideal) x0 x1 (ix5 b g h q 0) =
    max (Finset.univ.fold max ⊥ (Mixer.scoreA (proj x0) b (headOf g h) q)) (sinks x1 (headOf g h)) := by
  have e1 : val_main_v64 (F := Ideal) x0 (ix5 b g h q 0) = val_main_v63 (F := Ideal) x0 (ix4 b g h q) := by
    unfold val_main_v64
    generalize val_main_v63 (F := Ideal) x0 = z
    pointwise
  have e2 : val_main_v65 (F := Ideal) x1 (ix5 b g h q 0) = x1 (ix2 0 ⟨g * 4 + h, by omega⟩) := by
    unfold val_main_v65 val_main_v62 val_main_v61 val_main_v9
    pointwise
  rw [val_main_v66_apply, e1, e2, greatestA_apply]
  refine congrArg (fun z : Fin 8 => max (Finset.univ.fold max ⊥ (Mixer.scoreA (proj x0) b (headOf g h) q)) (x1 (ix2 0 z))) (Fin.ext ?_)
  show g.val * 4 + h.val = 4 * g.val + h.val; omega

theorem massA_apply (b : Fin 8) (g : Fin 2) (h : Fin 4) (q : Fin 4096) (μ : EReal) (hμ : val_main_v66 (F := Ideal) x0 x1 (ix5 b g h q 0) = μ) :
    val_main_v75 (F := Ideal) x0 x1 (ix5 b g h q 0) =
    (∑ k, Ideal.exp (Mixer.scoreA (proj x0) b (headOf g h) q k - μ)) + Ideal.exp (sinks x1 (headOf g h) - μ) := by
  have e : val_main_v75 (F := Ideal) x0 x1 (ix5 b g h q 0) =
      (∑ k, Ideal.exp (val_main_v60 (F := Ideal) x0 (ix5 b g h q k) - val_main_v66 (F := Ideal) x0 x1 (ix5 b g h q 0)))
        + Ideal.exp (x1 (ix2 0 ⟨g * 4 + h, by omega⟩) - val_main_v66 (F := Ideal) x0 x1 (ix5 b g h q 0)) := by
    unfold val_main_v75 val_main_v71 val_main_v70 val_main_v69 val_main_v68 val_main_v67 val_main_cst_8 val_main_v74 val_main_v73 val_main_v72
      val_main_v62 val_main_v61 val_main_v9
    generalize val_main_v60 (F := Ideal) x0 = z
    generalize val_main_v66 (F := Ideal) x0 x1 = w
    pointwise
  rw [e, hμ]
  simp only [scoreA_apply]
  refine congrArg (fun z : Fin 8 => _ + Ideal.exp (x1 (ix2 0 z) - μ)) (Fin.ext ?_)
  show g.val * 4 + h.val = 4 * g.val + h.val; omega

theorem weightA_apply (b : Fin 8) (g : Fin 2) (h : Fin 4) (q k : Fin 4096) (μ : EReal) (hμ : val_main_v66 (F := Ideal) x0 x1 (ix5 b g h q 0) = μ) :
    val_main_v77 (F := Ideal) x0 x1 (ix5 b g h q k) =
      Ideal.div (Ideal.exp (Mixer.scoreA (proj x0) b (headOf g h) q k - μ)) (val_main_v75 (F := Ideal) x0 x1 (ix5 b g h q 0)) := by
  have e : val_main_v77 (F := Ideal) x0 x1 (ix5 b g h q k) =
      Ideal.div (Ideal.exp (val_main_v60 (F := Ideal) x0 (ix5 b g h q k) - val_main_v66 (F := Ideal) x0 x1 (ix5 b g h q 0))) (val_main_v75 (F := Ideal) x0 x1 (ix5 b g h q 0)) := by
    unfold val_main_v77 val_main_v69 val_main_v68 val_main_v67 val_main_v76
    generalize val_main_v60 (F := Ideal) x0 = z
    generalize val_main_v66 (F := Ideal) x0 x1 = w
    generalize val_main_v75 (F := Ideal) x0 x1 = y
    pointwise
  rw [e, hμ, scoreA_apply]

/-- Group A's row before its norm. -/
theorem rowA_apply (hP : ∀ b s j, Mixer.IsReal (proj x0 b s j)) (hs : ∀ h, Mixer.IsReal (sinks x1 h)) (b : Fin 8) (q : Fin 4096) (r : Fin 512) :
    val_main_v80 (F := Ideal) x0 x1 (ix3 b q r) = Mixer.rowA (proj x0) (sinks x1) b q r := by
  have e : val_main_v80 (F := Ideal) x0 x1 (ix3 b q r) =
      ∑ k : Fin 4096, x0 (ix3 b k ⟨640 + (r / 256 * 64 + r % 64), by omega⟩) * val_main_v77 (F := Ideal) x0 x1 (ix5 b ⟨r / 256, by omega⟩ ⟨r / 64 % 4, by omega⟩ q k) := by
    unfold val_main_v80 val_main_v79 val_main_v78 val_main_v8 val_main_v2
    generalize val_main_v77 (F := Ideal) x0 x1 = z
    pointwise
  have hh : headOf ⟨r / 256, by omega⟩ ⟨r / 64 % 4, by omega⟩ = ⟨r / 64, by omega⟩ := Fin.ext (by show 4 * (r.val / 256) + r / 64 % 4 = r / 64; omega)
  have hne := Mixer.scoreA_ne_top hP b ⟨r / 64, by omega⟩ q
  obtain ⟨m0, hm0⟩ := fold_max_real (Mixer.scoreA (proj x0) b ⟨r / 64, by omega⟩ q) hne q (Mixer.scoreA_self hP b _ q)
  obtain ⟨s0, hs0⟩ := hs ⟨r / 64, by omega⟩
  have hμ := boundA_apply x0 x1 b ⟨r / 256, by omega⟩ ⟨r / 64 % 4, by omega⟩ q
  rw [hh, hm0, hs0, show max (m0 : EReal) (s0 : EReal) = ((max m0 s0 : ℝ) : EReal) from (EReal.coe_strictMono.monotone.map_max).symm] at hμ
  have hd := massA_apply x0 x1 b ⟨r / 256, by omega⟩ ⟨r / 64 % 4, by omega⟩ q _ hμ
  rw [hh, mass_shift _ hne, weight_exp _ (hs ⟨r / 64, by omega⟩).ne_top, ← coe_mul_add _ (Real.exp_pos _).le] at hd
  rw [e]
  simp only [weightA_apply x0 x1 b ⟨r / 256, by omega⟩ ⟨r / 64 % 4, by omega⟩ q _ _ hμ, hd, hh]
  unfold Mixer.rowA Mixer.headA
  rw [← share_each _ _ hne (max m0 s0) _ ((mass_pos _ hne q (Mixer.scoreA_self hP b _ q)).add_nonNeg (exp_nonNeg (hs _).ne_top))]
  refine Finset.sum_congr rfl fun k _ => ?_
  rw [mul_comm]
  refine congrArg (fun z : Fin 2304 => _ * x0 (ix3 b k z)) (Fin.ext ?_)
  show 640 + (r.val / 256 * 64 + r % 64) = 640 + 64 * (r / 64 / 4) + r % 64
  omega

/-! ## Group B -/

/-- The bias table read at the row a start index asks for. -/
theorem gather_apply (T : Vec Ideal S8x257 .f32) (idx : IVec S4096x4096x1 32) (h : Fin 8) (q k : Fin 4096) :
    Host.gather gather_S8x257_S4096x4096x1_S8x4096x4096_0_1_n_n_1_2_81 T idx (ix3 h q k) =
      T (ix2 h ⟨min (idx (ix3 q k 0)).toInt.toNat 256, by omega⟩) := by
  unfold Host.gather
  congr 1
  funext a
  apply Fin.ext
  match a with
  | ⟨0, _⟩ =>
    show GatherDims.start _ _ idx 0 + GatherDims.batchCoord _ _ 0 + GatherDims.offCoord _ _ 0 = h.val
    have hm : (0 : Fin 2) ∉ gather_S8x257_S4096x4096x1_S8x4096x4096_0_1_n_n_1_2_81.startIndexMap := by
      show (0 : Fin 2) ∉ [(1 : Fin 2)]
      decide
    have hk : (0 : Fin 2) ∈ gather_S8x257_S4096x4096x1_S8x4096x4096_0_1_n_n_1_2_81.sKept :=
      (GatherDims.mem_sKept _ _).mpr ⟨by show (0 : Fin 2) ∉ [(1 : Fin 2)]; decide, List.not_mem_nil⟩
    rw [GatherDims.batchCoord_eq_zero _ _ _ List.not_mem_nil]
    unfold GatherDims.start GatherDims.offCoord
    rw [dif_neg hm, dif_pos hk, Nat.zero_add]
    rfl
  | ⟨1, _⟩ =>
    show GatherDims.start _ _ idx 1 + GatherDims.batchCoord _ _ 1 + GatherDims.offCoord _ _ 1 = min (idx (ix3 q k 0)).toInt.toNat 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S8x257_S4096x4096x1_S8x4096x4096_0_1_n_n_1_2_81.startIndexMap from List.mem_singleton.mpr rfl)]
    refine congrArg (fun z => min (idx z).toInt.toNat 256) ?_
    funext c
    apply Fin.ext
    match c with
    | ⟨0, _⟩ => rfl
    | ⟨1, _⟩ => rfl
    | ⟨2, _⟩ => rfl

theorem biasB_apply (h : Fin 8) (q k : Fin 4096) : val_main_v121 (F := Ideal) x2 (ix3 h q k) = table x2 h (Mixer.relIx ((q : ℤ) - k)) := by
  unfold val_main_v121
  rw [gather_apply]
  have e1 : val_main_v97 (F := Ideal) (ix2 q k) = IntOp.addi (IntOp.minsi 128#32 (IntOp.maxsi 4294967168#32 (IntOp.subi (BitVec.ofNat 32 q.val) (BitVec.ofNat 32 k.val)))) 128#32 := by
    unfold val_main_v97 val_main_v95 val_main_call1_v4 val_main_call1_v3 val_main_c_11 val_main_call1_v2 val_main_call1_v1 val_main_call1_v0
      val_main_c_10 val_main_v94 val_main_v92 val_main_v89 val_main_v88 val_main_v93 val_main_v91 val_main_v90 val_main_v96 val_main_c_12
    pointwise
    rfl
  have e2 : val_main_v120 (F := Ideal) (ix3 q k 0) = Scalar.select (IntOp.cmpi .slt (val_main_v97 (F := Ideal) (ix2 q k)) 0#32)
      (IntOp.addi (val_main_v97 (F := Ideal) (ix2 q k)) 257#32) (val_main_v97 (F := Ideal) (ix2 q k)) := by
    unfold val_main_v120 val_main_v119 val_main_v116 val_main_v115 val_main_c_16 val_main_v118 val_main_v117 val_main_c_17
    generalize val_main_v97 (F := Ideal) = z
    pointwise
  have e3 : ∀ j : Fin 257, val_main_v84 (F := Ideal) x2 (ix2 h j) = x2 (ix3 0 h j) := by
    intro j
    unfold val_main_v84
    pointwise
  rw [e3]
  refine congrArg (fun j => x2 (ix3 0 h j)) (Fin.ext ?_)
  show min (val_main_v120 (F := Ideal) (ix3 q k 0)).toInt.toNat 256 = _
  rw [e2, e1]
  exact Words.table_row q k (by omega) (by omega) _

theorem bandB_apply (b h : Fin 8) (q k : Fin 4096) : val_main_v125 (F := Ideal) x0 x2 (ix4 b h q k) =
    if Mixer.Near 8 q k then val_main_v124 (F := Ideal) x0 x2 (ix4 b h q k) else ⊥ := by
  have e : val_main_v125 (F := Ideal) x0 x2 (ix4 b h q k) = Scalar.select
      (IntOp.andi
        (IntOp.cmpi .sle (val_main_v105 (F := Ideal) (ix2 0 k)) (val_main_v101 (F := Ideal) (ix2 q 0)))
        (IntOp.cmpi .sge (val_main_v105 (F := Ideal) (ix2 0 k)) (IntOp.subi (val_main_v101 (F := Ideal) (ix2 q 0)) 8#32)))
      (val_main_v124 (F := Ideal) x0 x2 (ix4 b h q k)) (id (constant (F := Ideal) S_ .f32 0xFF800000#32) ix0) := by
    unfold val_main_v125 val_main_call2_v1 val_main_v114 val_main_v108 val_main_v106 val_main_v107 val_main_v113 val_main_v111 val_main_v112 val_main_v110 val_main_v109 val_main_c_15 val_main_call2_v2 val_main_call2_v0 val_main_cst_18
    generalize val_main_v105 (F := Ideal) = u
    generalize val_main_v101 (F := Ideal) = v
    generalize val_main_v124 (F := Ideal) x0 x2 = z
    pointwise
  have e1 : val_main_v105 (F := Ideal) (ix2 0 k) = IntOp.divsi ArithUnit.host (BitVec.ofNat 32 k.val) 64#32 := by
    unfold val_main_v105 val_main_v104 val_main_v102 val_main_v103 val_main_c_14
    pointwise
  have e2 : val_main_v101 (F := Ideal) (ix2 q 0) = IntOp.divsi ArithUnit.host (BitVec.ofNat 32 q.val) 64#32 := by
    unfold val_main_v101 val_main_v100 val_main_v98 val_main_v99 val_main_c_13
    pointwise
  have e3 : id (constant (F := Ideal) S_ .f32 0xFF800000#32) ix0 = (⊥ : EReal) := sign_ofBits
  rw [e, e1, e2, Words.chunk _ k.isLt, Words.chunk _ q.isLt, Words.band_behind _ _ 8 (by omega) (by omega) (by omega), e3]
  rfl

/-- Group B's masked score. -/
theorem scoreB_apply (b h : Fin 8) (q k : Fin 4096) : val_main_v125 (F := Ideal) x0 x2 (ix4 b h q k) = Mixer.scoreB (proj x0) (table x2) b h q k := by
  rw [bandB_apply]
  unfold Mixer.scoreB
  refine if_congr Iff.rfl ?_ rfl
  have e : val_main_v124 (F := Ideal) x0 x2 (ix4 b h q k) =
      (∑ x : Fin 64, x0 (ix3 b q ⟨768 + (h * 64 + x), by omega⟩) * x0 (ix3 b k ⟨1280 + (h * 64 + x), by omega⟩)) * Ideal.ofBits .f32 0x3E000000#32
        + val_main_v121 (F := Ideal) x2 (ix3 h q k) := by
    unfold val_main_v124 val_main_v87 val_main_v85 val_main_v81 val_main_v3 val_main_v82 val_main_v4 val_main_v86 val_main_cst_9 val_main_v123
      val_main_v122
    generalize val_main_v121 (F := Ideal) x2 = z
    pointwise
  rw [e, biasB_apply]
  refine congrArg (fun z => z * _ + _) (Finset.sum_congr rfl fun x _ => ?_)
  refine congrArg₂ (fun u v : Fin 2304 => x0 (ix3 b q u) * x0 (ix3 b k v)) (Fin.ext ?_) (Fin.ext ?_)
  · show 768 + (h.val * 64 + x) = 768 + 64 * h + x; omega
  · show 1280 + (h.val * 64 + x) = 1280 + 64 * h + x; omega

theorem greatestB_apply (b h : Fin 8) (q : Fin 4096) : val_main_v126 (F := Ideal) x0 x2 (ix3 b h q) =
    Finset.univ.fold max ⊥ (Mixer.scoreB (proj x0) (table x2) b h q) := by
  have hr : S8x8x4096x4096.Reduces [3] S8x8x4096 := by decide
  have e : (val_main_v125 (F := Ideal) x0 x2) ∘ hr.lift (ix3 b h q) = fun k : Fin 4096 => Mixer.scoreB (proj x0) (table x2) b h q k := by
    funext k
    have ek : hr.lift (ix3 b h q) k = ix4 b h q (⟨k.val, k.isLt⟩ : Fin 4096) := by
      funext a; apply Fin.ext
      fin_cases a <;> rfl
    show val_main_v125 (F := Ideal) x0 x2 (hr.lift (ix3 b h q) k) = _
    rw [ek, scoreB_apply]
    rfl
  unfold val_main_v126
  rw [Host.reduce_eq_fold_single FloatOps.maximumf _ _ _ hr, e]
  show Finset.fold max (Ideal.ofBits .f32 0xFF800000#32) _ _ = _
  rw [sign_ofBits]
  rfl

theorem boundB_apply (b h : Fin 8) (q : Fin 4096) : val_main_v128 (F := Ideal) x0 x2 (ix3 b h q) =
    Finset.univ.fold max ⊥ (Mixer.scoreB (proj x0) (table x2) b h q) := by
  have e : val_main_v127 (F := Ideal) (ix3 b h q) = Ideal.ofBits .f32 0xFF800000#32 := by
    unfold val_main_v127 val_main_cst_20
    pointwise
  rw [val_main_v128_apply, e, greatestB_apply, sign_ofBits]
  show max ⊥ _ = _
  exact max_eq_right bot_le

theorem weightB_apply (b h : Fin 8) (q k : Fin 4096) (μ : EReal) (hμ : val_main_v128 (F := Ideal) x0 x2 (ix3 b h q) = μ) :
    val_main_v136 (F := Ideal) x0 x2 (ix4 b h q k) = Ideal.div (Ideal.exp (Mixer.scoreB (proj x0) (table x2) b h q k - μ))
      (∑ k, Ideal.exp (Mixer.scoreB (proj x0) (table x2) b h q k - μ)) := by
  have e1 : ∀ k : Fin 4096, val_main_v132 (F := Ideal) x0 x2 (ix4 b h q k) = Ideal.exp (Mixer.scoreB (proj x0) (table x2) b h q k - μ) := by
    intro k
    rw [← scoreB_apply, ← hμ]
    unfold val_main_v132 val_main_v131 val_main_v130 val_main_v129
    generalize val_main_v125 (F := Ideal) x0 x2 = z
    generalize val_main_v128 (F := Ideal) x0 x2 = w
    pointwise
  have e : val_main_v136 (F := Ideal) x0 x2 (ix4 b h q k) = Ideal.div (val_main_v132 (F := Ideal) x0 x2 (ix4 b h q k))
      (∑ k, val_main_v132 (F := Ideal) x0 x2 (ix4 b h q k)) := by
    unfold val_main_v136 val_main_v135 val_main_v134 val_main_v133 val_main_cst_21
    generalize val_main_v132 (F := Ideal) x0 x2 = z
    pointwise
  rw [e]
  simp only [e1]

/-- Group B's row before its norm. -/
theorem rowB_apply (hP : ∀ b s j, Mixer.IsReal (proj x0 b s j)) (hr : ∀ h j, Mixer.IsReal (table x2 h j)) (b : Fin 8) (q : Fin 4096) (r : Fin 512) :
    val_main_v139 (F := Ideal) x0 x2 (ix3 b q r) = Mixer.rowB (proj x0) (table x2) b q r := by
  have e : val_main_v139 (F := Ideal) x0 x2 (ix3 b q r) =
      ∑ k : Fin 4096, x0 (ix3 b k ⟨1792 + r, by omega⟩) * val_main_v136 (F := Ideal) x0 x2 (ix4 b ⟨r / 64, by omega⟩ q k) := by
    unfold val_main_v139 val_main_v138 val_main_v137 val_main_v83 val_main_v5
    generalize val_main_v136 (F := Ideal) x0 x2 = z
    pointwise
  have hne := Mixer.scoreB_ne_top hP hr b ⟨r / 64, by omega⟩ q
  have hself := Mixer.scoreB_self hP hr b ⟨r / 64, by omega⟩ q
  obtain ⟨m0, hm0⟩ := fold_max_real (Mixer.scoreB (proj x0) (table x2) b ⟨r / 64, by omega⟩ q) hne q hself
  have hμ := boundB_apply x0 x2 b ⟨r / 64, by omega⟩ q
  rw [hm0] at hμ
  rw [e]
  simp only [weightB_apply x0 x2 b ⟨r / 64, by omega⟩ q _ _ hμ]
  rw [mass_shift _ hne]
  unfold Mixer.rowB Mixer.headB
  rw [← share_each _ _ hne m0 _ (mass_pos _ hne q hself)]
  refine Finset.sum_congr rfl fun k _ => ?_
  rw [mul_comm]
  refine congrArg (fun z : Fin 2304 => _ * x0 (ix3 b k z)) (Fin.ext ?_)
  show 1792 + r.val = 1792 + 64 * (r / 64) + r % 64
  omega

/-! ## The result -/

/-- The reference's result is the layer's formula. -/
theorem result_apply (hP : ∀ b s j, Mixer.IsReal (proj x0 b s j)) (hs : ∀ h, Mixer.IsReal (sinks x1 h)) (hr : ∀ h j, Mixer.IsReal (table x2 h j))
    (b : Fin 8) (r : Fin 1024) (q : Fin 4096) :
    val_main_v170 (F := Ideal) x0 x1 x2 x3 x4 (ix3 b r q) =
      Mixer.result (proj x0) (sinks x1) (table x2) (fun k => x3 (ix2 0 k)) (fun k => x4 (ix2 0 k)) b r q := by
  have hA : Mixer.rowA (proj x0) (sinks x1) b q = fun k => val_main_v80 (F := Ideal) x0 x1 (ix3 b q k) :=
    funext fun k => (rowA_apply x0 x1 hP hs b q k).symm
  have hB : Mixer.rowB (proj x0) (table x2) b q = fun k => val_main_v139 (F := Ideal) x0 x2 (ix3 b q k) :=
    funext fun k => (rowB_apply x0 x2 hP hr b q k).symm
  unfold Mixer.result
  rw [hA, hB]
  unfold val_main_v170 val_main_v169 val_main_v168 val_main_v153 val_main_v150 val_main_v149 val_main_v148 val_main_v147 val_main_v145
    val_main_v143 val_main_v142 val_main_v141 val_main_cst_22 val_main_v144 val_main_cst_23 val_main_v146 val_main_cst_24 val_main_v152
    val_main_v151 val_main_v140 val_main_v167 val_main_v164 val_main_v163 val_main_v162 val_main_v161 val_main_v159 val_main_v157 val_main_v156
    val_main_v155 val_main_cst_25 val_main_v158 val_main_cst_26 val_main_v160 val_main_cst_27 val_main_v166 val_main_v165 val_main_v154
  generalize val_main_v80 (F := Ideal) x0 x1 = y
  generalize val_main_v139 (F := Ideal) x0 x2 = z
  pointwise [Mixer.rms, Mixer.width, Mixer.eps]

end Cert.AttnReference
-- ==== Proof.AttnClaim.lean ====
/-
  The value claim of the attention call: where the projected columns, the sinks and the table of biases are real
  numbers, kernel and reference end with the same array, index by index.
-/
module

public import proofs.«01_k».proof.Defs
public import proofs.«01_k».proof.Proof.AttnKernel
public import proofs.«01_k».proof.Proof.AttnReference
public import proofs.«01_k».proof.Proof.Gen.ReferenceIdeal.Run
public import Idealize.ShloMosaic.Lib.Pointwise.Select

@[expose] public section

set_option maxRecDepth 16384

noncomputable section

namespace Cert.AttnClaim

open Idealize.ShloMosaic Idealize.ShloMosaic.TcCoe Idealize.SL.Sem
open Cert.Mixer (IsReal)

/-- The shapes the precondition's broadcasts relate: one number spread over an array. -/
theorem finite_facts : Cert.Pre_finite.Facts where
  bcast_S_S8x4096x2304 := by decide
  bcast_S_S1x8 := by decide
  bcast_S_S1x8x257 := by decide

/-- An extended real whose absolute value compares below infinity is a real number. -/
theorem isReal_of_olt (x : Ideal .f32)
    (h : FloatOps.cmpf .olt (FloatOps.hostAbsf x) (FloatOps.ofBits (F := Ideal) .f32 0x7F800000#32) = 1#1) : IsReal (x : EReal) := by
  have htop : Ideal.ofBits .f32 0x7F800000#32 = ⊤ := by simp [Ideal.ofBits, Ideal.ieee]
  have hlt : Ideal.cmp .olt (max (x : EReal) (-(x : EReal))) (Ideal.ofBits .f32 0x7F800000#32) = 1 := h
  rw [htop] at hlt
  have hm : max (x : EReal) (-(x : EReal)) < ⊤ := (Ideal.cmp_olt_eq_one _ _).mp hlt
  obtain ⟨h1, h2⟩ := max_lt_iff.mp hm
  exact ⟨(x : EReal).toReal, (EReal.coe_toReal h1.ne (fun e => h2.ne (by rw [e]; rfl))).symm⟩

variable (m : (ℓ : Loc Cert.KernelIdeal.nD Cert.KernelIdeal.τ Cert.KernelIdeal.sig) → Buf (Elt Ideal) ℓ)

/-- The precondition makes every projected column real. -/
theorem proj_real (h : Cert.Pre_KernelIdeal_finite (hPre_finite := finite_facts) m) (c : Dev Cert.KernelIdeal.nD) (b : Fin 8) (s : Fin 4096)
    (j : Fin 2304) : IsReal (AttnHost.proj m c b s j) := isReal_of_olt _ (congrFun (h c).1 (ix3 b s j))

/-- The precondition makes every sink real. -/
theorem sinks_real (h : Cert.Pre_KernelIdeal_finite (hPre_finite := finite_facts) m) (c : Dev Cert.KernelIdeal.nD) (k : Fin 8) :
    IsReal (AttnHost.sinks m c k) := isReal_of_olt _ (congrFun (h c).2.1 (ix2 0 k))

/-- The precondition makes every bias real. -/
theorem table_real (h : Cert.Pre_KernelIdeal_finite (hPre_finite := finite_facts) m) (c : Dev Cert.KernelIdeal.nD) (k : Fin 8) (j : Fin 257) :
    IsReal (AttnHost.table m c k j) := isReal_of_olt _ (congrFun (h c).2.2 (ix3 0 k j))

/-- From memories that agree on the arguments, the reference's array is the kernel's. -/
theorem reference_eq (h : Cert.Pre_KernelIdeal_finite (hPre_finite := finite_facts) m)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Read.val_main_v170 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = AttnKernel.result m c := by
  rw [e0, e1, e2, e3, e4]
  funext i
  exact (congrArg _ (eq_ix3 i)).trans (AttnReference.result_apply _ _ _ _ _ (fun b s j => proj_real m h c b s j) (fun k => sinks_real m h c k)
    (fun k j => table_real m h c k j) (i 0) (i 1) (i 2))

/-- On finite arguments the attention computes the reference's result. -/
theorem claim : Cert.algebraic_KernelIdeal_ReferenceIdeal_pre_finite (hKernelIdeal := Cert.KernelIdeal.Gen.facts)
    (hReferenceIdeal := Cert.ReferenceIdeal.Gen.facts) (hPre_finite := finite_facts) := by
  intro m g m' g' h hagree
  refine ⟨fun c => AttnKernel.result m c, ?_, ?_⟩
  · refine (θ_run _ _ _).mono (fun r hr c => ?_) (Cert.KernelIdeal.Value.run_blocks m g)
    exact ⟨(hr c).1.trans (AttnKernel.arr_eq m (proj_real m h) (sinks_real m h) (table_real m h) c), (hr c).2⟩
  · refine (θ_run _ _ _).mono (fun r hr c => ?_) (Cert.ReferenceIdeal.Value.run m' g')
    obtain ⟨e0, e1, e2, e3, e4⟩ := hagree c
    exact ⟨(hr c).1.trans ((Cert.ReferenceIdeal.Read.val_main_v170_eq (StableHlo.launchContents m' c)).trans (reference_eq m h m' c e0 e1 e2 e3 e4)), (hr c).2⟩

end Cert.AttnClaim

end
-- ==== Proof.FfnBlock.lean ====
/-
  The third call's body at one grid point: what it leaves in the result's block, from its input blocks. The hidden units are taken in four
  quarters added to an accumulator, the last one together with the final norm in blocks of 256 rows.
-/
module
public import proofs.«01_k».proof.Proof.Gen.Kernel2Ideal.Value
public import proofs.«01_k».proof.Proof.FfnSpec
public import Idealize.ShloMosaic.Lib.Pointwise
public import Idealize.ShloMosaic.Lib.Pipeline.ReadBack
public import Idealize.ShloMosaic.Lib.Pipeline.ValueKit.Acc
@[expose] public section
set_option maxRecDepth 16384
noncomputable section
namespace Cert.FfnBlock
open Cert.Kernel2Ideal Cert.Kernel2Ideal.Gen Idealize.ShloMosaic Idealize.ShloMosaic.TcCoe Idealize.SL.Sem
open Idealize.ShloMosaic.Tactic
variable (m : (ℓ : Loc nD τ sig) → Buf (Elt Ideal) ℓ)

/-- The residual stream after the output projection. -/
theorem hidden_apply (v0 : Vec Ideal S1x1024x1024 .f32) (v2 : Vec Ideal S1x1024x1024 .bf16) (v4 : Vec Ideal S1024x1024 .bf16) (r d : Fin 1024) :
    k0_pay2 v0 v2 v4 (ix2 r d) = Ffn.hidden (fun k => v2 (ix3 0 k r)) (fun k => v0 (ix3 0 r k)) (fun k d => v4 (ix2 k d)) d := by
  unfold Ffn.hidden
  pointwise! [k0_pay2]

/-- The accumulator starts as the residual stream. -/
theorem acc_apply (v0 : Vec Ideal S1x1024x1024 .f32) (v2 : Vec Ideal S1x1024x1024 .bf16) (v4 : Vec Ideal S1024x1024 .bf16) (i : S1024x1024.Idx) :
    k0_pay3 v0 v2 v4 i = k0_pay2 v0 v2 v4 i := by
  pointwise [k0_pay3]

/-- The norm before the feed-forward network. -/
theorem norm_apply (v0 : Vec Ideal S1x1024x1024 .f32) (v2 : Vec Ideal S1x1024x1024 .bf16) (v4 : Vec Ideal S1024x1024 .bf16) (v11 : Vec Ideal S1x1024 .f32) (r d : Fin 1024) :
    k0_pay4 v0 v2 v4 v11 (ix2 r d) = Ffn.rms (fun k => k0_pay2 v0 v2 v4 (ix2 r k)) (fun k => v11 (ix2 0 k)) d := by
  unfold Ffn.rms
  pointwise! [k0_pay4]

/-- One quarter of the hidden units, added to the accumulator. -/
theorem chunk_apply (v29 : Vec Ideal S1024x1024 .f32) (v30 : Vec Ideal S1024x1024 .bf16) (v31 : Vec Ideal S1024x1024 .bf16) (v38 : Vec Ideal S1024x1024 .bf16) (r d : Fin 1024) :
    k0_pay5 v29 v30 v31 v38 (ix2 r d) = v29 (ix2 r d) + ∑ f : Fin 1024, Ffn.unit (fun k => v30 (ix2 r k)) (fun k => v31 (ix2 k f)) * v38 (ix2 f d) := by
  unfold Ffn.unit
  pointwise! [k0_pay5]

/-- The last quarter on 256 rows, and the final norm. -/
theorem tail_apply (v167 : Vec Ideal S256x1024 .f32) (v168 : Vec Ideal S256x1024 .bf16) (v169 : Vec Ideal S1024x1024 .bf16) (v176 : Vec Ideal S1024x1024 .bf16) (v180 : Vec Ideal S1x1024 .f32)
    (r : Fin 256) (d : Fin 1024) :
    k0_pay1 v167 v168 v169 v176 v180 (ix3 0 r d) = Ffn.rms (fun e => v167 (ix2 r e) + ∑ f : Fin 1024, Ffn.unit (fun k => v168 (ix2 r k)) (fun k => v169 (ix2 k f)) * v176 (ix2 f e))
       (fun e => v180 (ix2 0 e)) d := by
  unfold Ffn.unit Ffn.rms
  pointwise! [k0_pay1]

/-- The second quarter is formed as the first. -/
theorem pay6_eq : @k0_pay6 = @k0_pay5 := rfl
/-- The third quarter is formed as the first. -/
theorem pay7_eq : @k0_pay7 = @k0_pay5 := rfl
/-- Each block of rows is finished as the first one. -/
theorem pay12_eq : @k0_pay12 = @k0_pay1 := rfl
/-- Each block of rows is finished as the first one. -/
theorem pay13_eq : @k0_pay13 = @k0_pay1 := rfl
/-- The block of rows whose steps are named one by one is finished as the first one. -/
theorem pay11_eq (a : Vec Ideal S256x1024 .f32) (b : Vec Ideal S256x1024 .bf16) (c : Vec Ideal S1024x1024 .bf16) (d : Vec Ideal S1024x1024 .bf16) (e : Vec Ideal S1x1024 .f32) :
  k0_pay11 (k0_pay8 a b c d) (k0_pay9 e) (k0_pay10 a b c d) = k0_pay1 a b c d e := rfl

/-- The block the body leaves, as a function of its input blocks. -/
def G (x0 : Vec Ideal S1x1024x1024 .bf16) (x1 : Vec Ideal S1x1024x1024 .f32) (x2 : Vec Ideal S1024x1024 .bf16) (x3 : Vec Ideal S1x1024 .f32)
    (x4 : Vec Ideal S1024x4096 .bf16) (x5 : Vec Ideal S4096x1024 .bf16) (x6 : Vec Ideal S1x1024 .f32) (i : S1x1024x1024.Idx) : EReal :=
  Ffn.row (fun k => x0 (ix3 0 k (i 1))) (fun k => x1 (ix3 0 (i 1) k)) (fun k d => x2 (ix2 k d)) (fun k => x3 (ix2 0 k)) (fun k f => x4 (ix2 k f))
    (fun f k => x5 (ix2 f k)) (fun k => x6 (ix2 0 k)) (i 2)

/-- The residual stream after three quarters of the network, over the body's payloads. -/
def acc3 (x0 : Vec Ideal S1x1024x1024 .bf16) (x1 : Vec Ideal S1x1024x1024 .f32) (x2 : Vec Ideal S1024x1024 .bf16) (x3 : Vec Ideal S1x1024 .f32)
    (x4 : Vec Ideal S1024x4096 .bf16) (x5 : Vec Ideal S4096x1024 .bf16) : Vec Ideal S1024x1024 .f32 :=
  k0_pay5 (k0_pay5 (k0_pay5 (k0_pay3 x1 x0 x2) (k0_pay4 x1 x0 x2 x3)
      (View.ld x4 (Rect.unit ![0, 0] ![1024, 1024] inb_S1024x4096_S1024x1024_0_0)) (View.ld x5 (Rect.unit ![0, 0] ![1024, 1024] inb_S4096x1024_S1024x1024_0_0)))
    (k0_pay4 x1 x0 x2 x3)
      (View.ld x4 (Rect.unit ![0, 1024] ![1024, 1024] inb_S1024x4096_S1024x1024_0_1024)) (View.ld x5 (Rect.unit ![1024, 0] ![1024, 1024] inb_S4096x1024_S1024x1024_1024_0)))
    (k0_pay4 x1 x0 x2 x3)
      (View.ld x4 (Rect.unit ![0, 2048] ![1024, 1024] inb_S1024x4096_S1024x1024_0_2048)) (View.ld x5 (Rect.unit ![2048, 0] ![1024, 1024] inb_S4096x1024_S1024x1024_2048_0))

/-- The accumulator before the last quarter, at a row and a feature. -/
theorem acc3_apply (x0 : Vec Ideal S1x1024x1024 .bf16) (x1 : Vec Ideal S1x1024x1024 .f32) (x2 : Vec Ideal S1024x1024 .bf16) (x3 : Vec Ideal S1x1024 .f32)
    (x4 : Vec Ideal S1024x4096 .bf16) (x5 : Vec Ideal S4096x1024 .bf16) (r d : Fin 1024) (h n : Fin 1024 → EReal)
    (hh : h = fun k => k0_pay2 x1 x0 x2 (ix2 r k)) (hn : n = fun k => k0_pay4 x1 x0 x2 x3 (ix2 r k)) :
    acc3 x0 x1 x2 x3 x4 x5 (ix2 r d) =
      ((h d + Ffn.quarter n (fun k f => x4 (ix2 k f)) (fun f k => x5 (ix2 f k)) d 0 (by omega))
        + Ffn.quarter n (fun k f => x4 (ix2 k f)) (fun f k => x5 (ix2 f k)) d 1024 (by omega))
        + Ffn.quarter n (fun k f => x4 (ix2 k f)) (fun f k => x5 (ix2 f k)) d 2048 (by omega) := by
  unfold acc3 Ffn.quarter
  rw [chunk_apply, chunk_apply, chunk_apply, acc_apply]
  subst hh hn
  pointwise

/-- A load of 256 rows reads the rows from its offset on. -/
theorem ld_rows {e : EltTy} (X : S1024x1024.Idx → Elt Ideal e) (o : ℕ)
    (h : ∀ a, (![o, 0] : Fin 2 → ℕ) a + (![256, 1024] : Fin 2 → ℕ) a ≤ S1024x1024.size a) (r : Fin 256) (k : Fin 1024) :
    View.ld X (Rect.unit (s := S1024x1024) ![o, 0] ![256, 1024] h) (ix2 r k)
      = X (ix2 (⟨o + r, by have : o + 256 ≤ 1024 := h 0; omega⟩ : Fin 1024) k) := by
  pointwise

/-- A block of rows of the last quarter is that block of `G`. -/
theorem piece_apply (x0 : Vec Ideal S1x1024x1024 .bf16) (x1 : Vec Ideal S1x1024x1024 .f32) (x2 : Vec Ideal S1024x1024 .bf16) (x3 : Vec Ideal S1x1024 .f32)
    (x4 : Vec Ideal S1024x4096 .bf16) (x5 : Vec Ideal S4096x1024 .bf16) (x6 : Vec Ideal S1x1024 .f32) (o : ℕ)
    (h0 : ∀ a, (![0, o, 0] : Fin 3 → ℕ) a + (![1, 256, 1024] : Fin 3 → ℕ) a ≤ S1x1024x1024.size a)
    (h1 : ∀ a, (![o, 0] : Fin 2 → ℕ) a + (![256, 1024] : Fin 2 → ℕ) a ≤ S1024x1024.size a) (y : S1x256x1024.Idx) :
    k0_pay1 (View.ld (acc3 x0 x1 x2 x3 x4 x5) (Rect.unit (s := S1024x1024) ![o, 0] ![256, 1024] h1))
      (View.ld (k0_pay4 x1 x0 x2 x3) (Rect.unit (s := S1024x1024) ![o, 0] ![256, 1024] h1))
      (View.ld x4 (Rect.unit ![0, 3072] ![1024, 1024] inb_S1024x4096_S1024x1024_0_3072))
      (View.ld x5 (Rect.unit ![3072, 0] ![1024, 1024] inb_S4096x1024_S1024x1024_3072_0)) x6 y
    = G x0 x1 x2 x3 x4 x5 x6 ((Rect.unit (s := S1x1024x1024) ![0, o, 0] ![1, 256, 1024] h0).emb y) := by
  obtain ⟨u, r, d, rfl⟩ : ∃ (u : Fin 1) (r : Fin 256) (d : Fin 1024), y = ix3 u r d := ⟨y 0, y 1, y 2, eq_ix3 y⟩
  obtain rfl : u = 0 := Subsingleton.elim _ _
  have ho : o + 256 ≤ 1024 := h1 0
  have e3 : (Rect.unit (s := S1x1024x1024) ![0, o, 0] ![1, 256, 1024] h0).emb (ix3 0 r d) = ix3 0 (⟨o + r, by omega⟩ : Fin 1024) d := by
    funext a; apply Fin.ext; rw [Rect.emb_apply]; fin_cases a <;> simp [ix3]
  rw [tail_apply, e3]
  rw [show G x0 x1 x2 x3 x4 x5 x6 (ix3 0 (⟨o + r, by omega⟩ : Fin 1024) d) = Ffn.row (fun k => x0 (ix3 0 k (⟨o + r, by omega⟩ : Fin 1024)))
    (fun k => x1 (ix3 0 (⟨o + r, by omega⟩ : Fin 1024) k)) (fun k d => x2 (ix2 k d)) (fun k => x3 (ix2 0 k)) (fun k f => x4 (ix2 k f))
    (fun f k => x5 (ix2 f k)) (fun k => x6 (ix2 0 k)) d from rfl]
  unfold Ffn.row
  congr 1
  funext e
  have hid := funext fun k => hidden_apply x1 x0 x2 ⟨o + r, by omega⟩ k
  have nrm := funext fun k => norm_apply x1 x0 x2 x3 ⟨o + r, by omega⟩ k
  rw [hid] at nrm
  rw [ld_rows (e := .f32), Ffn.mlp_quarters, acc3_apply x0 x1 x2 x3 x4 x5 _ _ _ _ hid.symm nrm.symm]
  congr 1
  unfold Ffn.quarter
  rw [(funext fun k => ld_rows (e := .bf16) (k0_pay4 x1 x0 x2 x3) o h1 r k).trans nrm]
  pointwise

/-- What the body leaves in the result's staging buffer at a grid point. -/
theorem outs (c : Dev nD) (t : Fin cfg0.N) :
    outsAt0 m c t = G (iblk m c 0 t) (iblk m c 1 t) (iblk m c 2 t) (iblk m c 3 t) (iblk m c 4 t) (iblk m c 5 t) (iblk m c 6 t) := by
  funext y
  have hc := cover0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t)
  unfold outsAt0 out0_A_7
  rw [View.read_writes_eq_canon _ _ _ hc]
  refine View.canon_apply_of_pieces _ _ ?_ y (hc y)
  unfold kernelRun0_A
  dsimp only
  sl_unfold_words
  simp (disch := decide) only [↓View.readCov_fill, ↓View.readCov_cons_unit_lit', View.readAt_eq_ld, (hs0_0 t).read_unread, (hs0_1 t).read_unread, (hs0_2 t).read_unread, (hs0_3 t).read_unread, (hs0_4 t).read_unread, (hs0_5 t).read_unread, (hs0_6 t).read_unread, View.ld_unit_lit]
  rw [pay6_eq, pay7_eq, pay12_eq, pay13_eq, pay11_eq]
  simp only [List.forall_mem_cons, List.not_mem_nil, false_imp_iff, implies_true, and_true]
  exact ⟨piece_apply _ _ _ _ _ _ _ 768 _ _, piece_apply _ _ _ _ _ _ _ 512 _ _, piece_apply _ _ _ _ _ _ _ 256 _ _, piece_apply _ _ _ _ _ _ _ 0 _ _⟩

end Cert.FfnBlock
-- ==== Proof.FfnKernel.lean ====
/-
  The third call (output projection, residual, feed-forward network, final norm): the array it ends with, index by index, as
  `Cert.Ffn.row` of the argument arrays. Each grid point writes one block of 1024 tokens of one sequence; the blocks tile the result.
-/
module

public import proofs.«01_k».proof.Proof.FfnBlock

@[expose] public section

set_option maxRecDepth 16384

noncomputable section

namespace Cert.FfnKernel

open Cert.Kernel2Ideal Cert.Kernel2Ideal.Gen Cert.Kernel2Ideal.Value Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-- Where the blocks of a grid point lie: point `4 b + s` takes token block `s` of sequence `b`. -/
theorem idx_facts : ∀ t : Fin cfg0.N,
    win0_0.index t (0 : Fin 3) = t.val / 4 ∧ win0_0.index t (1 : Fin 3) = 0 ∧ win0_0.index t (2 : Fin 3) = t.val % 4 ∧
    win0_1.index t (0 : Fin 3) = t.val / 4 ∧ win0_1.index t (1 : Fin 3) = t.val % 4 ∧ win0_1.index t (2 : Fin 3) = 0 ∧
    win0_2.index t (0 : Fin 2) = 0 ∧ win0_2.index t (1 : Fin 2) = 0 ∧ win0_3.index t (0 : Fin 2) = 0 ∧ win0_3.index t (1 : Fin 2) = 0 ∧
    win0_4.index t (0 : Fin 2) = 0 ∧ win0_4.index t (1 : Fin 2) = 0 ∧ win0_5.index t (0 : Fin 2) = 0 ∧ win0_5.index t (1 : Fin 2) = 0 ∧
    win0_6.index t (0 : Fin 2) = 0 ∧ win0_6.index t (1 : Fin 2) = 0 ∧
    win0_7.index t (0 : Fin 3) = t.val / 4 ∧ win0_7.index t (1 : Fin 3) = t.val % 4 ∧ win0_7.index t (2 : Fin 3) = 0 :=
  (by decide +kernel : ∀ t : Fin grid0.N, _)

/-- Every point writes its block back. -/
theorem flushes : ∀ t : Fin cfg0.N, (cfg0.win 7).flush t = true := (by decide +kernel : ∀ t : Fin grid0.N, win0_7.flush t = true)

/-- The grid has 32 points. -/
theorem points : cfg0.N = 32 := N_0

/-- The sequence and the token of row `r` of a point's block. -/
abbrev tok (t : Fin cfg0.N) (r : Fin 1024) : Fin 4096 := ⟨t.val % 4 * 1024 + r, by omega⟩
/-- The sequence of a point's block. -/
abbrev sq (t : Fin cfg0.N) : Fin 8 := ⟨t.val / 4, by have := t.isLt; have := points; omega⟩

/-- Dropping the leading axis of extent one of a weight matrix, read at an index. -/
theorem drop_square (X : Vec Ideal S1x1024x1024 .f32) (k d : Fin 1024) :
    (truncf (F := Ideal) .bf16 (shapeCast S1024x1024 X shapeCasts_S1x1024x1024_S1024x1024) bitsLt_bf16_f32) (ix2 k d) = X (ix3 0 k d) := by
  pointwise

/-- The same for the first weights of the network. -/
theorem drop_wide (X : Vec Ideal S1x1024x4096 .f32) (k : Fin 1024) (f : Fin 4096) :
    (truncf (F := Ideal) .bf16 (shapeCast S1024x4096 X shapeCasts_S1x1024x4096_S1024x4096) bitsLt_bf16_f32) (ix2 k f) = X (ix3 0 k f) := by
  pointwise

/-- The same for the second weights of the network. -/
theorem drop_tall (X : Vec Ideal S1x4096x1024 .f32) (f : Fin 4096) (d : Fin 1024) :
    (truncf (F := Ideal) .bf16 (shapeCast S4096x1024 X shapeCasts_S1x4096x1024_S4096x1024) bitsLt_bf16_f32) (ix2 f d) = X (ix3 0 f d) := by
  pointwise

/-- A point's block of the transposed head outputs. -/
theorem y_blk (c : Dev nD) (t : Fin cfg0.N) (k r : Fin 1024) :
    (iblk m c 0 t : Vec Ideal S1x1024x1024 .bf16) (ix3 0 k r) =
      (m ((c : Thread nD τ).loc main_arg0) : Vec Ideal S8x4096x1024 .f32) (ix3 (sq t) (tok t r) k) := by
  obtain ⟨h0, h1, h2, -⟩ := idx_facts t
  have hV : (V m c main_v1 : Vec Ideal S8x1024x4096 .bf16) =
      truncf (F := Ideal) .bf16 (transpose S8x1024x4096 [0, 2, 1] (m ((c : Thread nD τ).loc main_arg0) : Vec Ideal S8x4096x1024 .f32)
        transposes_S8x4096x1024_S8x1024x4096_0_2_1) bitsLt_bf16_f32 := by
    unfold V; after_results
  have e : ((cfg0.win 0).blk t).view.emb (ix3 0 k r) = (ix3 (sq t) k (tok t r) : S8x1024x4096.Idx) := by
    funext a; apply Fin.ext
    refine (Pipeline.Window.rect_emb_val win0_0 t (ix3 0 k r) a).trans ?_
    fin_cases a
    · show win0_0.index t (0 : Fin 3) * 1 + 0 = t.val / 4; omega
    · show win0_0.index t (1 : Fin 3) * 1024 + k.val = k.val; omega
    · show win0_0.index t (2 : Fin 3) * 1024 + r.val = t.val % 4 * 1024 + r.val; omega
  show (V m c main_v1 : Vec Ideal S8x1024x4096 .bf16) (((cfg0.win 0).blk t).view.emb (ix3 0 k r)) = _
  rw [e, hV]
  pointwise

/-- A point's block of the layer's input. -/
theorem x_blk (c : Dev nD) (t : Fin cfg0.N) (k r : Fin 1024) :
    (iblk m c 1 t : Vec Ideal S1x1024x1024 .f32) (ix3 0 r k) =
      (m ((c : Thread nD τ).loc main_arg1) : Vec Ideal S8x4096x1024 .f32) (ix3 (sq t) (tok t r) k) := by
  obtain ⟨-, -, -, h0, h1, h2, -⟩ := idx_facts t
  have e : ((cfg0.win 1).blk t).view.emb (ix3 0 r k) = (ix3 (sq t) (tok t r) k : S8x4096x1024.Idx) := by
    funext a; apply Fin.ext
    refine (Pipeline.Window.rect_emb_val win0_1 t (ix3 0 r k) a).trans ?_
    fin_cases a
    · show win0_1.index t (0 : Fin 3) * 1 + 0 = t.val / 4; omega
    · show win0_1.index t (1 : Fin 3) * 1024 + r.val = t.val % 4 * 1024 + r.val; omega
    · show win0_1.index t (2 : Fin 3) * 1024 + k.val = k.val; omega
  show (V m c main_arg1 : Vec Ideal S8x4096x1024 .f32) (((cfg0.win 1).blk t).view.emb (ix3 0 r k)) = _
  rw [e, V_main_arg1]

/-- The output projection as every point finds it. -/
theorem wo_blk (c : Dev nD) (t : Fin cfg0.N) (k d : Fin 1024) :
    (iblk m c 2 t : Vec Ideal S1024x1024 .bf16) (ix2 k d) =
      (m ((c : Thread nD τ).loc main_arg2) : Vec Ideal S1x1024x1024 .f32) (ix3 0 k d) := by
  obtain ⟨-, -, -, -, -, -, h0, h1, -⟩ := idx_facts t
  have hV : (V m c main_v3 : Vec Ideal S1024x1024 .bf16) =
      truncf (F := Ideal) .bf16 (shapeCast S1024x1024 (m ((c : Thread nD τ).loc main_arg2) : Vec Ideal S1x1024x1024 .f32)
        shapeCasts_S1x1024x1024_S1024x1024) bitsLt_bf16_f32 := by
    unfold V; after_results; rfl
  show (V m c main_v3 : Vec Ideal S1024x1024 .bf16) (((cfg0.win 2).blk t).view.emb (ix2 k d)) = _
  have e : ((cfg0.win 2).blk t).view.emb (ix2 k d) = (ix2 k d : S1024x1024.Idx) := by
    funext a; apply Fin.ext
    refine (Pipeline.Window.rect_emb_val win0_2 t (ix2 k d) a).trans ?_
    fin_cases a
    · show win0_2.index t (0 : Fin 2) * 1024 + k.val = k.val; omega
    · show win0_2.index t (1 : Fin 2) * 1024 + d.val = d.val; omega
  rw [e, hV]
  exact drop_square _ _ _

/-- The second norm's gain as every point finds it. -/
theorem g2_blk (c : Dev nD) (t : Fin cfg0.N) (k : Fin 1024) :
    (iblk m c 3 t : Vec Ideal S1x1024 .f32) (ix2 0 k) =
      (m ((c : Thread nD τ).loc main_arg3) : Vec Ideal S1x1024 .f32) (ix2 0 k) := by
  obtain ⟨-, -, -, -, -, -, -, -, h0, h1, -⟩ := idx_facts t
  have hV : (V m c main_v5 : Vec Ideal S1x1024 .f32) =
      shapeCast S1x1024 (shapeCast S1024 (m ((c : Thread nD τ).loc main_arg3) : Vec Ideal S1x1024 .f32)
        shapeCasts_S1x1024_S1024) shapeCasts_S1024_S1x1024 := by
    unfold V; after_results; rfl
  show (V m c main_v5 : Vec Ideal S1x1024 .f32) (((cfg0.win 3).blk t).view.emb (ix2 0 k)) = _
  have e : ((cfg0.win 3).blk t).view.emb (ix2 0 k) = (ix2 0 k : S1x1024.Idx) := by
    funext a; apply Fin.ext
    refine (Pipeline.Window.rect_emb_val win0_3 t (ix2 0 k) a).trans ?_
    fin_cases a
    · show win0_3.index t (0 : Fin 2) * 1 + 0 = 0; omega
    · show win0_3.index t (1 : Fin 2) * 1024 + k.val = k.val; omega
  rw [e, hV]
  pointwise

/-- The first weights of the network as every point finds them. -/
theorem w1_blk (c : Dev nD) (t : Fin cfg0.N) (k : Fin 1024) (f : Fin 4096) :
    (iblk m c 4 t : Vec Ideal S1024x4096 .bf16) (ix2 k f) =
      (m ((c : Thread nD τ).loc main_arg4) : Vec Ideal S1x1024x4096 .f32) (ix3 0 k f) := by
  obtain ⟨-, -, -, -, -, -, -, -, -, -, h0, h1, -⟩ := idx_facts t
  have hV : (V m c main_v7 : Vec Ideal S1024x4096 .bf16) =
      truncf (F := Ideal) .bf16 (shapeCast S1024x4096 (m ((c : Thread nD τ).loc main_arg4) : Vec Ideal S1x1024x4096 .f32)
        shapeCasts_S1x1024x4096_S1024x4096) bitsLt_bf16_f32 := by
    unfold V; after_results; rfl
  show (V m c main_v7 : Vec Ideal S1024x4096 .bf16) (((cfg0.win 4).blk t).view.emb (ix2 k f)) = _
  have e : ((cfg0.win 4).blk t).view.emb (ix2 k f) = (ix2 k f : S1024x4096.Idx) := by
    funext a; apply Fin.ext
    refine (Pipeline.Window.rect_emb_val win0_4 t (ix2 k f) a).trans ?_
    fin_cases a
    · show win0_4.index t (0 : Fin 2) * 1024 + k.val = k.val; omega
    · show win0_4.index t (1 : Fin 2) * 4096 + f.val = f.val; omega
  rw [e, hV]
  exact drop_wide _ _ _

/-- The second weights of the network as every point finds them. -/
theorem w2_blk (c : Dev nD) (t : Fin cfg0.N) (f : Fin 4096) (d : Fin 1024) :
    (iblk m c 5 t : Vec Ideal S4096x1024 .bf16) (ix2 f d) =
      (m ((c : Thread nD τ).loc main_arg5) : Vec Ideal S1x4096x1024 .f32) (ix3 0 f d) := by
  obtain ⟨-, -, -, -, -, -, -, -, -, -, -, -, h0, h1, -⟩ := idx_facts t
  have hV : (V m c main_v9 : Vec Ideal S4096x1024 .bf16) =
      truncf (F := Ideal) .bf16 (shapeCast S4096x1024 (m ((c : Thread nD τ).loc main_arg5) : Vec Ideal S1x4096x1024 .f32)
        shapeCasts_S1x4096x1024_S4096x1024) bitsLt_bf16_f32 := by
    unfold V; after_results; rfl
  show (V m c main_v9 : Vec Ideal S4096x1024 .bf16) (((cfg0.win 5).blk t).view.emb (ix2 f d)) = _
  have e : ((cfg0.win 5).blk t).view.emb (ix2 f d) = (ix2 f d : S4096x1024.Idx) := by
    funext a; apply Fin.ext
    refine (Pipeline.Window.rect_emb_val win0_5 t (ix2 f d) a).trans ?_
    fin_cases a
    · show win0_5.index t (0 : Fin 2) * 4096 + f.val = f.val; omega
    · show win0_5.index t (1 : Fin 2) * 1024 + d.val = d.val; omega
  rw [e, hV]
  exact drop_tall _ _ _

/-- The final norm's gain as every point finds it. -/
theorem gf_blk (c : Dev nD) (t : Fin cfg0.N) (k : Fin 1024) :
    (iblk m c 6 t : Vec Ideal S1x1024 .f32) (ix2 0 k) =
      (m ((c : Thread nD τ).loc main_arg6) : Vec Ideal S1024 .f32) (ix1 k) := by
  obtain ⟨-, -, -, -, -, -, -, -, -, -, -, -, -, -, h0, h1, -⟩ := idx_facts t
  have hV : (V m c main_v10 : Vec Ideal S1x1024 .f32) =
      shapeCast S1x1024 (m ((c : Thread nD τ).loc main_arg6) : Vec Ideal S1024 .f32) shapeCasts_S1024_S1x1024 := by
    unfold V; after_results; rfl
  show (V m c main_v10 : Vec Ideal S1x1024 .f32) (((cfg0.win 6).blk t).view.emb (ix2 0 k)) = _
  have e : ((cfg0.win 6).blk t).view.emb (ix2 0 k) = (ix2 0 k : S1x1024.Idx) := by
    funext a; apply Fin.ext
    refine (Pipeline.Window.rect_emb_val win0_6 t (ix2 0 k) a).trans ?_
    fin_cases a
    · show win0_6.index t (0 : Fin 2) * 1 + 0 = 0; omega
    · show win0_6.index t (1 : Fin 2) * 1024 + k.val = k.val; omega
  rw [e, hV]
  pointwise

/-- The array the call ends with, as a function of the argument arrays. -/
def result (c : Dev nD) : Vec Ideal S8x4096x1024 .f32 := fun i =>
  Ffn.row (fun k => (m ((c : Thread nD τ).loc main_arg0) : Vec Ideal S8x4096x1024 .f32) (ix3 (i 0) (i 1) k))
    (fun k => (m ((c : Thread nD τ).loc main_arg1) : Vec Ideal S8x4096x1024 .f32) (ix3 (i 0) (i 1) k))
    (fun k d => (m ((c : Thread nD τ).loc main_arg2) : Vec Ideal S1x1024x1024 .f32) (ix3 0 k d))
    (fun k => (m ((c : Thread nD τ).loc main_arg3) : Vec Ideal S1x1024 .f32) (ix2 0 k))
    (fun k f => (m ((c : Thread nD τ).loc main_arg4) : Vec Ideal S1x1024x4096 .f32) (ix3 0 k f))
    (fun f k => (m ((c : Thread nD τ).loc main_arg5) : Vec Ideal S1x4096x1024 .f32) (ix3 0 f k))
    (fun k => (m ((c : Thread nD τ).loc main_arg6) : Vec Ideal S1024 .f32) (ix1 k)) (i 2)

/-- What point `t` writes back is its block of `result`. -/
theorem flushed_eq (c : Dev nD) (t : Fin cfg0.N) (r d : Fin 1024) :
    outsAt0 m c t (ix3 0 r d) = result m c (ix3 (sq t) (tok t r) d) := by
  rw [FfnBlock.outs]
  show Ffn.row (fun k => (iblk m c 0 t : Vec Ideal S1x1024x1024 .bf16) (ix3 0 k r)) (fun k => (iblk m c 1 t : Vec Ideal S1x1024x1024 .f32) (ix3 0 r k))
    (fun k d => (iblk m c 2 t : Vec Ideal S1024x1024 .bf16) (ix2 k d)) (fun k => (iblk m c 3 t : Vec Ideal S1x1024 .f32) (ix2 0 k))
    (fun k f => (iblk m c 4 t : Vec Ideal S1024x4096 .bf16) (ix2 k f)) (fun f k => (iblk m c 5 t : Vec Ideal S4096x1024 .bf16) (ix2 f k))
    (fun k => (iblk m c 6 t : Vec Ideal S1x1024 .f32) (ix2 0 k)) d = _
  simp only [y_blk, x_blk, wo_blk, g2_blk, w1_blk, w2_blk, gf_blk]
  rfl

/-- An index of the result lies in the block of a point. -/
theorem mem_blk (t : Fin cfg0.N) (i : S8x4096x1024.Idx) (h0 : (i 0).val = t.val / 4)
    (h1 : t.val % 4 * 1024 ≤ (i 1).val) (h1' : (i 1).val < t.val % 4 * 1024 + 1024) :
    i ∈ ((cfg0.win 7).blk t).view.set := by
  obtain ⟨-, -, -, -, -, -, -, -, -, -, -, -, -, -, -, -, e0, e1, e2⟩ := idx_facts t
  show i ∈ ((View.whole main_v11).slice (win0_7.rect t)).set
  rw [View.set_slice_whole, Rect.mem_set_unit]
  intro a
  fin_cases a
  · show win0_7.index t (0 : Fin 3) * 1 ≤ (i 0).val ∧ (i 0).val < win0_7.index t (0 : Fin 3) * 1 + 1; omega
  · show win0_7.index t (1 : Fin 3) * 1024 ≤ (i 1).val ∧ (i 1).val < win0_7.index t (1 : Fin 3) * 1024 + 1024; omega
  · have := (i 2).isLt
    show win0_7.index t (2 : Fin 3) * 1024 ≤ (i 2).val ∧ (i 2).val < win0_7.index t (2 : Fin 3) * 1024 + 1024
    have h : (i 2).val < 1024 := this
    omega

/-- Where an index of a block of the result lies in the array. -/
theorem out_emb (t : Fin cfg0.N) (r d : Fin 1024) :
    ((cfg0.win 7).blk t).view.emb (ix3 0 r d) = (ix3 (sq t) (tok t r) d : S8x4096x1024.Idx) := by
  obtain ⟨-, -, -, -, -, -, -, -, -, -, -, -, -, -, -, -, e0, e1, e2⟩ := idx_facts t
  funext a; apply Fin.ext
  refine (Pipeline.Window.rect_emb_val win0_7 t (ix3 0 r d) a).trans ?_
  fin_cases a
  · show win0_7.index t (0 : Fin 3) * 1 + 0 = t.val / 4; omega
  · show win0_7.index t (1 : Fin 3) * 1024 + r.val = t.val % 4 * 1024 + r.val; omega
  · show win0_7.index t (2 : Fin 3) * 1024 + d.val = d.val; omega

/-- The array the call ends with. -/
theorem arr_eq (c : Dev nD) : (dats m 0 c).arrAt 7 cfg0.N = result m c := by
  refine (dats m 0 c).arrAt_eq_of_cover 7 (result m c) ?_ ?_
  · intro t _
    rw [flushed7 m c t]
    funext y
    obtain ⟨r, d, rfl⟩ : ∃ (r d : Fin 1024), y = ix3 0 r d := by
      refine ⟨y 1, y 2, ?_⟩
      refine (eq_ix3 y).trans ?_
      congr 1
      exact Subsingleton.elim (α := Fin 1) _ _
    refine (flushed_eq m c t r d).trans ?_
    show _ = result m c (((cfg0.win 7).blk t).view.emb (ix3 0 r d))
    rw [out_emb]
  · intro i
    have h0 : (i 0).val < 8 := (i 0).isLt
    have h1 : (i 1).val < 4096 := (i 1).isLt
    refine ⟨⟨(i 0).val * 4 + (i 1).val / 1024, by rw [points]; omega⟩, flushes _, mem_blk _ i ?_ ?_ ?_⟩ <;> dsimp only <;> omega

end Cert.FfnKernel
-- ==== Proof.FfnReference.lean ====
/-
  The reference of the third call, read at one index: the same formula of the argument arrays, `Cert.Ffn.row`.
-/
module

public import proofs.«01_k».proof.Proof.FfnSpec
public import proofs.«01_k».proof.Proof.Gen.Reference2Ideal.Read
public import Idealize.ShloMosaic.Lib.Pointwise

@[expose] public section

set_option maxRecDepth 16384

noncomputable section

namespace Cert.FfnReference

open Cert.Reference2Ideal Cert.Reference2Ideal.Gen Cert.Reference2Ideal.Read Idealize.ShloMosaic Idealize.ShloMosaic.TcCoe

variable (y x : Vec Ideal S8x4096x1024 .f32) (wo : Vec Ideal S1x1024x1024 .f32) (g2 : Vec Ideal S1x1024 .f32)
  (w1 : Vec Ideal S1x1024x4096 .f32) (w2 : Vec Ideal S1x4096x1024 .f32) (gf : Vec Ideal S1024 .f32)

/-- The residual stream after the output projection. -/
theorem hidden_apply (b : Fin 8) (t : Fin 4096) (d : Fin 1024) :
    val_main_v2 (F := Ideal) y x wo (ix3 b t d) =
      Ffn.hidden (fun k => y (ix3 b t k)) (fun k => x (ix3 b t k)) (fun k d => wo (ix3 0 k d)) d := by
  unfold val_main_v2 val_main_v1 val_main_v0
  pointwise [Ffn.hidden]

/-- The norm before the feed-forward network. -/
theorem norm_apply (b : Fin 8) (t : Fin 4096) (d : Fin 1024) :
    val_main_v16 (F := Ideal) y x wo g2 (ix3 b t d) =
      Ffn.rms (Ffn.hidden (fun k => y (ix3 b t k)) (fun k => x (ix3 b t k)) (fun k d => wo (ix3 0 k d))) (fun k => g2 (ix2 0 k)) d := by
  have h : Ffn.hidden (fun k => y (ix3 b t k)) (fun k => x (ix3 b t k)) (fun k d => wo (ix3 0 k d)) =
      fun d => val_main_v2 (F := Ideal) y x wo (ix3 b t d) := funext fun d => (hidden_apply y x wo b t d).symm
  rw [h]
  unfold val_main_v16 val_main_v15 val_main_v14 val_main_v13 val_main_v12 val_main_v11 val_main_v10 val_main_v9 val_main_v8 val_main_v7 val_main_v6
    val_main_v5 val_main_v4 val_main_v3 val_main_cst val_main_cst_0 val_main_cst_1
  generalize val_main_v2 (F := Ideal) y x wo = z
  pointwise [Ffn.rms, Ffn.width, Ffn.eps]

/-- A hidden unit. -/
theorem unit_apply (b : Fin 8) (t f : Fin 4096) :
    val_main_v20 (F := Ideal) y x wo g2 w1 (ix3 b t f) =
      Ffn.unit (Ffn.rms (Ffn.hidden (fun k => y (ix3 b t k)) (fun k => x (ix3 b t k)) (fun k d => wo (ix3 0 k d))) (fun k => g2 (ix2 0 k)))
        (fun k => w1 (ix3 0 k f)) := by
  rw [show Ffn.rms (Ffn.hidden (fun k => y (ix3 b t k)) (fun k => x (ix3 b t k)) (fun k d => wo (ix3 0 k d))) (fun k => g2 (ix2 0 k)) =
      fun d => val_main_v16 (F := Ideal) y x wo g2 (ix3 b t d) from funext fun d => (norm_apply y x wo g2 b t d).symm]
  unfold val_main_v20 val_main_v19 val_main_v18 val_main_v17 val_main_call0_v0 val_main_call0_cst
  generalize val_main_v16 (F := Ideal) y x wo g2 = z
  pointwise [Ffn.unit]

/-- The stream after the feed-forward network. -/
theorem mlp_apply (b : Fin 8) (t : Fin 4096) (d : Fin 1024) :
    val_main_v23 (F := Ideal) y x wo g2 w1 w2 (ix3 b t d) =
      Ffn.mlp (Ffn.hidden (fun k => y (ix3 b t k)) (fun k => x (ix3 b t k)) (fun k d => wo (ix3 0 k d)))
        (Ffn.rms (Ffn.hidden (fun k => y (ix3 b t k)) (fun k => x (ix3 b t k)) (fun k d => wo (ix3 0 k d))) (fun k => g2 (ix2 0 k)))
        (fun k f => w1 (ix3 0 k f)) (fun f k => w2 (ix3 0 f k)) d := by
  unfold Ffn.mlp
  rw [← hidden_apply y x wo b t d]
  simp only [← unit_apply y x wo g2 w1 b t]
  unfold val_main_v23 val_main_v22 val_main_v21
  generalize val_main_v2 (F := Ideal) y x wo = z
  generalize val_main_v20 (F := Ideal) y x wo g2 w1 = u
  pointwise

/-- The reference's result at one index. -/
theorem result_apply (b : Fin 8) (t : Fin 4096) (d : Fin 1024) :
    val_main_v36 (F := Ideal) y x wo g2 w1 w2 gf (ix3 b t d) =
      Ffn.row (fun k => y (ix3 b t k)) (fun k => x (ix3 b t k)) (fun k d => wo (ix3 0 k d)) (fun k => g2 (ix2 0 k))
        (fun k f => w1 (ix3 0 k f)) (fun f k => w2 (ix3 0 f k)) (fun k => gf (ix1 k)) d := by
  unfold Ffn.row
  rw [show Ffn.mlp _ _ _ _ = fun d => val_main_v23 (F := Ideal) y x wo g2 w1 w2 (ix3 b t d) from
    funext fun d => (mlp_apply y x wo g2 w1 w2 b t d).symm]
  unfold val_main_v36 val_main_v35 val_main_v34 val_main_v33 val_main_v32 val_main_v31 val_main_v30 val_main_v29 val_main_v28 val_main_v27 val_main_v26
    val_main_v25 val_main_v24 val_main_cst_2 val_main_cst_3 val_main_cst_4
  generalize val_main_v23 (F := Ideal) y x wo g2 w1 w2 = z
  pointwise [Ffn.rms, Ffn.width, Ffn.eps]

end Cert.FfnReference
-- ==== Proof.FfnClaim.lean ====
/-
  The value claim of the third call: kernel and reference end with the same array, index by index.
-/
module

public import proofs.«01_k».proof.Defs
public import proofs.«01_k».proof.Proof.FfnKernel
public import proofs.«01_k».proof.Proof.FfnReference
public import proofs.«01_k».proof.Proof.Gen.Reference2Ideal.Run

@[expose] public section

set_option maxRecDepth 16384

noncomputable section

namespace Cert.FfnClaim

open Idealize.ShloMosaic Idealize.ShloMosaic.TcCoe Idealize.SL.Sem

/-- From memories that agree on the arguments, the reference's array is the kernel's. -/
theorem reference_eq
    (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Value.res_main_v36 m' c = FfnKernel.result m c := by
  refine (Cert.Reference2Ideal.Read.val_main_v36_eq m' c).trans ?_
  rw [e0, e1, e2, e3, e4, e5, e6]
  funext i
  exact (congrArg _ (eq_ix3 i)).trans (FfnReference.result_apply _ _ _ _ _ _ _ (i 0) (i 1) (i 2))

/-- The output projection and the feed-forward network compute the reference's result. -/
theorem claim : Cert.algebraic_Kernel2Ideal_Reference2Ideal (hKernel2Ideal := Cert.Kernel2Ideal.Gen.facts)
    (hReference2Ideal := Cert.Reference2Ideal.Gen.facts) := by
  intro m g m' g' _ hagree
  refine ⟨fun c => FfnKernel.result m c, ?_, ?_⟩
  · refine (θ_run _ _ _).mono (fun r h c => ?_) (Cert.Kernel2Ideal.Value.run_blocks m g)
    exact ⟨(h c).1.trans (FfnKernel.arr_eq m c), (h c).2⟩
  · refine (θ_run _ _ _).mono (fun r h c => ?_) (Cert.Reference2Ideal.Value.run m' g')
    obtain ⟨e0, e1, e2, e3, e4, e5, e6⟩ := hagree c
    exact ⟨(h c).1.trans (reference_eq m m' c e0 e1 e2 e3 e4 e5 e6), (h c).2⟩

end Cert.FfnClaim
-- ==== Proof.lean ====
/-
  The claims of the norm with the input projection (`Kernel0`), of the attention (`Kernel`) and of the output
  projection with the feed-forward network (`Kernel2`), put together: the frames are the generated ones, the references' frames are read off their runs,
  the two named constants are within their rule, and the value claims are proved in the modules imported last.
-/
module

public import proofs.«01_k».proof.Defs
public import proofs.«01_k».proof.Proof.Gen.Kernel0
public import proofs.«01_k».proof.Proof.Gen.Kernel0.Skeleton
public import proofs.«01_k».proof.Proof.Gen.Kernel0.Launch
public import proofs.«01_k».proof.Proof.Gen.Kernel0.Points
public import proofs.«01_k».proof.Proof.Gen.Kernel0.Frame
public import proofs.«01_k».proof.Proof.Gen.Kernel0Ideal
public import proofs.«01_k».proof.Proof.Gen.Kernel0Ideal.Skeleton
public import proofs.«01_k».proof.Proof.Gen.Kernel0Ideal.Launch
public import proofs.«01_k».proof.Proof.Gen.Kernel0Ideal.Points
public import proofs.«01_k».proof.Proof.Gen.Kernel0Ideal.Frame
public import proofs.«01_k».proof.Proof.Gen.Kernel0Ideal.Value
public import proofs.«01_k».proof.Proof.Gen.Reference0Ideal
public import proofs.«01_k».proof.Proof.Gen.Reference0Ideal.Run
public import proofs.«01_k».proof.Proof.Gen.Reference0Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import Idealize.ShloMosaic.Adequacy
public import Idealize.ShloMosaic.Init
public import proofs.«01_k».proof.Proof.ProjClaim
public import proofs.«01_k».proof.Proof.AttnClaim
public import proofs.«01_k».proof.Proof.FfnClaim

@[expose] public section

noncomputable section

namespace Cert.Proof

open Idealize.ShloMosaic Idealize.SL.Sem

/-- The projection's reference leaves its arguments alone; it has no semaphore. -/
theorem frame_reference0 : Cert.quiescent_Reference0Ideal := fun m ρ _ =>
  (θ_run Cert.Reference0Ideal.defs _ _).mono (fun r h => ⟨fun c => (h c).2.2, sem_eq_zero_of_no_sems (by decide) r.2⟩)
    (Cert.Reference0Ideal.Value.run (F := Ideal) m ρ)

/-- The attention's reference leaves its arguments alone; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward reference leaves its arguments alone; it has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two named constants of the attention: the mask's −∞ and 1 / log 2. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- Every claim of the certificate. -/
theorem claim : Cert.Claim := ⟨Cert.Kernel0.Gen.facts, Cert.Kernel0Ideal.Gen.facts, Cert.Reference0Ideal.Gen.facts,
  Cert.Kernel.Gen.facts, Cert.KernelIdeal.Gen.facts, Cert.ReferenceIdeal.Gen.facts,
  Cert.Kernel2.Gen.facts, Cert.Kernel2Ideal.Gen.facts, Cert.Reference2Ideal.Gen.facts, AttnClaim.finite_facts,
  fun m ρ _ => Cert.Kernel0.Gen.frame m ρ, fun m ρ _ => Cert.Kernel0Ideal.Gen.frame m ρ, frame_reference0,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  trivial, ProjClaim.claim, preserves, AttnClaim.claim, trivial, FfnClaim.claim⟩

end Cert.Proof

end
